-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v41_0)) (v1 : (c : Dev Cert.Kernel4Ideal.nD) → Buf (Elt Ideal) ((c.tc : Thread Cert.Kernel4Ideal.nD Cert.Kernel4Ideal.τ).loc Cert.Kernel4Ideal.main_v41_1)) (v2 : (c : Dev Cert.Kernel4Ideal.nD) → Buf (Elt Ideal) ((c.tc : Thread Cert.Kernel4Ideal.nD Cert.Kernel4Ideal.τ).loc Cert.Kernel4Ideal.main_v41_2)) (v3 : (c : Dev Cert.Kernel4Ideal.nD) → Buf (Elt Ideal) ((c.tc : Thread Cert.Kernel4Ideal.nD Cert.Kernel4Ideal.τ).loc Cert.Kernel4Ideal.main_v41_3)) (v4 : (c : Dev Cert.Kernel4Ideal.nD) → Buf (Elt Ideal) ((c.tc : Thread Cert.Kernel4Ideal.nD Cert.Kernel4Ideal.τ).loc Cert.Kernel4Ideal.main_v41_4)) (v5 : (c : Dev Cert.Kernel4Ideal.nD) → Buf (Elt Ideal) ((c.tc : Thread Cert.Kernel4Ideal.nD Cert.Kernel4Ideal.τ).loc Cert.Kernel4Ideal.main_v41_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v41_0) = v0 c
          ∧ r.2.mem ((c.tc : Thread Cert.Kernel4Ideal.nD Cert.Kernel4Ideal.τ).loc Cert.Kernel4Ideal.main_v41_1) = v1 c
          ∧ r.2.mem ((c.tc : Thread Cert.Kernel4Ideal.nD Cert.Kernel4Ideal.τ).loc Cert.Kernel4Ideal.main_v41_2) = v2 c
          ∧ r.2.mem ((c.tc : Thread Cert.Kernel4Ideal.nD Cert.Kernel4Ideal.τ).loc Cert.Kernel4Ideal.main_v41_3) = v3 c
          ∧ r.2.mem ((c.tc : Thread Cert.Kernel4Ideal.nD Cert.Kernel4Ideal.τ).loc Cert.Kernel4Ideal.main_v41_4) = v4 c
          ∧ r.2.mem ((c.tc : Thread Cert.Kernel4Ideal.nD Cert.Kernel4Ideal.τ).loc Cert.Kernel4Ideal.main_v41_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v51) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_v53) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_router_finite.lean ====
abbrev S33280x1024 : Shape := ⟨2, ![33280, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S33280x1024 : S_.BroadcastsInDim S33280x1024 (![] : Fin 0 → Fin S33280x1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)

variable [Facts]

def fn {F : FTy → Type} [FloatOps F] (main_arg0 : FVec F S33280x1024 .f32) (main_arg1 : FVec F S1024x4 .f32) (main_arg2 : FVec F S4 .f32) (main_arg3 : FVec F S1024x16 .f32) (main_arg4 : FVec F S16 .f32) (main_arg5 : FVec F S16x1024x256 .f32) (main_arg6 : FVec F S16x1024x256 .f32) (main_arg7 : FVec F S16x256x1024 .f32) (main_arg8 : FVec F S1024 .f32) (main_arg9 : FVec F S1024 .f32) : IVec S33280x1024 1 × IVec S1024x4 1 × IVec S4 1 × IVec S1024x16 1 × IVec S16 1 :=
  let main_v0 : FVec F S33280x1024 .f32 := Host.absf main_arg0
  let main_cst : FVec F S_ .f32 := constant S_ .f32 0x7F800000#32
  let main_v1 : FVec F S33280x1024 .f32 := broadcastInDim S33280x1024 ![] bcast_S_S33280x1024 main_cst
  let main_v2 : IVec S33280x1024 1 := cmpf .olt main_v0 main_v1
  let main_v3 : FVec F S1024x4 .f32 := Host.absf main_arg1
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg2
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x16 .f32 := Host.absf main_arg3
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Kernel.lean ====
abbrev S33280x1024 : Shape := ⟨2, ![33280, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S4x4x1024x256 : Shape := ⟨4, ![4, 4, 1024, 256]⟩
abbrev S4x1024x4x256 : Shape := ⟨4, ![4, 1024, 4, 256]⟩
abbrev S4x1024x1024 : Shape := ⟨3, ![4, 1024, 1024]⟩
abbrev S1x1024 : Shape := ⟨2, ![1, 1024]⟩
abbrev S640x1024 : Shape := ⟨2, ![640, 1024]⟩
abbrev S1x1024x1024 : Shape := ⟨3, ![1, 1024, 1024]⟩
abbrev S640x128 : Shape := ⟨2, ![640, 128]⟩
abbrev S640 : Shape := ⟨1, ![640]⟩
abbrev S640x1 : Shape := ⟨2, ![640, 1]⟩
abbrev S1024x1024 : Shape := ⟨2, ![1024, 1024]⟩
abbrev S640x256 : Shape := ⟨2, ![640, 256]⟩

abbrev nBuf : Space → Nat
  | .hbm => 48
  | .vmem => 20
  | .smem => 0
  | _ => 0

abbrev bufTy : (tb : Table) → Fin (tcTables nBuf tb) → BufTy
  | .hbm, ⟨0, _⟩ => ⟨S33280x1024, .f32⟩
  | .hbm, ⟨1, _⟩ => ⟨S1024x4, .f32⟩
  | .hbm, ⟨2, _⟩ => ⟨S4, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S1024, .f32⟩
  | .hbm, ⟨10, _⟩ => ⟨S33280x1024, .bf16⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S4x4x1024x256, .f32⟩
  | .hbm, ⟨34, _⟩ => ⟨S4x1024x4x256, .f32⟩
  | .hbm, ⟨35, _⟩ => ⟨S4x1024x1024, .f32⟩
  | .hbm, ⟨36, _⟩ => ⟨S4x4x1024x256, .f32⟩
  | .hbm, ⟨37, _⟩ => ⟨S4x1024x4x256, .f32⟩
  | .hbm, ⟨38, _⟩ => ⟨S4x1024x1024, .f32⟩
  | .hbm, ⟨39, _⟩ => ⟨S4x1024x1024, .f32⟩
  | .hbm, ⟨40, _⟩ => ⟨S1024x128, .bf16⟩
  | .hbm, ⟨41, _⟩ => ⟨S4x1024x1024, .bf16⟩
  | .hbm, ⟨42, _⟩ => ⟨S4x1024x1024, .bf16⟩
  | .hbm, ⟨43, _⟩ => ⟨S4x1024x1024, .bf16⟩
  | .hbm, ⟨44, _⟩ => ⟨S1x1024, .f32⟩
  | .hbm, ⟨45, _⟩ => ⟨S1x1024, .f32⟩
  | .hbm, ⟨46, _⟩ => ⟨S33280x1024, .f32⟩
  | .hbm, ⟨47, _⟩ => ⟨S33280x1024, .bf16⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1024x128, .bf16⟩
  | .local _ .vmem, ⟨5, _⟩ => ⟨S1x128, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024, .f32⟩
  | .local _ .vmem, ⟨13, _⟩ => ⟨S1x1024, .f32⟩
  | .local _ .vmem, ⟨14, _⟩ => ⟨S640x1024, .f32⟩
  | .local _ .vmem, ⟨15, _⟩ => ⟨S640x1024, .f32⟩
  | .local _ .vmem, ⟨16, _⟩ => ⟨S640x1024, .bf16⟩
  | .local _ .vmem, ⟨17, _⟩ => ⟨S640x1024, .bf16⟩
  | .local _ .vmem, ⟨18, _⟩ => ⟨S640x128, .f32⟩
  | .local _ .vmem, ⟨19, _⟩ => ⟨S640x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![52, 4], ![false, false]⟩

def k0_cond2 (i : grid0.Coords) : BitVec 1 :=
  let arg1 : BitVec 32 := BitVec.ofNat 32 (i 1).val
  let c3_i32_38 : BitVec 32 := 3#32
  let v83 : BitVec 1 := Scalar.cmpi .eq arg1 c3_i32_38
  let v84 : BitVec 32 := Scalar.extui v83
  let c0_i32_39 : BitVec 32 := 0#32
  let v85 : BitVec 1 := Scalar.cmpi .ne v84 c0_i32_39
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S640x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S33280x1024 : Shape := ⟨2, ![33280, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S33280x4 : Shape := ⟨2, ![33280, 4]⟩
abbrev S1x4 : Shape := ⟨2, ![1, 4]⟩
abbrev S33280x1 : Shape := ⟨2, ![33280, 1]⟩
abbrev S33280 : Shape := ⟨1, ![33280]⟩
abbrev S_ : Shape := ⟨0, ![]⟩
abbrev S33280x1x1 : Shape := ⟨3, ![33280, 1, 1]⟩
abbrev S33280x16 : Shape := ⟨2, ![33280, 16]⟩
abbrev S1x16 : Shape := ⟨2, ![1, 16]⟩
abbrev S33280x4x4 : Shape := ⟨3, ![33280, 4, 4]⟩
abbrev S33280x1x4 : Shape := ⟨3, ![33280, 1, 4]⟩
abbrev S33280x2 : Shape := ⟨2, ![33280, 2]⟩
abbrev S33280x2x1 : Shape := ⟨3, ![33280, 2, 1]⟩
abbrev S1x1x16 : Shape := ⟨3, ![1, 1, 16]⟩
abbrev S33280x2x16 : Shape := ⟨3, ![33280, 2, 16]⟩
abbrev S33280x16x256 : Shape := ⟨3, ![33280, 16, 256]⟩
abbrev S16x33280 : Shape := ⟨2, ![16, 33280]⟩
abbrev S16x33280x1 : Shape := ⟨3, ![16, 33280, 1]⟩
abbrev S16x33280x1024 : Shape := ⟨3, ![16, 33280, 1024]⟩
abbrev S1x1024 : Shape := ⟨2, ![1, 1024]⟩

abbrev nBuf : Space → Nat
  | .hbm => 140
  | .vmem => 0
  | .smem => 0
  | _ => 0

abbrev hbmTy0_0 (i : Nat) : BufTy := match i % 128 with
  | 0 => ⟨S33280x1024, .f32⟩
  | 1 => ⟨S1024x4, .f32⟩
  | 2 => ⟨S4, .f32⟩
  | 3 => ⟨S1024x16, .f32⟩
  | 4 => ⟨S16, .f32⟩
  | 5 => ⟨S16x1024x256, .f32⟩
  | 6 => ⟨S16x1024x256, .f32⟩
  | 7 => ⟨S16x256x1024, .f32⟩
  | 8 => ⟨S1024, .f32⟩
  | 9 => ⟨S1024, .f32⟩
  | 10 => ⟨S33280x4, .f32⟩
  | 11 => ⟨S1x4, .f32⟩
  | 12 => ⟨S33280x4, .f32⟩
  | 13 => ⟨S33280x4, .f32⟩
  | 14 => ⟨S33280x1, .f32⟩
  | 15 => ⟨S33280x1, .i32⟩
  | 16 => ⟨S33280, .i32⟩
  | 17 => ⟨S_, .f32⟩
  | 18 => ⟨S33280, .f32⟩
  | 19 => ⟨S_, .f32⟩
  | 20 => ⟨S33280, .f32⟩
  | 21 => ⟨S33280, .f32⟩
  | 22 => ⟨S33280x1, .f32⟩
  | 23 => ⟨S33280x4, .f32⟩
  | 24 => ⟨S33280x4, .f32⟩
  | 25 => ⟨S33280x4, .f32⟩
  | 26 => ⟨S_, .f32⟩
  | 27 => ⟨S33280, .f32⟩
  | 28 => ⟨S33280x1, .f32⟩
  | 29 => ⟨S33280x4, .f32⟩
  | 30 => ⟨S33280x4, .f32⟩
  | 31 => ⟨S33280x1, .i32⟩
  | 32 => ⟨S_, .i32⟩
  | 33 => ⟨S33280x1, .i32⟩
  | 34 => ⟨S33280x1, .i1⟩
  | 35 => ⟨S_, .i32⟩
  | 36 => ⟨S33280x1, .i32⟩
  | 37 => ⟨S33280x1, .i32⟩
  | 38 => ⟨S33280x1, .i32⟩
  | 39 => ⟨S33280x1x1, .i32⟩
  | 40 => ⟨S33280x1, .f32⟩
  | 41 => ⟨S33280x16, .f32⟩
  | 42 => ⟨S1x16, .f32⟩
  | 43 => ⟨S33280x16, .f32⟩
  | 44 => ⟨S33280x16, .f32⟩
  | 45 => ⟨S33280x4x4, .f32⟩
  | 46 => ⟨S33280x1x1, .i32⟩
  | 47 => ⟨S_, .i32⟩
  | 48 => ⟨S33280x1x1, .i32⟩
  | 49 => ⟨S33280x1x1, .i1⟩
  | 50 => ⟨S_, .i32⟩
  | 51 => ⟨S33280x1x1, .i32⟩
  | 52 => ⟨S33280x1x1, .i32⟩
  | 53 => ⟨S33280x1x1, .i32⟩
  | 54 => ⟨S33280x1x4, .f32⟩
  | 55 => ⟨S33280x4, .f32⟩
  | 56 => ⟨S33280x2, .f32⟩
  | 57 => ⟨S33280x2, .i32⟩
  | 58 => ⟨S_, .f32⟩
  | 59 => ⟨S33280, .f32⟩
  | 60 => ⟨S_, .f32⟩
  | 61 => ⟨S33280, .f32⟩
  | 62 => ⟨S33280, .f32⟩
  | 63 => ⟨S33280x1, .f32⟩
  | 64 => ⟨S33280x2, .f32⟩
  | 65 => ⟨S33280x2, .f32⟩
  | 66 => ⟨S33280x2, .f32⟩
  | 67 => ⟨S_, .f32⟩
  | 68 => ⟨S33280, .f32⟩
  | 69 => ⟨S33280x1, .f32⟩
  | 70 => ⟨S33280x2, .f32⟩
  | 71 => ⟨S33280x2, .f32⟩
  | 72 => ⟨S33280x2, .f32⟩
  | 73 => ⟨S33280x2, .f32⟩
  | 74 => ⟨S33280x1, .i32⟩
  | 75 => ⟨S_, .i32⟩
  | 76 => ⟨S33280x1, .i32⟩
  | 77 => ⟨S33280x1, .i32⟩
  | 78 => ⟨S33280x2, .i32⟩
  | 79 => ⟨S33280x2, .i32⟩
  | 80 => ⟨S33280x2x1, .i32⟩
  | 81 => ⟨S1x1x16, .i32⟩
  | 82 => ⟨S33280x2x16, .i32⟩
  | 83 => ⟨S33280x2x16, .i32⟩
  | 84 => ⟨S33280x2x16, .i1⟩
  | 85 => ⟨S33280x2x16, .f32⟩
  | 86 => ⟨S33280x16, .f32⟩
  | 87 => ⟨S33280x16x256, .f32⟩
  | 88 => ⟨S33280x16x256, .f32⟩
  | 89 => ⟨S33280x16x256, .f32⟩
  | 90 => ⟨S_, .f32⟩
  | 91 => ⟨S33280x16x256, .f32⟩
  | 92 => ⟨S33280x16x256, .f32⟩
  | 93 => ⟨S_, .f32⟩
  | 94 => ⟨S33280x16x256, .f32⟩
  | 95 => ⟨S33280x16x256, .f32⟩
  | 96 => ⟨S33280x16x256, .f32⟩
  | 97 => ⟨S33280x16x256, .f32⟩
  | 98 => ⟨S33280x16x256, .f32⟩
  | 99 => ⟨S16x33280, .f32⟩
  | 100 => ⟨S16x33280x1, .f32⟩
  | 101 => ⟨S16x33280x1024, .f32⟩
  | 102 => ⟨S16x33280x1024, .f32⟩
  | 103 => ⟨S16x33280x1024, .f32⟩
  | 104 => ⟨S_, .f32⟩
  | 105 => ⟨S33280x1024, .f32⟩
  | 106 => ⟨S_, .f32⟩
  | 107 => ⟨S33280x1024, .f32⟩
  | 108 => ⟨S33280x1024, .f32⟩
  | 109 => ⟨S33280x1024, .f32⟩
  | 110 => ⟨S_, .f32⟩
  | 111 => ⟨S33280, .f32⟩
  | 112 => ⟨S33280x1, .f32⟩
  | 113 => ⟨S_, .f32⟩
  | 114 => ⟨S33280x1, .f32⟩
  | 115 => ⟨S33280x1, .f32⟩
  | 116 => ⟨S33280x1024, .f32⟩
  | 117 => ⟨S33280x1024, .f32⟩
  | 118 => ⟨S33280x1024, .f32⟩
  | 119 => ⟨S_, .f32⟩
  | 120 => ⟨S33280, .f32⟩
  | 121 => ⟨S33280x1, .f32⟩
  | 122 => ⟨S_, .f32⟩
  | 123 => ⟨S33280x1, .f32⟩
  | 124 => ⟨S33280x1, .f32⟩
  | 125 => ⟨S33280x1024, .f32⟩
  | 126 => ⟨S33280x1024, .f32⟩
  | 127 => ⟨S_, .f32⟩
  | _ => ⟨S33280x1024, .f32⟩

abbrev hbmTy0_1 (i : Nat) : BufTy := match i % 128 with
  | 0 => ⟨S33280x1, .f32⟩
  | 1 => ⟨S33280x1, .f32⟩
  | 2 => ⟨S33280x1, .f32⟩
  | 3 => ⟨S33280x1024, .f32⟩
  | 4 => ⟨S33280x1024, .f32⟩
  | 5 => ⟨S1x1024, .f32⟩
  | 6 => ⟨S33280x1024, .f32⟩
  | 7 => ⟨S33280x1024, .f32⟩
  | 8 => ⟨S1x1024, .f32⟩
  | 9 => ⟨S33280x1024, .f32⟩
  | 10 => ⟨S33280x1024, .f32⟩
  | 11 => ⟨S33280x1024, .bf16⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_values : Ref sig .tc := ⟨.hbm, 14, rfl⟩
abbrev main_indices : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v24 : Ref sig .tc := ⟨.hbm, 54, rfl⟩
abbrev main_v25 : Ref sig .tc := ⟨.hbm, 55, rfl⟩
abbrev main_values_2 : Ref sig .tc := ⟨.hbm, 56, rfl⟩
abbrev main_indices_3 : Ref sig .tc := ⟨.hbm, 57, rfl⟩
abbrev main_cst_4 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_7 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_9 : Ref sig .tc := ⟨.hbm, 110, rfl⟩
abbrev main_v59 : Ref sig .tc := ⟨.hbm, 111, rfl⟩
abbrev main_v60 : Ref sig .tc := ⟨.hbm, 112, rfl⟩
abbrev main_cst_10 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_11 : Ref sig .tc := ⟨.hbm, 119, rfl⟩
abbrev main_v66 : Ref sig .tc := ⟨.hbm, 120, rfl⟩
abbrev main_v67 : Ref sig .tc := ⟨.hbm, 121, rfl⟩
abbrev main_cst_12 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_cst_13 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩

abbrev nD : Nat := 1
abbrev τ : Topo := Topo.v7x

variable {F : FTy → Type} [FloatOps F]
-- ==== Kernel2.lean ====
abbrev S33280x1024 : Shape := ⟨2, ![33280, 1024]⟩
abbrev S1024x7616 : Shape := ⟨2, ![1024, 7616]⟩
abbrev S33280x256 : Shape := ⟨2, ![33280, 256]⟩
abbrev S4x256x1024 : Shape := ⟨3, ![4, 256, 1024]⟩
abbrev S1024x1024 : Shape := ⟨2, ![1024, 1024]⟩
abbrev S1024 : Shape := ⟨1, ![1024]⟩
abbrev S1024x128 : Shape := ⟨2, ![1024, 128]⟩
abbrev S1024x256 : Shape := ⟨2, ![1024, 256]⟩
abbrev S1024x16 : Shape := ⟨2, ![1024, 16]⟩
abbrev S1024x784 : Shape := ⟨2, ![1024, 784]⟩
abbrev S_ : Shape := ⟨0, ![]⟩
abbrev S1024x896 : Shape := ⟨2, ![1024, 896]⟩
abbrev S1024x32 : Shape := ⟨2, ![1024, 32]⟩
abbrev S1024x8 : Shape := ⟨2, ![1024, 8]⟩
abbrev S256x1024 : Shape := ⟨2, ![256, 1024]⟩
abbrev S8x1024 : Shape := ⟨2, ![8, 1024]⟩
abbrev S520x1024 : Shape := ⟨2, ![520, 1024]⟩
abbrev S528x1024 : Shape := ⟨2, ![528, 1024]⟩
abbrev S1024x160 : Shape := ⟨2, ![1024, 160]⟩
abbrev S1024x4 : Shape := ⟨2, ![1024, 4]⟩
abbrev S1024x1032 : Shape := ⟨2, ![1024, 1032]⟩
abbrev S1024x1152 : Shape := ⟨2, ![1024, 1152]⟩
abbrev S1024x4096 : Shape := ⟨2, ![1024, 4096]⟩
abbrev S1x1024 : Shape := ⟨2, ![1, 1024]⟩
abbrev S640x1024 : Shape := ⟨2, ![640, 1024]⟩
abbrev S640x256 : Shape := ⟨2, ![640, 256]⟩
abbrev S1x256x1024 : Shape := ⟨3, ![1, 256, 1024]⟩
abbrev S640 : Shape := ⟨1, ![640]⟩
abbrev S640x1 : Shape := ⟨2, ![640, 1]⟩

abbrev nBuf : Space → Nat
  | .hbm => 60
  | .vmem => 21
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S33280x256, .bf16⟩
  | .hbm, ⟨3, _⟩ => ⟨S33280x256, .bf16⟩
  | .hbm, ⟨4, _⟩ => ⟨S33280x256, .bf16⟩
  | .hbm, ⟨5, _⟩ => ⟨S33280x256, .bf16⟩
  | .hbm, ⟨6, _⟩ => ⟨S4x256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x128, .f32⟩
  | .hbm, ⟨12, _⟩ => ⟨S1024x128, .f32⟩
  | .hbm, ⟨13, _⟩ => ⟨S1024x256, .f32⟩
  | .hbm, ⟨14, _⟩ => ⟨S1024x16, .f32⟩
  | .hbm, ⟨15, _⟩ => ⟨S1024x256, .f32⟩
  | .hbm, ⟨16, _⟩ => ⟨S1024x784, .f32⟩
  | .hbm, ⟨17, _⟩ => ⟨S_, .i32⟩
  | .hbm, ⟨18, _⟩ => ⟨S_, .f32⟩
  | .hbm, ⟨19, _⟩ => ⟨S1024x896, .f32⟩
  | .hbm, ⟨20, _⟩ => ⟨S1024x256, .f32⟩
  | .hbm, ⟨21, _⟩ => ⟨S1024x128, .f32⟩
  | .hbm, ⟨22, _⟩ => ⟨S1024x256, .f32⟩
  | .hbm, ⟨23, _⟩ => ⟨S1024x32, .f32⟩
  | .hbm, ⟨24, _⟩ => ⟨S1024x8, .f32⟩
  | .hbm, ⟨25, _⟩ => ⟨S256x1024, .f32⟩
  | .hbm, ⟨26, _⟩ => ⟨S256x1024, .f32⟩
  | .hbm, ⟨27, _⟩ => ⟨S8x1024, .f32⟩
  | .hbm, ⟨28, _⟩ => ⟨S520x1024, .f32⟩
  | .hbm, ⟨29, _⟩ => ⟨S_, .i32⟩
  | .hbm, ⟨30, _⟩ => ⟨S_, .f32⟩
  | .hbm, ⟨31, _⟩ => ⟨S528x1024, .f32⟩
  | .hbm, ⟨32, _⟩ => ⟨S1024x160, .f32⟩
  | .hbm, ⟨33, _⟩ => ⟨S_, .i32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S1024x4, .f32⟩
  | .hbm, ⟨40, _⟩ => ⟨S1024x4, .f32⟩
  | .hbm, ⟨41, _⟩ => ⟨S1024x256, .f32⟩
  | .hbm, ⟨42, _⟩ => ⟨S1024x1032, .f32⟩
  | .hbm, ⟨43, _⟩ => ⟨S_, .i32⟩
  | .hbm, ⟨44, _⟩ => ⟨S_, .f32⟩
  | .hbm, ⟨45, _⟩ => ⟨S1024x1152, .f32⟩
  | .hbm, ⟨46, _⟩ => ⟨S1024x4096, .f32⟩
  | .hbm, ⟨47, _⟩ => ⟨S1024x1024, .bf16⟩
  | .hbm, ⟨48, _⟩ => ⟨S1024x896, .bf16⟩
  | .hbm, ⟨49, _⟩ => ⟨S528x1024, .bf16⟩
  | .hbm, ⟨50, _⟩ => ⟨S1024x256, .bf16⟩
  | .hbm, ⟨51, _⟩ => ⟨S1024x1152, .bf16⟩
  | .hbm, ⟨52, _⟩ => ⟨S1024x4096, .bf16⟩
  | .hbm, ⟨53, _⟩ => ⟨S33280x1024, .bf16⟩
  | .hbm, ⟨54, _⟩ => ⟨S4x256x1024, .bf16⟩
  | .hbm, ⟨55, _⟩ => ⟨S1024x1024, .bf16⟩
  | .hbm, ⟨56, _⟩ => ⟨S1x1024, .f32⟩
  | .hbm, ⟨57, _⟩ => ⟨S1x1024, .f32⟩
  | .hbm, ⟨58, _⟩ => ⟨S33280x1024, .f32⟩
  | .hbm, ⟨59, _⟩ => ⟨S33280x1024, .bf16⟩
  | .local _ .vmem, ⟨0, _⟩ => ⟨S640x1024, .f32⟩
  | .local _ .vmem, ⟨1, _⟩ => ⟨S640x1024, .f32⟩
  | .local _ .vmem, ⟨2, _⟩ => ⟨S640x1024, .bf16⟩
  | .local _ .vmem, ⟨3, _⟩ => ⟨S640x1024, .bf16⟩
  | .local _ .vmem, ⟨4, _⟩ => ⟨S1024x4096, .bf16⟩
  | .local _ .vmem, ⟨5, _⟩ => ⟨S640x256, .bf16⟩
  | .local _ .vmem, ⟨6, _⟩ => ⟨S640x256, .bf16⟩
  | .local _ .vmem, ⟨7, _⟩ => ⟨S640x256, .bf16⟩
  | .local _ .vmem, ⟨8, _⟩ => ⟨S640x256, .bf16⟩
  | .local _ .vmem, ⟨9, _⟩ => ⟨S640x256, .bf16⟩
  | .local _ .vmem, ⟨10, _⟩ => ⟨S640x256, .bf16⟩
  | .local _ .vmem, ⟨11, _⟩ => ⟨S640x256, .bf16⟩
  | .local _ .vmem, ⟨12, _⟩ => ⟨S640x256, .bf16⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S640x1024, .f32⟩
  | .local _ .vmem, ⟨18, _⟩ => ⟨S640x1024, .f32⟩
  | .local _ .vmem, ⟨19, _⟩ => ⟨S640x1024, .bf16⟩
  | .local _ .vmem, ⟨20, _⟩ => ⟨S640x1024, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_call2_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_call3_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S640x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S33280x1024 : Shape := ⟨2, ![33280, 1024]⟩
abbrev S1024x7616 : Shape := ⟨2, ![1024, 7616]⟩
abbrev S33280x256 : Shape := ⟨2, ![33280, 256]⟩
abbrev S4x256x1024 : Shape := ⟨3, ![4, 256, 1024]⟩
abbrev S1024x1024 : Shape := ⟨2, ![1024, 1024]⟩
abbrev S1024 : Shape := ⟨1, ![1024]⟩
abbrev S33280x7616 : Shape := ⟨2, ![33280, 7616]⟩
abbrev S33280x784 : Shape := ⟨2, ![33280, 784]⟩
abbrev S33280x680 : Shape := ⟨2, ![33280, 680]⟩
abbrev S33280x1032 : Shape := ⟨2, ![33280, 1032]⟩
abbrev S33280x4096 : Shape := ⟨2, ![33280, 4096]⟩
abbrev S_ : Shape := ⟨0, ![]⟩
abbrev S1x256x1024 : Shape := ⟨3, ![1, 256, 1024]⟩
abbrev S256x1024 : Shape := ⟨2, ![256, 1024]⟩
abbrev S33280 : Shape := ⟨1, ![33280]⟩
abbrev S33280x1 : Shape := ⟨2, ![33280, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S33280x256, .bf16⟩
  | .hbm, ⟨3, _⟩ => ⟨S33280x256, .bf16⟩
  | .hbm, ⟨4, _⟩ => ⟨S33280x256, .bf16⟩
  | .hbm, ⟨5, _⟩ => ⟨S33280x256, .bf16⟩
  | .hbm, ⟨6, _⟩ => ⟨S4x256x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S33280x7616, .f32⟩
  | .hbm, ⟨11, _⟩ => ⟨S33280x1024, .f32⟩
  | .hbm, ⟨12, _⟩ => ⟨S33280x784, .f32⟩
  | .hbm, ⟨13, _⟩ => ⟨S33280x680, .f32⟩
  | .hbm, ⟨14, _⟩ => ⟨S33280x1032, .f32⟩
  | .hbm, ⟨15, _⟩ => ⟨S33280x4096, .f32⟩
  | .hbm, ⟨16, _⟩ => ⟨S33280x4096, .f32⟩
  | .hbm, ⟨17, _⟩ => ⟨S33280x4096, .f32⟩
  | .hbm, ⟨18, _⟩ => ⟨S_, .f32⟩
  | .hbm, ⟨19, _⟩ => ⟨S33280x4096, .f32⟩
  | .hbm, ⟨20, _⟩ => ⟨S33280x4096, .f32⟩
  | .hbm, ⟨21, _⟩ => ⟨S_, .f32⟩
  | .hbm, ⟨22, _⟩ => ⟨S33280x4096, .f32⟩
  | .hbm, ⟨23, _⟩ => ⟨S33280x4096, .f32⟩
  | .hbm, ⟨24, _⟩ => ⟨S33280x1024, .f32⟩
  | .hbm, ⟨25, _⟩ => ⟨S33280x1024, .f32⟩
  | .hbm, ⟨26, _⟩ => ⟨S33280x1024, .f32⟩
  | .hbm, ⟨27, _⟩ => ⟨S33280x1024, .f32⟩
  | .hbm, ⟨28, _⟩ => ⟨S_, .f32⟩
  | .hbm, ⟨29, _⟩ => ⟨S33280x1024, .f32⟩
  | .hbm, ⟨30, _⟩ => ⟨S33280x256, .f32⟩
  | .hbm, ⟨31, _⟩ => ⟨S1x256x1024, .f32⟩
  | .hbm, ⟨32, _⟩ => ⟨S256x1024, .f32⟩
  | .hbm, ⟨33, _⟩ => ⟨S33280x1024, .f32⟩
  | .hbm, ⟨34, _⟩ => ⟨S33280x1024, .f32⟩
  | .hbm, ⟨35, _⟩ => ⟨S33280x1024, .f32⟩
  | .hbm, ⟨36, _⟩ => ⟨S33280x256, .f32⟩
  | .hbm, ⟨37, _⟩ => ⟨S1x256x1024, .f32⟩
  | .hbm, ⟨38, _⟩ => ⟨S256x1024, .f32⟩
  | .hbm, ⟨39, _⟩ => ⟨S33280x1024, .f32⟩
  | .hbm, ⟨40, _⟩ => ⟨S33280x1024, .f32⟩
  | .hbm, ⟨41, _⟩ => ⟨S33280x1024, .f32⟩
  | .hbm, ⟨42, _⟩ => ⟨S33280x256, .f32⟩
  | .hbm, ⟨43, _⟩ => ⟨S1x256x1024, .f32⟩
  | .hbm, ⟨44, _⟩ => ⟨S256x1024, .f32⟩
  | .hbm, ⟨45, _⟩ => ⟨S33280x1024, .f32⟩
  | .hbm, ⟨46, _⟩ => ⟨S33280x1024, .f32⟩
  | .hbm, ⟨47, _⟩ => ⟨S33280x1024, .f32⟩
  | .hbm, ⟨48, _⟩ => ⟨S33280x256, .f32⟩
  | .hbm, ⟨49, _⟩ => ⟨S1x256x1024, .f32⟩
  | .hbm, ⟨50, _⟩ => ⟨S256x1024, .f32⟩
  | .hbm, ⟨51, _⟩ => ⟨S33280x1024, .f32⟩
  | .hbm, ⟨52, _⟩ => ⟨S33280x1024, .f32⟩
  | .hbm, ⟨53, _⟩ => ⟨S33280x1024, .f32⟩
  | .hbm, ⟨54, _⟩ => ⟨S_, .f32⟩
  | .hbm, ⟨55, _⟩ => ⟨S33280x1024, .f32⟩
  | .hbm, ⟨56, _⟩ => ⟨S33280x1024, .f32⟩
  | .hbm, ⟨57, _⟩ => ⟨S33280x1024, .f32⟩
  | .hbm, ⟨58, _⟩ => ⟨S33280x1024, .f32⟩
  | .hbm, ⟨59, _⟩ => ⟨S_, .f32⟩
  | .hbm, ⟨60, _⟩ => ⟨S33280, .f32⟩
  | .hbm, ⟨61, _⟩ => ⟨S33280x1, .f32⟩
  | .hbm, ⟨62, _⟩ => ⟨S_, .f32⟩
  | .hbm, ⟨63, _⟩ => ⟨S33280x1, .f32⟩
  | .hbm, ⟨64, _⟩ => ⟨S33280x1, .f32⟩
  | .hbm, ⟨65, _⟩ => ⟨S33280x1024, .f32⟩
  | .hbm, ⟨66, _⟩ => ⟨S33280x1024, .f32⟩
  | .hbm, ⟨67, _⟩ => ⟨S33280x1024, .f32⟩
  | .hbm, ⟨68, _⟩ => ⟨S_, .f32⟩
  | .hbm, ⟨69, _⟩ => ⟨S33280, .f32⟩
  | .hbm, ⟨70, _⟩ => ⟨S33280x1, .f32⟩
  | .hbm, ⟨71, _⟩ => ⟨S_, .f32⟩
  | .hbm, ⟨72, _⟩ => ⟨S33280x1, .f32⟩
  | .hbm, ⟨73, _⟩ => ⟨S33280x1, .f32⟩
  | .hbm, ⟨74, _⟩ => ⟨S33280x1024, .f32⟩
  | .hbm, ⟨75, _⟩ => ⟨S33280x1024, .f32⟩
  | .hbm, ⟨76, _⟩ => ⟨S_, .f32⟩
  | .hbm, ⟨77, _⟩ => ⟨S33280x1, .f32⟩
  | .hbm, ⟨78, _⟩ => ⟨S33280x1, .f32⟩
  | .hbm, ⟨79, _⟩ => ⟨S33280x1, .f32⟩
  | .hbm, ⟨80, _⟩ => ⟨S33280x1024, .f32⟩
  | .hbm, ⟨81, _⟩ => ⟨S33280x1024, .f32⟩
  | .hbm, ⟨82, _⟩ => ⟨S1x1024, .f32⟩
  | .hbm, ⟨83, _⟩ => ⟨S33280x1024, .f32⟩
  | .hbm, ⟨84, _⟩ => ⟨S33280x1024, .f32⟩
  | .hbm, ⟨85, _⟩ => ⟨S1x1024, .f32⟩
  | .hbm, ⟨86, _⟩ => ⟨S33280x1024, .f32⟩
  | .hbm, ⟨87, _⟩ => ⟨S33280x1024, .f32⟩
  | .hbm, ⟨88, _⟩ => ⟨S33280x1024, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel3.lean ====
abbrev S33280x1024 : Shape := ⟨2, ![33280, 1024]⟩
abbrev S1024x7616 : Shape := ⟨2, ![1024, 7616]⟩
abbrev S1024x1024 : Shape := ⟨2, ![1024, 1024]⟩
abbrev S1024x128 : Shape := ⟨2, ![1024, 128]⟩
abbrev S1024x256 : Shape := ⟨2, ![1024, 256]⟩
abbrev S1024x16 : Shape := ⟨2, ![1024, 16]⟩
abbrev S1024x784 : Shape := ⟨2, ![1024, 784]⟩
abbrev S_ : Shape := ⟨0, ![]⟩
abbrev S1024x896 : Shape := ⟨2, ![1024, 896]⟩
abbrev S1024x32 : Shape := ⟨2, ![1024, 32]⟩
abbrev S1024x8 : Shape := ⟨2, ![1024, 8]⟩
abbrev S256x1024 : Shape := ⟨2, ![256, 1024]⟩
abbrev S8x1024 : Shape := ⟨2, ![8, 1024]⟩
abbrev S520x1024 : Shape := ⟨2, ![520, 1024]⟩
abbrev S528x1024 : Shape := ⟨2, ![528, 1024]⟩
abbrev S1024x160 : Shape := ⟨2, ![1024, 160]⟩
abbrev S1024x4 : Shape := ⟨2, ![1024, 4]⟩
abbrev S1024x1032 : Shape := ⟨2, ![1024, 1032]⟩
abbrev S1024x1152 : Shape := ⟨2, ![1024, 1152]⟩
abbrev S1024x4096 : Shape := ⟨2, ![1024, 4096]⟩
abbrev S33280x896 : Shape := ⟨2, ![33280, 896]⟩
abbrev S33280x1152 : Shape := ⟨2, ![33280, 1152]⟩
abbrev S640x1024 : Shape := ⟨2, ![640, 1024]⟩
abbrev S640x896 : Shape := ⟨2, ![640, 896]⟩
abbrev S640x1152 : Shape := ⟨2, ![640, 1152]⟩

abbrev nBuf : Space → Nat
  | .hbm => 49
  | .vmem => 11
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S1024x1024, .f32⟩
  | .hbm, ⟨3, _⟩ => ⟨S1024x128, .f32⟩
  | .hbm, ⟨4, _⟩ => ⟨S1024x128, .f32⟩
  | .hbm, ⟨5, _⟩ => ⟨S1024x256, .f32⟩
  | .hbm, ⟨6, _⟩ => ⟨S1024x16, .f32⟩
  | .hbm, ⟨7, _⟩ => ⟨S1024x256, .f32⟩
  | .hbm, ⟨8, _⟩ => ⟨S1024x784, .f32⟩
  | .hbm, ⟨9, _⟩ => ⟨S_, .i32⟩
  | .hbm, ⟨10, _⟩ => ⟨S_, .f32⟩
  | .hbm, ⟨11, _⟩ => ⟨S1024x896, .f32⟩
  | .hbm, ⟨12, _⟩ => ⟨S1024x256, .f32⟩
  | .hbm, ⟨13, _⟩ => ⟨S1024x128, .f32⟩
  | .hbm, ⟨14, _⟩ => ⟨S1024x256, .f32⟩
  | .hbm, ⟨15, _⟩ => ⟨S1024x32, .f32⟩
  | .hbm, ⟨16, _⟩ => ⟨S1024x8, .f32⟩
  | .hbm, ⟨17, _⟩ => ⟨S256x1024, .f32⟩
  | .hbm, ⟨18, _⟩ => ⟨S256x1024, .f32⟩
  | .hbm, ⟨19, _⟩ => ⟨S8x1024, .f32⟩
  | .hbm, ⟨20, _⟩ => ⟨S520x1024, .f32⟩
  | .hbm, ⟨21, _⟩ => ⟨S_, .i32⟩
  | .hbm, ⟨22, _⟩ => ⟨S_, .f32⟩
  | .hbm, ⟨23, _⟩ => ⟨S528x1024, .f32⟩
  | .hbm, ⟨24, _⟩ => ⟨S1024x160, .f32⟩
  | .hbm, ⟨25, _⟩ => ⟨S_, .i32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S1024x4, .f32⟩
  | .hbm, ⟨32, _⟩ => ⟨S1024x4, .f32⟩
  | .hbm, ⟨33, _⟩ => ⟨S1024x256, .f32⟩
  | .hbm, ⟨34, _⟩ => ⟨S1024x1032, .f32⟩
  | .hbm, ⟨35, _⟩ => ⟨S_, .i32⟩
  | .hbm, ⟨36, _⟩ => ⟨S_, .f32⟩
  | .hbm, ⟨37, _⟩ => ⟨S1024x1152, .f32⟩
  | .hbm, ⟨38, _⟩ => ⟨S1024x4096, .f32⟩
  | .hbm, ⟨39, _⟩ => ⟨S1024x1024, .bf16⟩
  | .hbm, ⟨40, _⟩ => ⟨S1024x896, .bf16⟩
  | .hbm, ⟨41, _⟩ => ⟨S528x1024, .bf16⟩
  | .hbm, ⟨42, _⟩ => ⟨S1024x256, .bf16⟩
  | .hbm, ⟨43, _⟩ => ⟨S1024x1152, .bf16⟩
  | .hbm, ⟨44, _⟩ => ⟨S1024x4096, .bf16⟩
  | .hbm, ⟨45, _⟩ => ⟨S33280x1024, .bf16⟩
  | .hbm, ⟨46, _⟩ => ⟨S33280x1024, .f32⟩
  | .hbm, ⟨47, _⟩ => ⟨S33280x896, .f32⟩
  | .hbm, ⟨48, _⟩ => ⟨S33280x1152, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S1024x896, .bf16⟩
  | .local _ .vmem, ⟨4, _⟩ => ⟨S1024x1152, .bf16⟩
  | .local _ .vmem, ⟨5, _⟩ => ⟨S640x1024, .f32⟩
  | .local _ .vmem, ⟨6, _⟩ => ⟨S640x1024, .f32⟩
  | .local _ .vmem, ⟨7, _⟩ => ⟨S640x896, .f32⟩
  | .local _ .vmem, ⟨8, _⟩ => ⟨S640x896, .f32⟩
  | .local _ .vmem, ⟨9, _⟩ => ⟨S640x1152, .f32⟩
  | .local _ .vmem, ⟨10, _⟩ => ⟨S640x1152, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call2_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_call3_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S33280x1024 : Shape := ⟨2, ![33280, 1024]⟩
abbrev S1024x7616 : Shape := ⟨2, ![1024, 7616]⟩
abbrev S33280x7616 : Shape := ⟨2, ![33280, 7616]⟩
abbrev S33280x784 : Shape := ⟨2, ![33280, 784]⟩
abbrev S33280x680 : Shape := ⟨2, ![33280, 680]⟩
abbrev S33280x1032 : Shape := ⟨2, ![33280, 1032]⟩
abbrev S33280x4096 : Shape := ⟨2, ![33280, 4096]⟩
abbrev S33280x128 : Shape := ⟨2, ![33280, 128]⟩
abbrev S33280x256 : Shape := ⟨2, ![33280, 256]⟩
abbrev S33280x16 : Shape := ⟨2, ![33280, 16]⟩
abbrev S33280x4 : Shape := ⟨2, ![33280, 4]⟩
abbrev S_ : Shape := ⟨0, ![]⟩
abbrev S33280x896 : Shape := ⟨2, ![33280, 896]⟩
abbrev S33280x1152 : Shape := ⟨2, ![33280, 1152]⟩

abbrev nBuf : Space → Nat
  | .hbm => 27
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S33280x7616, .f32⟩
  | .hbm, ⟨3, _⟩ => ⟨S33280x1024, .f32⟩
  | .hbm, ⟨4, _⟩ => ⟨S33280x784, .f32⟩
  | .hbm, ⟨5, _⟩ => ⟨S33280x680, .f32⟩
  | .hbm, ⟨6, _⟩ => ⟨S33280x1032, .f32⟩
  | .hbm, ⟨7, _⟩ => ⟨S33280x4096, .f32⟩
  | .hbm, ⟨8, _⟩ => ⟨S33280x128, .f32⟩
  | .hbm, ⟨9, _⟩ => ⟨S33280x128, .f32⟩
  | .hbm, ⟨10, _⟩ => ⟨S33280x256, .f32⟩
  | .hbm, ⟨11, _⟩ => ⟨S33280x16, .f32⟩
  | .hbm, ⟨12, _⟩ => ⟨S33280x256, .f32⟩
  | .hbm, ⟨13, _⟩ => ⟨S33280x784, .f32⟩
  | .hbm, ⟨14, _⟩ => ⟨S33280x256, .f32⟩
  | .hbm, ⟨15, _⟩ => ⟨S33280x256, .f32⟩
  | .hbm, ⟨16, _⟩ => ⟨S33280x256, .f32⟩
  | .hbm, ⟨17, _⟩ => ⟨S33280x4, .f32⟩
  | .hbm, ⟨18, _⟩ => ⟨S33280x4, .f32⟩
  | .hbm, ⟨19, _⟩ => ⟨S33280x256, .f32⟩
  | .hbm, ⟨20, _⟩ => ⟨S33280x1032, .f32⟩
  | .hbm, ⟨21, _⟩ => ⟨S_, .i32⟩
  | .hbm, ⟨22, _⟩ => ⟨S_, .f32⟩
  | .hbm, ⟨23, _⟩ => ⟨S33280x896, .f32⟩
  | .hbm, ⟨24, _⟩ => ⟨S_, .i32⟩
  | .hbm, ⟨25, _⟩ => ⟨S_, .f32⟩
  | .hbm, ⟨26, _⟩ => ⟨S33280x1152, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S33280x1024 : Shape := ⟨2, ![33280, 1024]⟩
abbrev S1024x7616 : Shape := ⟨2, ![1024, 7616]⟩
abbrev S128 : Shape := ⟨1, ![128]⟩
abbrev S128x64 : Shape := ⟨2, ![128, 64]⟩
abbrev S1024x1024 : Shape := ⟨2, ![1024, 1024]⟩
abbrev S1024x128 : Shape := ⟨2, ![1024, 128]⟩
abbrev S1024x256 : Shape := ⟨2, ![1024, 256]⟩
abbrev S1024x16 : Shape := ⟨2, ![1024, 16]⟩
abbrev S1024x784 : Shape := ⟨2, ![1024, 784]⟩
abbrev S_ : Shape := ⟨0, ![]⟩
abbrev S1024x896 : Shape := ⟨2, ![1024, 896]⟩
abbrev S1024x32 : Shape := ⟨2, ![1024, 32]⟩
abbrev S1024x8 : Shape := ⟨2, ![1024, 8]⟩
abbrev S256x1024 : Shape := ⟨2, ![256, 1024]⟩
abbrev S8x1024 : Shape := ⟨2, ![8, 1024]⟩
abbrev S520x1024 : Shape := ⟨2, ![520, 1024]⟩
abbrev S528x1024 : Shape := ⟨2, ![528, 1024]⟩
abbrev S1024x160 : Shape := ⟨2, ![1024, 160]⟩
abbrev S1024x4 : Shape := ⟨2, ![1024, 4]⟩
abbrev S1024x1032 : Shape := ⟨2, ![1024, 1032]⟩
abbrev S1024x1152 : Shape := ⟨2, ![1024, 1152]⟩
abbrev S1024x4096 : Shape := ⟨2, ![1024, 4096]⟩
abbrev S64x128 : Shape := ⟨2, ![64, 128]⟩
abbrev S80x128 : Shape := ⟨2, ![80, 128]⟩
abbrev S1x128 : Shape := ⟨2, ![1, 128]⟩
abbrev S260x64x512 : Shape := ⟨3, ![260, 64, 512]⟩
abbrev S260x32x1024 : Shape := ⟨3, ![260, 32, 1024]⟩
abbrev S260x8x128 : Shape := ⟨3, ![260, 8, 128]⟩
abbrev S33280x64 : Shape := ⟨2, ![33280, 64]⟩
abbrev S33280x32 : Shape := ⟨2, ![33280, 32]⟩
abbrev S260x80x128 : Shape := ⟨3, ![260, 80, 128]⟩
abbrev S640x1024 : Shape := ⟨2, ![640, 1024]⟩
abbrev S5x64x512 : Shape := ⟨3, ![5, 64, 512]⟩
abbrev S5x32x1024 : Shape := ⟨3, ![5, 32, 1024]⟩
abbrev S5x8x128 : Shape := ⟨3, ![5, 8, 128]⟩
abbrev S640x64 : Shape := ⟨2, ![640, 64]⟩
abbrev S640x32 : Shape := ⟨2, ![640, 32]⟩
abbrev S5x80x128 : Shape := ⟨3, ![5, 80, 128]⟩
abbrev S528x640 : Shape := ⟨2, ![528, 640]⟩
abbrev S640x256 : Shape := ⟨2, ![640, 256]⟩
abbrev S640x128 : Shape := ⟨2, ![640, 128]⟩
abbrev S640 : Shape := ⟨1, ![640]⟩
abbrev S640x1 : Shape := ⟨2, ![640, 1]⟩
abbrev S80x640 : Shape := ⟨2, ![80, 640]⟩
abbrev S1x64x128 : Shape := ⟨3, ![1, 64, 128]⟩
abbrev S32x128 : Shape := ⟨2, ![32, 128]⟩
abbrev S1x32x128 : Shape := ⟨3, ![1, 32, 128]⟩
abbrev S8x128 : Shape := ⟨2, ![8, 128]⟩
abbrev S1x8x128 : Shape := ⟨3, ![1, 8, 128]⟩
abbrev S1x80x128 : Shape := ⟨3, ![1, 80, 128]⟩

abbrev nBuf : Space → Nat
  | .hbm => 62
  | .vmem => 19
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S1024x1024, .f32⟩
  | .hbm, ⟨6, _⟩ => ⟨S1024x128, .f32⟩
  | .hbm, ⟨7, _⟩ => ⟨S1024x128, .f32⟩
  | .hbm, ⟨8, _⟩ => ⟨S1024x256, .f32⟩
  | .hbm, ⟨9, _⟩ => ⟨S1024x16, .f32⟩
  | .hbm, ⟨10, _⟩ => ⟨S1024x256, .f32⟩
  | .hbm, ⟨11, _⟩ => ⟨S1024x784, .f32⟩
  | .hbm, ⟨12, _⟩ => ⟨S_, .i32⟩
  | .hbm, ⟨13, _⟩ => ⟨S_, .f32⟩
  | .hbm, ⟨14, _⟩ => ⟨S1024x896, .f32⟩
  | .hbm, ⟨15, _⟩ => ⟨S1024x256, .f32⟩
  | .hbm, ⟨16, _⟩ => ⟨S1024x128, .f32⟩
  | .hbm, ⟨17, _⟩ => ⟨S1024x256, .f32⟩
  | .hbm, ⟨18, _⟩ => ⟨S1024x32, .f32⟩
  | .hbm, ⟨19, _⟩ => ⟨S1024x8, .f32⟩
  | .hbm, ⟨20, _⟩ => ⟨S256x1024, .f32⟩
  | .hbm, ⟨21, _⟩ => ⟨S256x1024, .f32⟩
  | .hbm, ⟨22, _⟩ => ⟨S8x1024, .f32⟩
  | .hbm, ⟨23, _⟩ => ⟨S520x1024, .f32⟩
  | .hbm, ⟨24, _⟩ => ⟨S_, .i32⟩
  | .hbm, ⟨25, _⟩ => ⟨S_, .f32⟩
  | .hbm, ⟨26, _⟩ => ⟨S528x1024, .f32⟩
  | .hbm, ⟨27, _⟩ => ⟨S1024x160, .f32⟩
  | .hbm, ⟨28, _⟩ => ⟨S_, .i32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S1024x4, .f32⟩
  | .hbm, ⟨35, _⟩ => ⟨S1024x4, .f32⟩
  | .hbm, ⟨36, _⟩ => ⟨S1024x256, .f32⟩
  | .hbm, ⟨37, _⟩ => ⟨S1024x1032, .f32⟩
  | .hbm, ⟨38, _⟩ => ⟨S_, .i32⟩
  | .hbm, ⟨39, _⟩ => ⟨S_, .f32⟩
  | .hbm, ⟨40, _⟩ => ⟨S1024x1152, .f32⟩
  | .hbm, ⟨41, _⟩ => ⟨S1024x4096, .f32⟩
  | .hbm, ⟨42, _⟩ => ⟨S1024x1024, .bf16⟩
  | .hbm, ⟨43, _⟩ => ⟨S1024x896, .bf16⟩
  | .hbm, ⟨44, _⟩ => ⟨S528x1024, .bf16⟩
  | .hbm, ⟨45, _⟩ => ⟨S1024x256, .bf16⟩
  | .hbm, ⟨46, _⟩ => ⟨S1024x1152, .bf16⟩
  | .hbm, ⟨47, _⟩ => ⟨S1024x4096, .bf16⟩
  | .hbm, ⟨48, _⟩ => ⟨S33280x1024, .bf16⟩
  | .hbm, ⟨49, _⟩ => ⟨S64x128, .f32⟩
  | .hbm, ⟨50, _⟩ => ⟨S_, .i32⟩
  | .hbm, ⟨51, _⟩ => ⟨S_, .f32⟩
  | .hbm, ⟨52, _⟩ => ⟨S80x128, .f32⟩
  | .hbm, ⟨53, _⟩ => ⟨S80x128, .bf16⟩
  | .hbm, ⟨54, _⟩ => ⟨S1x128, .f32⟩
  | .hbm, ⟨55, _⟩ => ⟨S128x64, .bf16⟩
  | .hbm, ⟨56, _⟩ => ⟨S260x64x512, .bf16⟩
  | .hbm, ⟨57, _⟩ => ⟨S260x32x1024, .bf16⟩
  | .hbm, ⟨58, _⟩ => ⟨S260x8x128, .f32⟩
  | .hbm, ⟨59, _⟩ => ⟨S33280x64, .bf16⟩
  | .hbm, ⟨60, _⟩ => ⟨S33280x32, .bf16⟩
  | .hbm, ⟨61, _⟩ => ⟨S260x80x128, .bf16⟩
  | .local _ .vmem, ⟨0, _⟩ => ⟨S640x1024, .bf16⟩
  | .local _ .vmem, ⟨1, _⟩ => ⟨S640x1024, .bf16⟩
  | .local _ .vmem, ⟨2, _⟩ => ⟨S528x1024, .bf16⟩
  | .local _ .vmem, ⟨3, _⟩ => ⟨S1024x256, .bf16⟩
  | .local _ .vmem, ⟨4, _⟩ => ⟨S1x128, .f32⟩
  | .local _ .vmem, ⟨5, _⟩ => ⟨S128x64, .bf16⟩
  | .local _ .vmem, ⟨6, _⟩ => ⟨S80x128, .bf16⟩
  | .local _ .vmem, ⟨7, _⟩ => ⟨S5x64x512, .bf16⟩
  | .local _ .vmem, ⟨8, _⟩ => ⟨S5x64x512, .bf16⟩
  | .local _ .vmem, ⟨9, _⟩ => ⟨S5x32x1024, .bf16⟩
  | .local _ .vmem, ⟨10, _⟩ => ⟨S5x32x1024, .bf16⟩
  | .local _ .vmem, ⟨11, _⟩ => ⟨S5x8x128, .f32⟩
  | .local _ .vmem, ⟨12, _⟩ => ⟨S5x8x128, .f32⟩
  | .local _ .vmem, ⟨13, _⟩ => ⟨S640x64, .bf16⟩
  | .local _ .vmem, ⟨14, _⟩ => ⟨S640x64, .bf16⟩
  | .local _ .vmem, ⟨15, _⟩ => ⟨S640x32, .bf16⟩
  | .local _ .vmem, ⟨16, _⟩ => ⟨S640x32, .bf16⟩
  | .local _ .vmem, ⟨17, _⟩ => ⟨S5x80x128, .bf16⟩
  | .local _ .vmem, ⟨18, _⟩ => ⟨S5x80x128, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_call1_v0 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_call3_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_call4_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev main_v41_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S528x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5x80x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S33280x1024 : Shape := ⟨2, ![33280, 1024]⟩
abbrev S1024x7616 : Shape := ⟨2, ![1024, 7616]⟩
abbrev S128 : Shape := ⟨1, ![128]⟩
abbrev S128x64 : Shape := ⟨2, ![128, 64]⟩
abbrev S33280x7616 : Shape := ⟨2, ![33280, 7616]⟩
abbrev S33280x784 : Shape := ⟨2, ![33280, 784]⟩
abbrev S33280x680 : Shape := ⟨2, ![33280, 680]⟩
abbrev S33280x1032 : Shape := ⟨2, ![33280, 1032]⟩
abbrev S33280x4096 : Shape := ⟨2, ![33280, 4096]⟩
abbrev S33280x256 : Shape := ⟨2, ![33280, 256]⟩
abbrev S33280x128 : Shape := ⟨2, ![33280, 128]⟩
abbrev S33280x32 : Shape := ⟨2, ![33280, 32]⟩
abbrev S33280x8 : Shape := ⟨2, ![33280, 8]⟩
abbrev S_ : Shape := ⟨0, ![]⟩
abbrev S33280 : Shape := ⟨1, ![33280]⟩
abbrev S33280x1 : Shape := ⟨2, ![33280, 1]⟩
abbrev S1x128 : Shape := ⟨2, ![1, 128]⟩
abbrev S33280x64 : Shape := ⟨2, ![33280, 64]⟩
abbrev S33280x4x64 : Shape := ⟨3, ![33280, 4, 64]⟩
abbrev S260x128x4x64 : Shape := ⟨4, ![260, 128, 4, 64]⟩
abbrev S260x64x4x128 : Shape := ⟨4, ![260, 64, 4, 128]⟩
abbrev S260x64x512 : Shape := ⟨3, ![260, 64, 512]⟩
abbrev S33280x8x32 : Shape := ⟨3, ![33280, 8, 32]⟩
abbrev S260x128x8x32 : Shape := ⟨4, ![260, 128, 8, 32]⟩
abbrev S260x32x8x128 : Shape := ⟨4, ![260, 32, 8, 128]⟩
abbrev S260x32x1024 : Shape := ⟨3, ![260, 32, 1024]⟩
abbrev S33280x1x8 : Shape := ⟨3, ![33280, 1, 8]⟩
abbrev S260x128x1x8 : Shape := ⟨4, ![260, 128, 1, 8]⟩
abbrev S260x8x1x128 : Shape := ⟨4, ![260, 8, 1, 128]⟩
abbrev S260x8x128 : Shape := ⟨3, ![260, 8, 128]⟩
abbrev S33280x15 : Shape := ⟨2, ![33280, 15]⟩
abbrev S33280x80 : Shape := ⟨2, ![33280, 80]⟩
abbrev S33280x1x80 : Shape := ⟨3, ![33280, 1, 80]⟩
abbrev S260x128x1x80 : Shape := ⟨4, ![260, 128, 1, 80]⟩
abbrev S260x80x1x128 : Shape := ⟨4, ![260, 80, 1, 128]⟩
abbrev S260x80x128 : Shape := ⟨3, ![260, 80, 128]⟩

abbrev nBuf : Space → Nat
  | .hbm => 66
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024x7616, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S33280x7616, .f32⟩
  | .hbm, ⟨6, _⟩ => ⟨S33280x1024, .f32⟩
  | .hbm, ⟨7, _⟩ => ⟨S33280x784, .f32⟩
  | .hbm, ⟨8, _⟩ => ⟨S33280x680, .f32⟩
  | .hbm, ⟨9, _⟩ => ⟨S33280x1032, .f32⟩
  | .hbm, ⟨10, _⟩ => ⟨S33280x4096, .f32⟩
  | .hbm, ⟨11, _⟩ => ⟨S33280x256, .f32⟩
  | .hbm, ⟨12, _⟩ => ⟨S33280x128, .f32⟩
  | .hbm, ⟨13, _⟩ => ⟨S33280x256, .f32⟩
  | .hbm, ⟨14, _⟩ => ⟨S33280x32, .f32⟩
  | .hbm, ⟨15, _⟩ => ⟨S33280x8, .f32⟩
  | .hbm, ⟨16, _⟩ => ⟨S33280x128, .f32⟩
  | .hbm, ⟨17, _⟩ => ⟨S_, .f32⟩
  | .hbm, ⟨18, _⟩ => ⟨S33280, .f32⟩
  | .hbm, ⟨19, _⟩ => ⟨S33280x1, .f32⟩
  | .hbm, ⟨20, _⟩ => ⟨S_, .f32⟩
  | .hbm, ⟨21, _⟩ => ⟨S33280x1, .f32⟩
  | .hbm, ⟨22, _⟩ => ⟨S33280x1, .f32⟩
  | .hbm, ⟨23, _⟩ => ⟨S_, .f32⟩
  | .hbm, ⟨24, _⟩ => ⟨S33280x1, .f32⟩
  | .hbm, ⟨25, _⟩ => ⟨S33280x1, .f32⟩
  | .hbm, ⟨26, _⟩ => ⟨S33280x1, .f32⟩
  | .hbm, ⟨27, _⟩ => ⟨S33280x128, .f32⟩
  | .hbm, ⟨28, _⟩ => ⟨S33280x128, .f32⟩
  | .hbm, ⟨29, _⟩ => ⟨S1x128, .f32⟩
  | .hbm, ⟨30, _⟩ => ⟨S33280x128, .f32⟩
  | .hbm, ⟨31, _⟩ => ⟨S33280x128, .f32⟩
  | .hbm, ⟨32, _⟩ => ⟨S33280x64, .f32⟩
  | .hbm, ⟨33, _⟩ => ⟨S33280x64, .f32⟩
  | .hbm, ⟨34, _⟩ => ⟨S33280x4x64, .f32⟩
  | .hbm, ⟨35, _⟩ => ⟨S_, .f32⟩
  | .hbm, ⟨36, _⟩ => ⟨S33280x4x64, .f32⟩
  | .hbm, ⟨37, _⟩ => ⟨S33280x4x64, .f32⟩
  | .hbm, ⟨38, _⟩ => ⟨S260x128x4x64, .f32⟩
  | .hbm, ⟨39, _⟩ => ⟨S260x64x4x128, .f32⟩
  | .hbm, ⟨40, _⟩ => ⟨S260x64x512, .f32⟩
  | .hbm, ⟨41, _⟩ => ⟨S33280x8x32, .f32⟩
  | .hbm, ⟨42, _⟩ => ⟨S260x128x8x32, .f32⟩
  | .hbm, ⟨43, _⟩ => ⟨S260x32x8x128, .f32⟩
  | .hbm, ⟨44, _⟩ => ⟨S260x32x1024, .f32⟩
  | .hbm, ⟨45, _⟩ => ⟨S_, .f32⟩
  | .hbm, ⟨46, _⟩ => ⟨S33280x8, .f32⟩
  | .hbm, ⟨47, _⟩ => ⟨S33280x8, .f32⟩
  | .hbm, ⟨48, _⟩ => ⟨S33280x1x8, .f32⟩
  | .hbm, ⟨49, _⟩ => ⟨S260x128x1x8, .f32⟩
  | .hbm, ⟨50, _⟩ => ⟨S260x8x1x128, .f32⟩
  | .hbm, ⟨51, _⟩ => ⟨S260x8x128, .f32⟩
  | .hbm, ⟨52, _⟩ => ⟨S_, .f32⟩
  | .hbm, ⟨53, _⟩ => ⟨S33280x1, .f32⟩
  | .hbm, ⟨54, _⟩ => ⟨S_, .f32⟩
  | .hbm, ⟨55, _⟩ => ⟨S33280x15, .f32⟩
  | .hbm, ⟨56, _⟩ => ⟨S33280x80, .f32⟩
  | .hbm, ⟨57, _⟩ => ⟨S33280x1x80, .f32⟩
  | .hbm, ⟨58, _⟩ => ⟨S260x128x1x80, .f32⟩
  | .hbm, ⟨59, _⟩ => ⟨S260x80x1x128, .f32⟩
  | .hbm, ⟨60, _⟩ => ⟨S260x80x128, .f32⟩
  | .hbm, ⟨61, _⟩ => ⟨S260x64x512, .bf16⟩
  | .hbm, ⟨62, _⟩ => ⟨S260x32x1024, .bf16⟩
  | .hbm, ⟨63, _⟩ => ⟨S33280x64, .bf16⟩
  | .hbm, ⟨64, _⟩ => ⟨S33280x32, .bf16⟩
  | .hbm, ⟨65, _⟩ => ⟨S260x80x128, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Proof.Block.lean ====
/-
  What one grid point of the mixture-of-experts call leaves behind, as plain functions of the point's input blocks.
  A point of the grid handles one tile of 640 tokens and one group of four experts: the first of the four points of a tile
  also computes the router's gates and clears the accumulator, the last one also adds the residual and normalises.
-/
module

public import proofs.«01_k».proof.Proof.Gen.KernelIdeal.Value
public import Idealize.ShloMosaic.Lib.Pipeline.Value

@[expose] public section

noncomputable section

open Idealize.ShloMosaic Idealize.ShloMosaic.TcCoe Idealize.SL.Sem

namespace Cert.KernelIdeal.Block

open Cert.KernelIdeal Cert.KernelIdeal.Gen

variable {F : FTy → Type} [FloatOps F]

/-- The lane numbers of a row of 128 lanes. -/
abbrev lanes : IVec S640x128 32 := iota .tc S640x128 32 [1] iota_S640x128_d1_w32

/-- The router: the 128 gate lanes of every token of the tile, from the tokens `x`, the packed router weights `w` and biases `b`. -/
def gates (x : Vec F S640x1024 .bf16) (w : Vec F S1024x128 .bf16) (b : Vec F S1x128 .f32) : Vec F S640x128 .f32 :=
  k0_pay11 lanes (k0_pay7 (k0_pay13 x) lanes w b) (k0_pay8 (k0_pay13 x) lanes w b) (k0_pay9 (k0_pay13 x) lanes w b)
    (k0_pay10 (k0_pay13 x) lanes w b)

/-- The hidden units of the point's four experts, each expert's 256 columns scaled by its gate. -/
def scaled (i : grid0.Coords) (x : Vec F S640x1024 .bf16) (wg wu : Vec F S1x1024x1024 .bf16) (g : Vec F S640x128 .f32) : Vec F S640x1024 .bf16 :=
  k0_pay17 (BitVec.ofNat 32 (i 1).val) lanes (k0_pay15 x wg wu) g (k0_pay16 i x wg wu g)

/-- One accumulation: the scaled hidden units through the down projection, added to what the accumulator held. -/
def step (i : grid0.Coords) (x : Vec F S640x1024 .bf16) (wg wu wd : Vec F S1x1024x1024 .bf16) (g : Vec F S640x128 .f32)
    (acc : Vec F S640x1024 .f32) : Vec F S640x1024 .f32 :=
  k0_pay1 acc (scaled i x wg wu g) wd

/-- The cleared accumulator. -/
def clear : Vec F S640x1024 .f32 := k0_pay14 k0_pay12

/-- Offsets `(0, 0)` are the zero offsets. -/
theorem off2 : (![0, 0] : Fin 2 → Nat) = fun _ => 0 := funext fun a => by fin_cases a <;> rfl
/-- Offsets `(0, 0, 0)` are the zero offsets. -/
theorem off3 : (![0, 0, 0] : Fin 3 → Nat) = fun _ => 0 := funext fun a => by fin_cases a <;> rfl

variable (c : Dev nD) (i : grid0.Coords)
  (a2 : Memref sig .tc .vmem S640x1024 .f32) (h2 : a2.IsWhole)
  (a3 : Memref sig .tc .vmem S640x1024 .bf16) (h3 : a3.IsWhole)
  (a4 : Memref sig .tc .vmem S1024x128 .bf16) (h4 : a4.IsWhole)
  (a5 : Memref sig .tc .vmem S1x128 .f32) (h5 : a5.IsWhole)
  (a6 : Memref sig .tc .vmem S1x1024x1024 .bf16) (h6 : a6.IsWhole)
  (a7 : Memref sig .tc .vmem S1x1024x1024 .bf16) (h7 : a7.IsWhole)
  (a8 : Memref sig .tc .vmem S1x1024x1024 .bf16) (h8 : a8.IsWhole)
  (a9 : Memref sig .tc .vmem S1x1024 .f32) (h9 : a9.IsWhole)
  (a10 : Memref sig .tc .vmem S1x1024 .f32) (h10 : a10.IsWhole)
  (a11 : Memref sig .tc .vmem S640x1024 .f32) (h11 : a11.IsWhole)
  (a12 : Memref sig .tc .vmem S640x1024 .bf16) (h12 : a12.IsWhole)
  (a13 : Memref sig .tc .vmem S640x128 .f32) (h13 : a13.IsWhole)
  (a14 : Memref sig .tc .vmem S640x1024 .f32) (h14 : a14.IsWhole)
  (x0 : Vec F S640x1024 .f32) (x1 : Vec F S640x1024 .bf16) (x2 : Vec F S1024x128 .bf16) (x3 : Vec F S1x128 .f32)
  (x4 x5 x6 : Vec F S1x1024x1024 .bf16) (x7 x8 : Vec F S1x1024 .f32) (xs0 : Vec F S640x128 .f32) (xs1 : Vec F S640x1024 .f32)

/-- The first point of a tile leaves the gates in the first scratch. -/
theorem gates_A (hc0 : cond0_0 i) (hc1 : ¬cond0_1 i) :
    sout0_A_0 c i a2 h2 a3 h3 a4 h4 a5 h5 a6 h6 a7 h7 a8 h8 a9 h9 a10 h10 a11 h11 a12 h12 a13 h13 a14 h14 hc0 hc1 x0 x1 x2 x3 x4 x5 x6 x7 x8 = gates x1 x2 x3 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5 x6 x7 x8)]
  unfold kernelRun0_A
  dsimp only
  sl_unfold_words
  rw [View.canon_unit_zero off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

/-- The first point of a tile leaves its four experts' share, added to the cleared accumulator, in the second scratch. -/
theorem acc_A (hc0 : cond0_0 i) (hc1 : ¬cond0_1 i) :
    sout0_A_1 c i a2 h2 a3 h3 a4 h4 a5 h5 a6 h6 a7 h7 a8 h8 a9 h9 a10 h10 a11 h11 a12 h12 a13 h13 a14 h14 hc0 hc1 x0 x1 x2 x3 x4 x5 x6 x7 x8 = step i x1 x4 x5 x6 (gates x1 x2 x3) clear := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 x0 x1 x2 x3 x4 x5 x6 x7 x8)]
  unfold kernelRun0_A
  dsimp only
  sl_unfold_words
  rw [View.canon_cons_unit_zero (S := S640x1024) off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

/-- A middle point adds its four experts' share to the accumulator. -/
theorem acc_B (hc0 : ¬cond0_0 i) (hc1 : ¬cond0_1 i) :
    sout0_B_1 c i a2 h2 a3 h3 a4 h4 a5 h5 a6 h6 a7 h7 a8 h8 a9 h9 a10 h10 a11 h11 a12 h12 a13 h13 a14 h14 hc0 hc1 x0 x1 x2 x3 x4 x5 x6 x7 x8 xs0 xs1 = step i x1 x4 x5 x6 xs0 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 x0 x1 x2 x3 x4 x5 x6 x7 x8 xs0 xs1)]
  unfold kernelRun0_B
  dsimp only
  sl_unfold_words
  rw [View.canon_unit_zero off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

/-- So does the last point. -/
theorem acc_C (hc0 : ¬cond0_0 i) (hc1 : cond0_1 i) :
    sout0_C_1 c i a2 h2 a3 h3 a4 h4 a5 h5 a6 h6 a7 h7 a8 h8 a9 h9 a10 h10 a11 h11 a12 h12 a13 h13 a14 h14 hc0 hc1 x0 x1 x2 x3 x4 x5 x6 x7 x8 xs0 xs1 = step i x1 x4 x5 x6 xs0 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc0 hc1 x0 x1 x2 x3 x4 x5 x6 x7 x8 xs0 xs1)]
  unfold kernelRun0_C
  dsimp only
  sl_unfold_words
  rw [View.canon_unit_zero off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

/-- The last point of a tile writes the normalised sum of the residual and the accumulator. -/
theorem out_C_9 (hc0 : ¬cond0_0 i) (hc1 : cond0_1 i) :
    out0_C_9 c i a2 h2 a3 h3 a4 h4 a5 h5 a6 h6 a7 h7 a8 h8 a9 h9 a10 h10 a11 h11 a12 h12 a13 h13 a14 h14 hc0 hc1 x0 x1 x2 x3 x4 x5 x6 x7 x8 xs0 xs1 = k0_pay2 x0 (step i x1 x4 x5 x6 xs0 xs1) x7 x8 := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 hc0 hc1 x0 x1 x2 x3 x4 x5 x6 x7 x8 xs0 xs1)]
  unfold kernelRun0_C
  dsimp only
  sl_unfold_words
  rw [View.canon_unit_zero off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

/-- … and the same, rounded, to the second result. -/
theorem out_C_10 (hc0 : ¬cond0_0 i) (hc1 : cond0_1 i) :
    out0_C_10 c i a2 h2 a3 h3 a4 h4 a5 h5 a6 h6 a7 h7 a8 h8 a9 h9 a10 h10 a11 h11 a12 h12 a13 h13 a14 h14 hc0 hc1 x0 x1 x2 x3 x4 x5 x6 x7 x8 xs0 xs1 = k0_pay3 x0 (step i x1 x4 x5 x6 xs0 xs1) x7 x8 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 hc0 hc1 x0 x1 x2 x3 x4 x5 x6 x7 x8 xs0 xs1)]
  unfold kernelRun0_C
  dsimp only
  sl_unfold_words
  rw [View.canon_unit_zero off2]
  try simp only [View.readCov_unit_zero (S := S640x1024) _ off2, View.readCov_unit_zero (S := S640x128) _ off2]
  simp only [View.readAt_eq_ld, h2.read_unread, h3.read_unread, h4.read_unread, h5.read_unread, h6.read_unread, h7.read_unread, h8.read_unread, h9.read_unread, h10.read_unread, h13.read_unread, h14.read_unread,
    View.ld_unit_zero (S := S640x1024) off2, View.ld_unit_zero (S := S1024x128) off2, View.ld_unit_zero (S := S1x128) off2,
    View.ld_unit_zero (S := S640x128) off2, View.ld_unit_zero (S := S1x1024) off2, View.ld_unit_zero (S := S1x1024x1024) off3]
  rfl

end Cert.KernelIdeal.Block

end
-- ==== Proof.FirstMax.lean ====
module

public import Idealize.ShloMosaic.Lib.Pointwise
public import Idealize.ShloMosaic.Lib.ValueIdx

/-!
# The first largest entry

The routing picks, among finitely many numbers, the first of the largest ones.  This module says what that means,
that there is exactly one, and that the kernel's way of finding it (take the maximum of the row, then the smallest
lane at which the row equals it) finds it.
-/

@[expose] public section

open Idealize Idealize.ShloMosaic

namespace Cert.FirstMax

/-- `a` is the first of the largest entries of `f` among the places where `P` holds. -/
structure IsFirst {n : Nat} (P : Fin n → Prop) (f : Fin n → EReal) (a : Fin n) : Prop where
  mem : P a
  le : ∀ j, P j → f j ≤ f a
  lt : ∀ j, P j → j < a → f j < f a

/-- There is a first largest entry wherever there is a place at all. -/
theorem exists_isFirst {n : Nat} (P : Fin n → Prop) (f : Fin n → EReal) (h : ∃ j, P j) :
    ∃ a, IsFirst P f a := by
  classical
  obtain ⟨j0, hj0⟩ := h
  obtain ⟨b, hb, hmax⟩ := Finset.exists_max_image (Finset.univ.filter P) f ⟨j0, by simp [hj0]⟩
  obtain ⟨a, ha, hmin⟩ := Finset.exists_min_image (Finset.univ.filter fun j => P j ∧ f j = f b) id
    ⟨b, by simp at hb ⊢; exact hb⟩
  simp only [Finset.mem_filter, Finset.mem_univ, true_and] at hb hmax ha hmin
  refine ⟨a, ha.1, fun j hj => ha.2 ▸ hmax j hj, fun j hj hja => ?_⟩
  refine lt_of_le_of_ne (ha.2 ▸ hmax j hj) fun he => ?_
  have := hmin j ⟨hj, he.trans ha.2⟩
  simp only [id] at this
  omega

/-- There is only one. -/
theorem IsFirst.unique {n : Nat} {P : Fin n → Prop} {f : Fin n → EReal} {a b : Fin n}
    (ha : IsFirst P f a) (hb : IsFirst P f b) : a = b := by
  rcases lt_trichotomy a b with h | h | h
  · exact absurd (hb.lt a ha.mem h) (not_lt.mpr (ha.le b hb.mem))
  · exact h
  · exact absurd (ha.lt b hb.mem h) (not_lt.mpr (hb.le a ha.mem))

/-- The maximum of a row, folded from −∞, is the entry at its first largest place. -/
theorem fold_max_eq {n : Nat} {f : Fin n → EReal} {a : Fin n} (h : ∀ j, f j ≤ f a) :
    Finset.fold max (⊥ : EReal) f Finset.univ = f a := by
  apply le_antisymm
  · rw [Finset.fold_max_le]
    exact ⟨bot_le, fun j _ => h j⟩
  · rw [Finset.le_fold_max]
    exact Or.inr ⟨a, Finset.mem_univ _, le_rfl⟩

/-- The smallest word of a family, folded from a word no smaller than it. -/
theorem fold_minsi_eq {n : Nat} (z : BitVec 32) (f : Fin n → BitVec 32) (a : Fin n)
    (hz : (f a).toInt ≤ z.toInt) (h : ∀ j, (f a).toInt ≤ (f j).toInt) :
    Finset.fold IntOp.minsi z f Finset.univ = f a := by
  classical
  have key : ∀ s : Finset (Fin n), (f a).toInt ≤ (Finset.fold IntOp.minsi z f s).toInt ∧
      (a ∈ s → (Finset.fold IntOp.minsi z f s).toInt ≤ (f a).toInt) := by
    intro s
    induction s using Finset.induction_on with
    | empty => simp [hz]
    | insert b s hb ih =>
      rw [Finset.fold_insert hb]
      have hmin : ∀ x y : BitVec 32, (IntOp.minsi x y).toInt = min x.toInt y.toInt := by
        intro x y
        unfold IntOp.minsi
        split
        · rename_i hh; rw [BitVec.slt_iff_toInt_lt] at hh; omega
        · rename_i hh; rw [BitVec.slt_iff_toInt_lt] at hh; omega
      rw [hmin]
      refine ⟨le_min (h b) ih.1, fun ha => ?_⟩
      rcases Finset.mem_insert.mp ha with rfl | ha
      · exact min_le_left _ _
      · exact (min_le_right _ _).trans (ih.2 ha)
  obtain ⟨h1, h2⟩ := key Finset.univ
  exact BitVec.eq_of_toInt_eq (le_antisymm (h2 (Finset.mem_univ a)) h1)

/-- The smallest lane at which a row of 128 equals its maximum is its first largest place. -/
theorem fold_lane_eq {f : Fin 128 → EReal} {a : Fin 128} (h : IsFirst (fun _ => True) f a) :
    Finset.fold IntOp.minsi 2147483647#32 (fun t : Fin 128 => if f t = f a then BitVec.ofNat 32 ↑t else 128#32)
      Finset.univ = BitVec.ofNat 32 ↑a := by
  have hn : ∀ t : Fin 128, (BitVec.ofNat 32 ↑t).toInt = (t : Int) := by
    intro t; rw [BitVec.toInt_ofNat']; have := t.isLt; rw [Int.bmod_def]; omega
  have hc : (128#32).toInt = 128 := by decide
  have hz : (2147483647#32).toInt = 2147483647 := by decide
  have := fold_minsi_eq 2147483647#32 (fun t : Fin 128 => if f t = f a then BitVec.ofNat 32 ↑t else 128#32) a
    (by simp only [if_true]; rw [hn, hz]; omega) (by
      intro j
      simp only [if_true]
      split
      · rename_i he
        rw [hn, hn]
        by_contra hlt
        have : j < a := by simp only [Fin.lt_def]; omega
        exact absurd (h.lt j trivial this) (by rw [he]; exact lt_irrefl _)
      · rw [hn, hc]; omega)
  simpa using this

/-- A sum over 128 lanes of which only the first `4` count. -/
theorem sum_lanes_four (f : Fin 128 → EReal) (h : ∀ t : Fin 128, 4 ≤ t.val → f t = 0) :
    ∑ t, f t = ∑ j : Fin 4, f ⟨j.val, by omega⟩ := by
  have := Fin.sum_univ_add (a := 4) (b := 124) f
  rw [this]
  have h0 : ∑ i : Fin 124, f (Fin.natAdd 4 i) = 0 :=
    Finset.sum_eq_zero fun i _ => h _ (by simp [Fin.natAdd])
  rw [h0, add_zero]
  rfl

/-- A stable sort by "greater first" puts the first largest place of the list at its head, and sorts the rest. -/
theorem stableSort_head {n : Nat} (f : Fin n → EReal) (l : List (Fin n)) (hl : l.Pairwise (· < ·)) (hne : l ≠ []) :
    ∃ h ∈ l, (∀ j ∈ l, f j ≤ f h) ∧ (∀ j ∈ l, j < h → f j < f h) ∧
      stableSort (fun a b => decide (f b < f a)) l = h :: stableSort (fun a b => decide (f b < f a)) (l.erase h) := by
  induction l with
  | nil => exact absurd rfl hne
  | cons a l ih =>
    rw [List.pairwise_cons] at hl
    rcases eq_or_ne l [] with rfl | hl0
    · exact ⟨a, by simp, by simp, by simp, by simp [stableSort, insertBefore]⟩
    obtain ⟨h, hm, hle, hlt, hs⟩ := ih hl.2 hl0
    have hah : a < h := hl.1 h hm
    by_cases hc : f a < f h
    · refine ⟨h, List.mem_cons_of_mem _ hm, ?_, ?_, ?_⟩
      · intro j hj
        rcases List.mem_cons.mp hj with rfl | hj
        · exact hc.le
        · exact hle j hj
      · intro j hj hjh
        rcases List.mem_cons.mp hj with rfl | hj
        · exact hc
        · exact hlt j hj hjh
      · have he : (a :: l).erase h = a :: l.erase h := by
          rw [List.erase_cons_tail]; simp; exact hah.ne
        rw [he]
        show insertBefore _ a (stableSort _ l) = h :: insertBefore _ a (stableSort _ (l.erase h))
        rw [hs, insertBefore, if_pos (by simpa using hc)]
    · refine ⟨a, List.mem_cons_self, ?_, ?_, ?_⟩
      · intro j hj
        rcases List.mem_cons.mp hj with rfl | hj
        · exact le_rfl
        · exact (hle j hj).trans (not_lt.mp hc)
      · intro j hj hja
        rcases List.mem_cons.mp hj with rfl | hj
        · exact absurd hja (lt_irrefl _)
        · exact absurd (hl.1 j hj) (not_lt.mpr hja.le)
      · rw [List.erase_cons_head]
        show insertBefore _ a (stableSort _ l) = a :: stableSort _ l
        rw [hs, insertBefore, if_neg (by simpa using hc)]

/-- The first two positions of a stable "greater first" sort: the first largest place, then the first largest of
the others. -/
theorem sortedFrom_two {n : Nat} (f : Fin (n + 2) → EReal) :
    IsFirst (fun _ => True) f (sortedFrom (fun a b => decide (f b < f a)) 0) ∧
    IsFirst (fun j => j ≠ sortedFrom (fun a b => decide (f b < f a)) 0) f
      (sortedFrom (fun a b => decide (f b < f a)) 1) := by
  have hp : (List.finRange (n + 2)).Pairwise (· < ·) := List.pairwise_lt_finRange _
  obtain ⟨a, ham, hle, hlt, hs⟩ := stableSort_head f (List.finRange (n + 2)) hp (by simp [List.finRange_succ])
  have hnd : (List.finRange (n + 2)).Nodup := List.nodup_finRange _
  obtain ⟨b, hbm, hle', hlt', hs'⟩ := stableSort_head f ((List.finRange (n + 2)).erase a)
    (hp.sublist List.erase_sublist) (by
      intro h0
      have := congrArg List.length h0
      rw [List.length_erase_of_mem ham] at this
      simp at this)
  rw [hs'] at hs
  have h0 : sortedFrom (fun a b => decide (f b < f a)) 0 = a := by
    have hlen : 0 < (stableSort (fun a b => decide (f b < f a)) (List.finRange (n + 2))).length := by rw [hs]; simp
    show (stableSort (fun a b => decide (f b < f a)) (List.finRange (n + 2)))[0]'hlen = a
    simp only [hs, List.getElem_cons_zero]
  have h1 : sortedFrom (fun a b => decide (f b < f a)) 1 = b := by
    have hlen : 1 < (stableSort (fun a b => decide (f b < f a)) (List.finRange (n + 2))).length := by rw [hs]; simp
    show (stableSort (fun a b => decide (f b < f a)) (List.finRange (n + 2)))[1]'hlen = b
    simp only [hs, List.getElem_cons_succ, List.getElem_cons_zero]
  rw [h0, h1]
  refine ⟨⟨trivial, fun j _ => hle j (List.mem_finRange j), fun j _ => hlt j (List.mem_finRange j)⟩, ?_, ?_, ?_⟩
  · exact ((hnd.mem_erase_iff).mp hbm).1
  · exact fun j hj => hle' j ((hnd.mem_erase_iff).mpr ⟨hj, List.mem_finRange j⟩)
  · exact fun j hj => hlt' j ((hnd.mem_erase_iff).mpr ⟨hj, List.mem_finRange j⟩)

end Cert.FirstMax
-- ==== Proof.Routing.lean ====
/-
  The router's gates as numbers.  A token has four group logits `G` and sixteen expert logits `E`.  The router takes the
  first largest group `a`, in it the first largest expert `i1` and the first largest of the other three `i2`, and gives
  the two experts weights that are the group's softmax weight times a softmax over the two.
-/
module

public import proofs.«01_k».proof.Proof.FirstMax
public import Idealize.ShloMosaic.Lib.IdealHost

@[expose] public section

noncomputable section

open Idealize Idealize.ShloMosaic

namespace Cert.Routing

open Cert.FirstMax

/-- The number of expert `i` of group `a`. -/
def expertOf (a i : Fin 4) : Fin 16 := ⟨4 * a.val + i.val, by omega⟩

/-- A number that is neither infinity. -/
def Fin' (x : EReal) : Prop := x ≠ ⊥ ∧ x ≠ ⊤

/-- A token's choice: its group and its two experts in it. -/
structure Choice (G : Fin 4 → EReal) (E : Fin 16 → EReal) where
  a : Fin 4
  i1 : Fin 4
  i2 : Fin 4
  ha : IsFirst (fun _ => True) G a
  h1 : IsFirst (fun _ => True) (fun i => E (expertOf a i)) i1
  h2 : IsFirst (fun i => i ≠ i1) (fun i => E (expertOf a i)) i2

/-- Every token has a choice. -/
theorem exists_choice (G : Fin 4 → EReal) (E : Fin 16 → EReal) : Nonempty (Choice G E) := by
  obtain ⟨a, ha⟩ := exists_isFirst (fun _ => True) G ⟨0, trivial⟩
  obtain ⟨i1, h1⟩ := exists_isFirst (fun _ => True) (fun i => E (expertOf a i)) ⟨0, trivial⟩
  obtain ⟨i2, h2⟩ := exists_isFirst (fun i => i ≠ i1) (fun i => E (expertOf a i)) (by
    by_cases h : i1 = 0
    · exact ⟨1, by rw [h]; decide⟩
    · exact ⟨0, fun h' => h h'.symm⟩)
  exact ⟨⟨a, i1, i2, ha, h1, h2⟩⟩

/-- A token has only one choice. -/
theorem Choice.unique {G : Fin 4 → EReal} {E : Fin 16 → EReal} (x y : Choice G E) : x = y := by
  obtain ⟨a, i1, i2, ha, h1, h2⟩ := x
  obtain ⟨a', i1', i2', ha', h1', h2'⟩ := y
  obtain rfl := ha.unique ha'
  obtain rfl := h1.unique h1'
  obtain rfl := h2.unique h2'
  rfl

variable {G : Fin 4 → EReal} {E : Fin 16 → EReal}

/-- The softmax weight of the chosen group. -/
def groupWeight (k : Choice G E) : EReal := Ideal.div 1 (∑ j, Ideal.exp (G j - G k.a))

/-- The second expert's exponential relative to the first's. -/
def ratio (k : Choice G E) : EReal :=
  Ideal.exp (E (expertOf k.a k.i2) - E (expertOf k.a k.i1))

/-- The gate of expert `e`. -/
def gate (k : Choice G E) (e : Fin 16) : EReal :=
  (if e = expertOf k.a k.i1 then Ideal.div (groupWeight k) (1 + ratio k) else 0) +
    if e = expertOf k.a k.i2 then Ideal.div (groupWeight k * ratio k) (1 + ratio k) else 0

/-- The exponential is never negative. -/
theorem exp_nonneg (x : EReal) : 0 ≤ Ideal.exp x := by
  induction x using EReal.rec with
  | bot => simp
  | top => simp
  | coe r => rw [Ideal.exp_coe]; exact_mod_cast (Real.exp_pos r).le

/-- The exponential of a difference of finite numbers is finite. -/
theorem exp_sub_ne_top {x y : EReal} (hx : Fin' x) (hy : Fin' y) : Ideal.exp (x - y) ≠ ⊤ := by
  lift x to ℝ using ⟨hx.2, hx.1⟩
  lift y to ℝ using ⟨hy.2, hy.1⟩
  rw [← EReal.coe_sub, Ideal.exp_coe]
  exact EReal.coe_ne_top _

/-- The exponential of a difference of a finite number with itself is one. -/
theorem exp_sub_self {x : EReal} (hx : Fin' x) : Ideal.exp (x - x) = 1 := by
  lift x to ℝ using ⟨hx.2, hx.1⟩
  rw [← EReal.coe_sub, Ideal.exp_coe]
  simp

/-- The sum of the group exponentials is at least one. -/
theorem one_le_sum (k : Choice G E) (hG : ∀ j, Fin' (G j)) : 1 ≤ ∑ j, Ideal.exp (G j - G k.a) := by
  rw [← exp_sub_self (hG k.a)]
  exact Finset.single_le_sum (f := fun j => Ideal.exp (G j - G k.a)) (fun i _ => exp_nonneg _) (Finset.mem_univ k.a)

/-- A quotient of a nonnegative finite number by one that is at least one is nonnegative and finite. -/
theorem div_nonneg_ne_top {x y : EReal} (hx : 0 ≤ x) (hx' : x ≠ ⊤) (hy : 1 ≤ y) :
    0 ≤ Ideal.div x y ∧ Ideal.div x y ≠ ⊤ := by
  have hy0 : y ≠ 0 := fun h => absurd (h ▸ hy) (by norm_num)
  have hxb : x ≠ ⊥ := fun h => absurd (h ▸ hx) (by simp)
  rw [Ideal.div, if_neg hy0]
  have hyp : 0 ≤ y := zero_le_one.trans hy
  have hyi : 0 ≤ y⁻¹ := EReal.inv_nonneg_of_nonneg hyp
  refine ⟨mul_nonneg hx hyi, ?_⟩
  lift x to ℝ using ⟨hx', hxb⟩
  induction y using EReal.rec with
  | bot => simp at hyp
  | top => simp
  | coe r => rw [← EReal.coe_inv, ← EReal.coe_mul]; exact EReal.coe_ne_top _

/-- A gate is nonnegative and finite when the logits are finite. -/
theorem gate_nonneg_ne_top (k : Choice G E) (hG : ∀ j, Fin' (G j)) (hE : ∀ e, Fin' (E e)) (e : Fin 16) :
    0 ≤ gate k e ∧ gate k e ≠ ⊤ := by
  have hp := div_nonneg_ne_top zero_le_one (by exact EReal.coe_ne_top 1) (one_le_sum k hG)
  have hr : 0 ≤ ratio k := exp_nonneg _
  have hr' : ratio k ≠ ⊤ := exp_sub_ne_top (hE _) (hE _)
  have h1 : (1 : EReal) ≤ 1 + ratio k := le_add_of_nonneg_right hr
  have hpr : groupWeight k * ratio k ≠ ⊤ := by
    have a1 : groupWeight k ≠ ⊥ := fun h => absurd (h ▸ hp.1 : (0 : EReal) ≤ ⊥) (by simp)
    have a2 : ratio k ≠ ⊥ := fun h => absurd (h ▸ hr : (0 : EReal) ≤ ⊥) (by simp)
    have a3 : groupWeight k ≠ ⊤ := hp.2
    generalize groupWeight k = u at *
    generalize ratio k = v at *
    lift u to ℝ using ⟨a3, a1⟩
    lift v to ℝ using ⟨hr', a2⟩
    rw [← EReal.coe_mul]; exact EReal.coe_ne_top _
  have q1 := div_nonneg_ne_top hp.1 hp.2 h1
  have q2 := div_nonneg_ne_top (mul_nonneg hp.1 hr) hpr h1
  unfold gate
  have key : ∀ x y : EReal, 0 ≤ x ∧ x ≠ ⊤ → 0 ≤ y ∧ y ≠ ⊤ → 0 ≤ x + y ∧ x + y ≠ ⊤ := fun x y hx hy =>
    ⟨add_nonneg hx.1 hy.1, EReal.add_ne_top hx.2 hy.2⟩
  apply key
  · split
    · exact q1
    · simp
  · split
    · exact q2
    · simp

/-! ### The reference's form -/

/-- The reference's gate: two softmaxes, spread over the experts by a one-hot product. -/
theorem reference_gate (k : Choice G E) (hG : ∀ j, Fin' (G j)) (hE : ∀ e, Fin' (E e)) (e : Fin 16) :
    (if expertOf k.a k.i1 = e then (1 : EReal) else 0) *
        (Ideal.div (Ideal.exp (E (expertOf k.a k.i1) - E (expertOf k.a k.i1)))
          (Ideal.exp (E (expertOf k.a k.i1) - E (expertOf k.a k.i1)) +
            Ideal.exp (E (expertOf k.a k.i2) - E (expertOf k.a k.i1))) *
          Ideal.div (Ideal.exp (G k.a - G k.a)) (∑ j, Ideal.exp (G j - G k.a))) +
      (if expertOf k.a k.i2 = e then (1 : EReal) else 0) *
        (Ideal.div (Ideal.exp (E (expertOf k.a k.i2) - E (expertOf k.a k.i1)))
          (Ideal.exp (E (expertOf k.a k.i1) - E (expertOf k.a k.i1)) +
            Ideal.exp (E (expertOf k.a k.i2) - E (expertOf k.a k.i1))) *
          Ideal.div (Ideal.exp (G k.a - G k.a)) (∑ j, Ideal.exp (G j - G k.a))) = gate k e := by
  rw [exp_sub_self (hG k.a), exp_sub_self (hE _)]
  change _ * (Ideal.div 1 (1 + ratio k) * groupWeight k) + _ * (Ideal.div (ratio k) (1 + ratio k) * groupWeight k) = _
  have hr : 0 ≤ ratio k := exp_nonneg _
  have h1 : (1 : EReal) ≤ 1 + ratio k := le_add_of_nonneg_right hr
  have h0 : (1 : EReal) + ratio k ≠ 0 := fun h => absurd (h ▸ h1) (by norm_num)
  have d1 : Ideal.div 1 (1 + ratio k) * groupWeight k = Ideal.div (groupWeight k) (1 + ratio k) := by
    rw [mul_comm, Ideal.mul_one_div h0]
  have d2 : Ideal.div (ratio k) (1 + ratio k) * groupWeight k = Ideal.div (groupWeight k * ratio k) (1 + ratio k) := by
    rw [Ideal.div, if_neg h0, Ideal.div, if_neg h0]
    rw [mul_right_comm, mul_comm (ratio k)]
  rw [d1, d2]
  unfold gate
  simp only [ite_mul, one_mul, zero_mul, eq_comm (a := e)]

/-! ### The kernel's form: lanes of a row of 128 -/

/-- The lane of a group logit. -/
def groupLane (j : Fin 4) : Fin 128 := ⟨j.val, by omega⟩
/-- The lane of an expert logit, and of its gate. -/
def expertLane (e : Fin 16) : Fin 128 := ⟨4 + e.val, by omega⟩

/-- A row's group lanes, everything else −∞. -/
def groupRow (L : Fin 128 → EReal) (l : Fin 128) : EReal := if l.val < 4 then L l else ⊥

/-- A row's lanes of the experts of group `a`, everything else −∞. -/
def expertRow (a : Fin 4) (L : Fin 128 → EReal) (l : Fin 128) : EReal :=
  if 4 + 4 * a.val ≤ l.val ∧ l.val < 8 + 4 * a.val then L l else ⊥

/-- The first largest lane of the group row is the chosen group's. -/
theorem isFirst_groupRow (L : Fin 128 → EReal) (hL : ∀ j, L (groupLane j) = G j) (hG : ∀ j, Fin' (G j))
    {a : Fin 4} (ha : IsFirst (fun _ => True) G a) : IsFirst (fun _ => True) (groupRow L) (groupLane a) := by
  have hin : ∀ j, groupRow L (groupLane j) = G j := fun j => by
    rw [groupRow, if_pos (show (groupLane j).val < 4 from j.isLt), hL]
  have hout : ∀ l : Fin 128, ¬ l.val < 4 → groupRow L l = ⊥ := fun l h => if_neg h
  have hcase : ∀ l : Fin 128, l.val < 4 → ∃ j : Fin 4, l = groupLane j := fun l h => ⟨⟨l.val, h⟩, rfl⟩
  refine ⟨trivial, fun l _ => ?_, fun l _ hl => ?_⟩
  · rw [hin]
    by_cases h : l.val < 4
    · obtain ⟨j, rfl⟩ := hcase l h
      rw [hin]; exact ha.le j trivial
    · rw [hout l h]; exact bot_le
  · rw [hin]
    by_cases h : l.val < 4
    · obtain ⟨j, rfl⟩ := hcase l h
      rw [hin]; exact ha.lt j trivial hl
    · rw [hout l h]; exact bot_lt_iff_ne_bot.mpr (hG a).1

/-- The first largest lane of a group's experts, some of them masked to −∞, is the first largest expert's. -/
theorem isFirst_expertRow (L : Fin 128 → EReal) (hL : ∀ e, L (expertLane e) = E e) (hE : ∀ e, Fin' (E e)) (a : Fin 4)
    (P : Fin 4 → Prop) [DecidablePred P] (R : Fin 128 → EReal)
    (hR : ∀ l, R l = if ∃ j, ¬ P j ∧ l = expertLane (expertOf a j) then ⊥ else expertRow a L l) {i : Fin 4}
    (hi : IsFirst P (fun j => E (expertOf a j)) i) : IsFirst (fun _ => True) R (expertLane (expertOf a i)) := by
  have hinj : ∀ j j', expertLane (expertOf a j) = expertLane (expertOf a j') → j = j' := fun j j' h => by
    have := congrArg Fin.val h
    simp only [expertLane, expertOf] at this
    omega
  have hin : ∀ j, R (expertLane (expertOf a j)) = if P j then E (expertOf a j) else ⊥ := fun j => by
    rw [hR]
    by_cases hp : P j
    · rw [if_pos hp, if_neg (by rintro ⟨j', hj', he⟩; exact hj' (hinj _ _ he ▸ hp)), expertRow, if_pos, hL]
      simp only [expertLane, expertOf]
      omega
    · rw [if_neg hp, if_pos ⟨j, hp, rfl⟩]
  have hcase : ∀ l : Fin 128, (∃ j : Fin 4, l = expertLane (expertOf a j)) ∨ R l = ⊥ := fun l => by
    by_cases h : 4 + 4 * a.val ≤ l.val ∧ l.val < 8 + 4 * a.val
    · refine Or.inl ⟨⟨l.val - (4 + 4 * a.val), by omega⟩, Fin.ext ?_⟩
      simp only [expertLane, expertOf]
      omega
    · right
      rw [hR, expertRow, if_neg h, ite_self]
  have hfin : ⊥ < E (expertOf a i) := bot_lt_iff_ne_bot.mpr (hE _).1
  refine ⟨trivial, fun l _ => ?_, fun l _ hl => ?_⟩
  · rw [hin i, if_pos hi.mem]
    rcases hcase l with ⟨j, rfl⟩ | h
    · rw [hin]
      split
      · exact hi.le j ‹_›
      · exact bot_le
    · rw [h]; exact bot_le
  · rw [hin i, if_pos hi.mem]
    rcases hcase l with ⟨j, rfl⟩ | h
    · rw [hin]
      split
      · refine hi.lt j ‹_› ?_
        rw [Fin.lt_def] at hl ⊢
        simp only [expertLane, expertOf] at hl
        omega
      · exact hfin
    · rw [h]; exact hfin

/-- The exponentials of the group row sum to those of the four groups. -/
theorem sum_groupRow (L : Fin 128 → EReal) (hL : ∀ j, L (groupLane j) = G j) (a : Fin 4) :
    ∑ l, Ideal.exp (groupRow L l - G a) = ∑ j, Ideal.exp (G j - G a) := by
  rw [sum_lanes_four]
  · refine Finset.sum_congr rfl fun j _ => ?_
    have : groupRow L ⟨j.val, by omega⟩ = G j := by
      rw [groupRow, if_pos (show j.val < 4 from j.isLt)]; exact hL j
    rw [this]
  · intro t ht
    rw [groupRow, if_neg (by omega), EReal.bot_sub, Ideal.exp_bot]

end Cert.Routing
end
-- ==== Proof.Gates.lean ====
/-
  The gates the kernel's router computes for one token of a tile, as numbers: lane `4 + e` of the row holds the gate of
  expert `e` of the token's choice.
-/
module

public import proofs.«01_k».proof.Proof.Block
public import proofs.«01_k».proof.Proof.Routing
public import Idealize.ShloMosaic.Lib.Pointwise

@[expose] public section

noncomputable section

open Idealize.ShloMosaic Idealize.ShloMosaic.TcCoe Idealize.SL.Sem

namespace Cert.KernelIdeal.Block

open Cert.KernelIdeal Cert.KernelIdeal.Gen Cert.FirstMax Cert.Routing

/-- The pattern of the kernel's mask value denotes −∞. -/
theorem mask_value : Ideal.ofBits FTy.f32 4286578688#32 = ⊥ := by
  simp [Ideal.ofBits, Ideal.ieee, -EReal.coe_mul]

/-- Comparing a lane's word with four. -/
theorem lane_lt_four (l : Fin 128) : IntOp.cmpi .slt (BitVec.ofNat 32 l.val) 4#32 = BitVec.ofBool (decide (l.val < 4)) := by
  revert l; decide +kernel

/-- Comparing two lanes' words. -/
theorem lane_eq (l l' : Fin 128) :
    IntOp.cmpi .eq (BitVec.ofNat 32 l.val) (BitVec.ofNat 32 l'.val) = BitVec.ofBool (decide (l = l')) := by
  revert l l'; decide +kernel

/-- Being in the window of a group's experts. -/
theorem lane_window (a : Fin 4) (l : Fin 128) :
    IntOp.andi (IntOp.cmpi .sge (BitVec.ofNat 32 l.val) (IntOp.addi 4#32 (IntOp.muli (BitVec.ofNat 32 a.val) 4#32)))
      (IntOp.cmpi .slt (BitVec.ofNat 32 l.val) (IntOp.addi (IntOp.addi 4#32 (IntOp.muli (BitVec.ofNat 32 a.val) 4#32)) 4#32)) =
      BitVec.ofBool (decide (4 + 4 * a.val ≤ l.val ∧ l.val < 8 + 4 * a.val)) := by
  revert a l; decide +kernel

/-- A selection by a decided condition. -/
theorem select_ofBool {α : Type} (p : Prop) [Decidable p] (x y : α) :
    Scalar.select (BitVec.ofBool (decide p)) x y = if p then x else y := by
  by_cases h : p <;> simp [h, Scalar.select]

variable (x : FVec Ideal S640x1024 .bf16) (w : Vec Ideal S1024x128 .bf16) (b : Vec Ideal S1x128 .f32) (r : Fin 640)

/-- The router's logit of token `r` in lane `l`. -/
def logit (l : Fin 128) : EReal := (∑ t : Fin 1024, x (ix2 r t) * w (ix2 t l)) + b (ix2 0 l)

theorem pay4_apply (l : Fin 128) : k0_pay4 x w b (ix2 r l) = logit x w b r l := by
  unfold logit
  pointwise [k0_pay4]

theorem pay5_apply (l : Fin 128) : k0_pay5 x lanes w b (ix2 r l) = groupRow (logit x w b r) l := by
  pointwise [k0_pay5]
  rw [mask_value, lane_lt_four, select_ofBool, pay4_apply]
  rfl

theorem pay13_eq : k0_pay13 x = x := by
  funext j
  pointwise [k0_pay13]

variable (G : Fin 4 → EReal) (E : Fin 16 → EReal)
  (hG : ∀ j, logit x w b r (groupLane j) = G j) (hE : ∀ e, logit x w b r (expertLane e) = E e)
  (fG : ∀ j, Fin' (G j)) (fE : ∀ e, Fin' (E e)) (k : Choice G E)

include hG fG in
theorem pay6_apply : k0_pay6 x lanes w b (ix2 r 0) = G k.a := by
  pointwise [k0_pay6]
  rw [mask_value]
  simp only [pay5_apply]
  have h := isFirst_groupRow (logit x w b r) hG fG k.ha
  rw [fold_max_eq (a := groupLane k.a) (fun j => h.le j trivial), groupRow, if_pos (show (groupLane k.a).val < 4 from k.a.isLt), hG]

include hG fG in
theorem pay7_apply : k0_pay7 x lanes w b (ix2 r 0) = groupWeight k := by
  pointwise [k0_pay7]
  simp only [pay5_apply, pay6_apply x w b r G E hG fG k]
  rw [sum_groupRow _ hG]
  rfl

include hG fG in
theorem pay8_apply (l : Fin 128) : k0_pay8 x lanes w b (ix2 r l) = expertRow k.a (logit x w b r) l := by
  pointwise [k0_pay8]
  simp only [pay5_apply, pay4_apply, pay6_apply x w b r G E hG fG k]
  have h := isFirst_groupRow (logit x w b r) hG fG k.ha
  have hv : groupRow (logit x w b r) (groupLane k.a) = G k.a := by
    rw [groupRow, if_pos (show (groupLane k.a).val < 4 from k.a.isLt), hG]
  have hf := fold_lane_eq h
  rw [hv] at hf
  rw [hf, mask_value, show (groupLane k.a).val = k.a.val from rfl, lane_window, select_ofBool]
  rfl

include hG hE fG fE
theorem first_el : IsFirst (fun _ => True) (expertRow k.a (logit x w b r)) (expertLane (expertOf k.a k.i1)) :=
  isFirst_expertRow _ hE fE k.a (fun _ => True) _ (fun l => by simp) k.h1

theorem pay9_apply : k0_pay9 x lanes w b (ix2 r 0) = E (expertOf k.a k.i1) := by
  pointwise [k0_pay9]
  rw [mask_value]
  simp only [pay8_apply x w b r G E hG fG k]
  have h := first_el x w b r G E hG hE fG fE k
  rw [fold_max_eq (a := expertLane (expertOf k.a k.i1)) (fun j => h.le j trivial), expertRow, if_pos, hE]
  simp only [expertLane, expertOf]; omega

theorem pay10_apply (l : Fin 128) : k0_pay10 x lanes w b (ix2 r l) =
    BitVec.ofBool (decide (expertRow k.a (logit x w b r) l = expertRow k.a (logit x w b r) (expertLane (expertOf k.a k.i1)))) := by
  pointwise [k0_pay10]
  rw [pay8_apply x w b r G E hG fG k, pay9_apply x w b r G E hG hE fG fE k]
  have : expertRow k.a (logit x w b r) (expertLane (expertOf k.a k.i1)) = E (expertOf k.a k.i1) := by
    rw [expertRow, if_pos, hE]; simp only [expertLane, expertOf]; omega
  rw [this]

/-- The lane of the first expert, found by the router. -/
theorem lane_first :
    Finset.fold IntOp.minsi 2147483647#32
      (fun t : Fin 128 => Scalar.select (k0_pay10 x lanes w b (ix2 r t)) (BitVec.ofNat 32 t.val) 128#32) Finset.univ =
      BitVec.ofNat 32 (expertLane (expertOf k.a k.i1)).val := by
  simp only [pay10_apply x w b r G E hG hE fG fE k, select_ofBool]
  exact fold_lane_eq (first_el x w b r G E hG hE fG fE k)

/-- The row of the group's experts with the first expert masked. -/
def maskedRow (l : Fin 128) : EReal :=
  if l = expertLane (expertOf k.a k.i1) then ⊥ else expertRow k.a (logit x w b r) l

theorem first_el2 : IsFirst (fun _ => True) (maskedRow x w b r G E k) (expertLane (expertOf k.a k.i2)) :=
  isFirst_expertRow _ hE fE k.a (fun i => i ≠ k.i1) _ (fun l => by simp [maskedRow]) k.h2

theorem masked_second : maskedRow x w b r G E k (expertLane (expertOf k.a k.i2)) = E (expertOf k.a k.i2) := by
  have hne : ¬ expertLane (expertOf k.a k.i2) = expertLane (expertOf k.a k.i1) := fun h => k.h2.mem (Fin.ext (by
    have := congrArg Fin.val h
    simp only [expertLane, expertOf] at this
    omega))
  rw [maskedRow, if_neg hne, expertRow, if_pos, hE]
  simp only [expertLane, expertOf]; omega

omit hG hE fG fE in
/-- Two experts with the same lane are the same. -/
theorem expertLane_inj (e e' : Fin 16) : expertLane e = expertLane e' ↔ e = e' := by
  simp only [expertLane, Fin.ext_iff]; omega

/-- The router's row: lane `4 + e` holds the gate of expert `e`. -/
theorem gates_apply (e : Fin 16) : gates x w b (ix2 r (expertLane e)) = gate k e := by
  unfold gates
  pointwise [k0_pay11]
  simp only [pay13_eq, lane_first x w b r G E hG hE fG fE k, mask_value, lane_eq, select_ofBool,
    pay8_apply x w b r G E hG fG k, pay9_apply x w b r G E hG hE fG fE k, pay7_apply x w b r G E hG fG k]
  have h := first_el2 x w b r G E hG hE fG fE k
  have hm : Finset.fold max ⊥ (fun t : Fin 128 =>
      if t = expertLane (expertOf k.a k.i1) then ⊥ else expertRow k.a (logit x w b r) t) Finset.univ =
      E (expertOf k.a k.i2) :=
    (fold_max_eq (f := maskedRow x w b r G E k) (a := expertLane (expertOf k.a k.i2)) (fun j => h.le j trivial)).trans
      (masked_second x w b r G E hG hE fG fE k)
  have hl := fold_lane_eq h
  rw [masked_second x w b r G E hG hE fG fE k] at hl
  unfold maskedRow at hl
  rw [hm, hl, lane_eq, select_ofBool]
  simp only [expertLane_inj]
  rfl

end Cert.KernelIdeal.Block
end
-- ==== Proof.BlockValue.lean ====
/-
  The numbers one grid point of the mixture-of-experts call computes: the hidden units of its four experts scaled by
  their gates, their product with the down projection, and the layer norm of the last point.
-/
module

public import proofs.«01_k».proof.Proof.Gates

@[expose] public section

noncomputable section

open Idealize.ShloMosaic Idealize.ShloMosaic.TcCoe Idealize.SL.Sem

namespace Cert.Spec

/-- `z · 1/(1 + e^(0 − z)) · u`, the gated hidden unit. -/
def hiddenOf (z u : EReal) : EReal := z * Ideal.div 1 (1 + Ideal.exp (0 - z)) * u

/-- The residual before the norm: the residual scale times `h`, plus what the experts give. -/
def residualOf (h y : EReal) : EReal := Ideal.ofBits FTy.f32 1068827891#32 * h + y

/-- The mean of a row of 1024. -/
def mean (y : Fin 1024 → EReal) : EReal := Ideal.div (∑ t, y t) (Ideal.ofBits FTy.f32 1149239296#32)

/-- The layer norm of a row of 1024 with scale `g` and shift `b`, at place `l`. -/
def layerNorm (y : Fin 1024 → EReal) (g b : EReal) (l : Fin 1024) : EReal :=
  (y l - mean y) *
      Ideal.rsqrt (Ideal.div (∑ t, (y t - mean y) * (y t - mean y)) (Ideal.ofBits FTy.f32 1149239296#32) +
        Ideal.ofBits FTy.f32 925353388#32) * g + b

end Cert.Spec

namespace Cert.KernelIdeal.Block

open Cert.KernelIdeal Cert.KernelIdeal.Gen Cert.FirstMax Cert.Routing Cert.Spec

/-- Column `f` of expert `j` among a point's 1024 hidden columns. -/
def column (j : Fin 4) (f : Fin 256) : Fin 1024 := ⟨256 * j.val + f.val, by omega⟩

/-- The word the kernel compares the lanes with is the lane of the expert. -/
theorem lane_word (e j : Fin 4) :
    Scalar.addi (Scalar.addi (Scalar.muli (BitVec.ofNat 32 e.val) 4#32) (BitVec.ofNat 32 j.val)) 4#32 =
      BitVec.ofNat 32 (expertLane (expertOf e j)).val := by
  revert e j; decide +kernel

/-- A lane picked out of a row by a masked sum. -/
theorem sum_lane (g : Fin 128 → EReal) (l : Fin 128) :
    ∑ t : Fin 128, Scalar.select (IntOp.cmpi .eq (BitVec.ofNat 32 t.val) (BitVec.ofNat 32 l.val)) (g t) 0 = g l := by
  simp only [lane_eq, select_ofBool]
  simp

variable (i : grid0.Coords) (x : Vec Ideal S640x1024 .bf16) (wg wu wd : Vec Ideal S1x1024x1024 .bf16)
  (g : Vec Ideal S640x128 .f32) (r : Fin 640)

/-- The hidden unit of token `r` in column `c`. -/
theorem pay15_apply (c : Fin 1024) : k0_pay15 x wg wu (ix2 r c) =
    hiddenOf (∑ t : Fin 1024, x (ix2 r t) * wg (ix3 0 t c)) (∑ t : Fin 1024, x (ix2 r t) * wu (ix3 0 t c)) := by
  unfold hiddenOf
  pointwise [k0_pay15, k0_pay13]

/-- The first expert's columns. -/
theorem pay16_apply (e : Fin 4) (he : (i 1).val = e.val) (f : Fin 256) : k0_pay16 i x wg wu g (ix2 r f) =
    k0_pay15 x wg wu (ix2 r ⟨f.val, by omega⟩) * g (ix2 r (expertLane (expertOf e 0))) := by
  pointwise [k0_pay16]
  have hw := lane_word e 0
  rw [show BitVec.ofNat 32 (0 : Fin 4).val = 0#32 from rfl] at hw
  simp only [he, hw, sum_lane (fun t => g (ix2 r t))]

/-- Column `f` of expert `j` of the point: the hidden unit times the expert's gate. -/
theorem scaled_apply (e : Fin 4) (he : (i 1).val = e.val) (j : Fin 4) (f : Fin 256) :
    scaled i x wg wu g (ix2 r (column j f)) =
      k0_pay15 x wg wu (ix2 r (column j f)) * g (ix2 r (expertLane (expertOf e j))) := by
  unfold scaled
  have hw := lane_word e
  have key : ∀ c : Fin 1024, k0_pay17 (BitVec.ofNat 32 (i 1).val) lanes (k0_pay15 x wg wu) g (k0_pay16 i x wg wu g) (ix2 r c) =
      if c.val < 256 then k0_pay15 x wg wu (ix2 r c) * g (ix2 r (expertLane (expertOf e 0)))
      else if c.val - 256 < 256 then k0_pay15 x wg wu (ix2 r c) * g (ix2 r (expertLane (expertOf e 1)))
      else if c.val - 256 - 256 < 256 then k0_pay15 x wg wu (ix2 r c) * g (ix2 r (expertLane (expertOf e 2)))
      else k0_pay15 x wg wu (ix2 r c) * g (ix2 r (expertLane (expertOf e 3))) := by
    intro c
    pointwise [k0_pay17]
    have h1 := hw 1
    have h2 := hw 2
    have h3 := hw 3
    rw [show BitVec.ofNat 32 (1 : Fin 4).val = 1#32 from rfl] at h1
    rw [show BitVec.ofNat 32 (2 : Fin 4).val = 2#32 from rfl] at h2
    rw [show BitVec.ofNat 32 (3 : Fin 4).val = 3#32 from rfl] at h3
    simp only [he, h1, h2, h3, sum_lane (fun t => g (ix2 r t))]
    split
    · rw [pay16_apply i x wg wu g r e he]
    · split
      · congr 3; exact Fin.ext (by simp only; omega)
      · split
        · congr 3; exact Fin.ext (by simp only; omega)
        · congr 3; exact Fin.ext (by simp only; omega)
  rw [key]
  have hf := f.isLt
  fin_cases j
  · rw [if_pos (by simp only [column]; omega)]; rfl
  · rw [if_neg (by simp only [column]; omega), if_pos (by simp only [column]; omega)]; rfl
  · rw [if_neg (by simp only [column]; omega), if_neg (by simp only [column]; omega),
      if_pos (by simp only [column]; omega)]; rfl
  · rw [if_neg (by simp only [column]; omega), if_neg (by simp only [column]; omega),
      if_neg (by simp only [column]; omega)]; rfl

/-- A sum over the 1024 hidden columns is one over the experts and each one's columns. -/
theorem sum_columns (v : Fin 1024 → EReal) : ∑ c, v c = ∑ j : Fin 4, ∑ f : Fin 256, v (column j f) := by
  rw [← Fintype.sum_prod_type' (f := fun j f => v (column j f))]
  refine (Fintype.sum_equiv (finProdFinEquiv (m := 4) (n := 256)) _ _ fun p => ?_).symm
  congr 1
  exact Fin.ext (by simp [column, finProdFinEquiv]; omega)

/-- One accumulation, as a sum over the point's four experts. -/
theorem step_apply (e : Fin 4) (he : (i 1).val = e.val) (acc : Vec Ideal S640x1024 .f32) (l : Fin 1024) :
    step i x wg wu wd g acc (ix2 r l) = acc (ix2 r l) + ∑ j : Fin 4, ∑ f : Fin 256,
      hiddenOf (∑ t : Fin 1024, x (ix2 r t) * wg (ix3 0 t (column j f))) (∑ t : Fin 1024, x (ix2 r t) * wu (ix3 0 t (column j f))) *
        g (ix2 r (expertLane (expertOf e j))) * wd (ix3 0 (column j f) l) := by
  unfold step
  pointwise [k0_pay1]
  rw [sum_columns]
  simp only [scaled_apply i x wg wu g r e he, pay15_apply]

/-- The accumulator starts at zero. -/
theorem clear_apply (l : Fin 1024) : (clear : Vec Ideal S640x1024 .f32) (ix2 r l) = 0 := by
  pointwise [clear, k0_pay14, k0_pay12]

/-- The last point's result: the layer norm of the residual. -/
theorem pay2_apply (h acc : Vec Ideal S640x1024 .f32) (ga be : Vec Ideal S1x1024 .f32) (l : Fin 1024) :
    k0_pay2 h acc ga be (ix2 r l) =
      layerNorm (fun t => residualOf (h (ix2 r t)) (acc (ix2 r t))) (ga (ix2 0 l)) (be (ix2 0 l)) l := by
  unfold layerNorm mean residualOf
  pointwise [k0_pay2]

/-- The second result is the same numbers. -/
theorem pay3_apply (h acc : Vec Ideal S640x1024 .f32) (ga be : Vec Ideal S1x1024 .f32) (l : Fin 1024) :
    k0_pay3 h acc ga be (ix2 r l) =
      layerNorm (fun t => residualOf (h (ix2 r t)) (acc (ix2 r t))) (ga (ix2 0 l)) (be (ix2 0 l)) l := by
  rw [← pay2_apply]
  pointwise [k0_pay3]

end Cert.KernelIdeal.Block
end
-- ==== Proof.HostPrep.lean ====
/-
  What the host prepares for the mixture-of-experts call: the group and expert router weights packed side by side into
  128 lanes, the biases likewise, and the expert weights laid out a group of four experts at a time.
-/
module

public import proofs.«01_k».proof.Proof.BlockValue
public import Idealize.ShloMosaic.Lib.Routing.OpsSet

@[expose] public section

noncomputable section

open Idealize.ShloMosaic Idealize.ShloMosaic.TcCoe Idealize.SL.Sem

namespace Cert.Scatter

/-- The element an update lands at has the update's start plus its window place as coordinates. -/
theorem coords_of_resultIdx? {s si u : Shape} {n : Nat} (d : ScatterDims s si u) (k : u.Idx) (idx : IVec si n) (ι : s.Idx)
    (h : d.resultIdx? k idx = some ι) (a : Fin s.rank) : d.start k idx a + d.window k a = ((ι a).val : Int) := by
  unfold ScatterDims.resultIdx? at h
  split at h
  · rename_i hb
    rw [← Option.some.inj h]
    have := hb a
    simp only
    omega
  · cases h

/-- An update lands where its start plus its window place say, when that is inside the operand. -/
theorem resultIdx?_of_coords {s si u : Shape} {n : Nat} (d : ScatterDims s si u) (k : u.Idx) (idx : IVec si n) (ι : s.Idx)
    (h : ∀ a, d.start k idx a + d.window k a = ((ι a).val : Int)) : d.resultIdx? k idx = some ι := by
  unfold ScatterDims.resultIdx?
  rw [dif_pos fun a => by have := h a; have := (ι a).isLt; omega]
  congr 1
  funext a
  apply Fin.ext
  have := h a
  simp only
  omega

end Cert.Scatter

namespace Cert.KernelIdeal.Block

open Cert.KernelIdeal Cert.KernelIdeal.Gen Cert.FirstMax Cert.Routing Cert.Spec Cert.Scatter

variable (m : (ℓ : Loc nD τ sig) → Buf (Elt Ideal) ℓ) (c : Dev nD)

/-- The packed router weights. -/
def packedW (wgrp : FVec Ideal S1024x4 .f32) (wrt : FVec Ideal S1024x16 .f32) : FVec Ideal S1024x128 .f32 :=
  Host.scatter scatter_S1024x128_S1_S1024x16_01_n_1_0 (fun _ b => b)
    (Host.scatter scatter_S1024x128_S1_S1024x4_01_n_1_0 (fun _ b => b)
      (broadcastInDim S1024x128 ![] bcast_S_S1024x128 (constant S_ .f32 0x00000000#32))
      (broadcastInDim S1 ![] bcast_S_S1 (constantI S_ 32 0#32)) wgrp)
    (broadcastInDim S1 ![] bcast_S_S1 (constantI S_ 32 4#32)) wrt

/-- The packed router biases. -/
def packedB (bgrp : FVec Ideal S4 .f32) (brt : FVec Ideal S16 .f32) : FVec Ideal S1x128 .f32 :=
  Host.scatter scatter_S1x128_S2_S16_0_0_01_0 (fun _ b => b)
    (Host.scatter scatter_S1x128_S2_S4_0_0_01_0 (fun _ b => b)
      (broadcastInDim S1x128 ![] bcast_S_S1x128 (constant S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0) bgrp)
    (concatenate S2 0 [⟨S1, broadcastInDim S1 ![] bcast_S_S1 (constantI S_ 32 0#32)⟩, ⟨S1, broadcastInDim S1 ![] bcast_S_S1 (constantI S_ 32 4#32)⟩] concatenates_S1_S1_S2_d0) brt

/-- Expert weights laid out with the four experts of a group side by side. -/
def grouped (w : FVec Ideal S16x1024x256 .f32) : FVec Ideal S4x1024x1024 .f32 :=
  shapeCast S4x1024x1024 (transpose S4x1024x4x256 [0, 2, 1, 3] (shapeCast S4x4x1024x256 w shapeCasts_S16x1024x256_S4x4x1024x256)
    transposes_S4x4x1024x256_S4x1024x4x256_0_2_1_3) shapeCasts_S4x1024x4x256_S4x1024x1024

section
set_option maxRecDepth 100000
attribute [local irreducible] Host.scatter shapeCast transpose concatenate broadcastInDim truncf constant constantI

theorem V_v0 : V m c main_v0 = (truncf .bf16 (m ((c : Thread nD τ).loc main_arg0)) bitsLt_bf16_f32 : FVec Ideal S33280x1024 .bf16) := by
  rfl

theorem V_v22 : V m c main_v22 = (truncf .bf16 (packedW (m ((c : Thread nD τ).loc main_arg1)) (m ((c : Thread nD τ).loc main_arg3))) bitsLt_bf16_f32 : FVec Ideal S1024x128 .bf16) := by
  rfl

theorem V_v14 : V m c main_v14 = packedB (m ((c : Thread nD τ).loc main_arg2)) (m ((c : Thread nD τ).loc main_arg4)) := by
  rfl

theorem V_v23 : V m c main_v23 = (truncf .bf16 (grouped (m ((c : Thread nD τ).loc main_arg5))) bitsLt_bf16_f32 : FVec Ideal S4x1024x1024 .bf16) := by
  rfl

theorem V_v24 : V m c main_v24 = (truncf .bf16 (grouped (m ((c : Thread nD τ).loc main_arg6))) bitsLt_bf16_f32 : FVec Ideal S4x1024x1024 .bf16) := by
  rfl

theorem V_v25 : V m c main_v25 = (truncf .bf16 (shapeCast S4x1024x1024 (m ((c : Thread nD τ).loc main_arg7) : FVec Ideal S16x256x1024 .f32) shapeCasts_S16x256x1024_S4x1024x1024) bitsLt_bf16_f32 : FVec Ideal S4x1024x1024 .bf16) := by
  rfl

theorem V_v26 : V m c main_v26 = shapeCast S1x1024 (m ((c : Thread nD τ).loc main_arg8) : FVec Ideal S1024 .f32) shapeCasts_S1024_S1x1024 := by
  rfl

theorem V_v27 : V m c main_v27 = shapeCast S1x1024 (m ((c : Thread nD τ).loc main_arg9) : FVec Ideal S1024 .f32) shapeCasts_S1024_S1x1024 := by
  rfl

end

/-! ### The packed router -/

theorem start4_0 (k : S1024x4.Idx) (w : BitVec 32) :
    scatter_S1024x128_S1_S1024x4_01_n_1_0.start k (broadcastInDim S1 ![] bcast_S_S1 (constantI S_ 32 w)) 0 = 0 := rfl
theorem start4_1 (k : S1024x4.Idx) (w : BitVec 32) :
    scatter_S1024x128_S1_S1024x4_01_n_1_0.start k (broadcastInDim S1 ![] bcast_S_S1 (constantI S_ 32 w)) 1 = w.toInt := rfl
theorem window4_0 (k : S1024x4.Idx) : scatter_S1024x128_S1_S1024x4_01_n_1_0.window k 0 = (k 0).val := rfl
theorem window4_1 (k : S1024x4.Idx) : scatter_S1024x128_S1_S1024x4_01_n_1_0.window k 1 = (k 1).val := rfl
theorem start16_0 (k : S1024x16.Idx) (w : BitVec 32) :
    scatter_S1024x128_S1_S1024x16_01_n_1_0.start k (broadcastInDim S1 ![] bcast_S_S1 (constantI S_ 32 w)) 0 = 0 := rfl
theorem start16_1 (k : S1024x16.Idx) (w : BitVec 32) :
    scatter_S1024x128_S1_S1024x16_01_n_1_0.start k (broadcastInDim S1 ![] bcast_S_S1 (constantI S_ 32 w)) 1 = w.toInt := rfl
theorem window16_0 (k : S1024x16.Idx) : scatter_S1024x128_S1_S1024x16_01_n_1_0.window k 0 = (k 0).val := rfl
theorem window16_1 (k : S1024x16.Idx) : scatter_S1024x128_S1_S1024x16_01_n_1_0.window k 1 = (k 1).val := rfl

theorem bstart4_0 (k : S4.Idx) (v w : BitVec 32) :
    scatter_S1x128_S2_S4_0_0_01_0.start k (concatenate S2 0 [⟨S1, broadcastInDim S1 ![] bcast_S_S1 (constantI S_ 32 v)⟩, ⟨S1, broadcastInDim S1 ![] bcast_S_S1 (constantI S_ 32 w)⟩] concatenates_S1_S1_S2_d0) 0 = v.toInt := rfl
theorem bstart4_1 (k : S4.Idx) (v w : BitVec 32) :
    scatter_S1x128_S2_S4_0_0_01_0.start k (concatenate S2 0 [⟨S1, broadcastInDim S1 ![] bcast_S_S1 (constantI S_ 32 v)⟩, ⟨S1, broadcastInDim S1 ![] bcast_S_S1 (constantI S_ 32 w)⟩] concatenates_S1_S1_S2_d0) 1 = w.toInt := rfl
theorem bwindow4_0 (k : S4.Idx) : scatter_S1x128_S2_S4_0_0_01_0.window k 0 = 0 := rfl
theorem bwindow4_1 (k : S4.Idx) : scatter_S1x128_S2_S4_0_0_01_0.window k 1 = (k 0).val := rfl
theorem bstart16_0 (k : S16.Idx) (v w : BitVec 32) :
    scatter_S1x128_S2_S16_0_0_01_0.start k (concatenate S2 0 [⟨S1, broadcastInDim S1 ![] bcast_S_S1 (constantI S_ 32 v)⟩, ⟨S1, broadcastInDim S1 ![] bcast_S_S1 (constantI S_ 32 w)⟩] concatenates_S1_S1_S2_d0) 0 = v.toInt := rfl
theorem bstart16_1 (k : S16.Idx) (v w : BitVec 32) :
    scatter_S1x128_S2_S16_0_0_01_0.start k (concatenate S2 0 [⟨S1, broadcastInDim S1 ![] bcast_S_S1 (constantI S_ 32 v)⟩, ⟨S1, broadcastInDim S1 ![] bcast_S_S1 (constantI S_ 32 w)⟩] concatenates_S1_S1_S2_d0) 1 = w.toInt := rfl
theorem bwindow16_0 (k : S16.Idx) : scatter_S1x128_S2_S16_0_0_01_0.window k 0 = 0 := rfl
theorem bwindow16_1 (k : S16.Idx) : scatter_S1x128_S2_S16_0_0_01_0.window k 1 = (k 0).val := rfl

/-- A group lane of the packed router weights is the group router's weight. -/
theorem packedW_group (wgrp : FVec Ideal S1024x4 .f32) (wrt : FVec Ideal S1024x16 .f32) (t : Fin 1024) (j : Fin 4) :
    packedW wgrp wrt (ix2 t (groupLane j)) = wgrp (ix2 t j) := by
  unfold packedW
  refine (Routing.scatter_set_miss _ _ _ _ _ fun k hk => ?_).trans
    (Routing.scatter_set_hit _ _ _ _ _ _ (fun k hk => ?_) (ix2 t j) ?_)
  · have h1 := coords_of_resultIdx? _ _ _ _ hk 1
    rw [start16_1, window16_1, show (4#32).toInt = 4 from rfl, ix2_1, groupLane] at h1
    simp only at h1
    omega
  · have h0 := coords_of_resultIdx? _ _ _ _ hk 0
    have h1 := coords_of_resultIdx? _ _ _ _ hk 1
    rw [start4_0, window4_0, ix2_0] at h0
    rw [start4_1, window4_1, show (0#32).toInt = 0 from rfl, ix2_1, groupLane] at h1
    rw [eq_ix2 k]
    congr 2
    · exact Fin.ext (by omega)
    · exact Fin.ext (by simp only at h1; omega)
  · refine resultIdx?_of_coords _ _ _ _ fun a => ?_
    match a with
    | ⟨0, _⟩ => exact zero_add (t.val : Int)
    | ⟨1, _⟩ => exact zero_add (j.val : Int)

/-- An expert lane of the packed router weights is the expert router's weight. -/
theorem packedW_expert (wgrp : FVec Ideal S1024x4 .f32) (wrt : FVec Ideal S1024x16 .f32) (t : Fin 1024) (e : Fin 16) :
    packedW wgrp wrt (ix2 t (expertLane e)) = wrt (ix2 t e) := by
  unfold packedW
  refine Routing.scatter_set_hit _ _ _ _ _ _ (fun k hk => ?_) (ix2 t e) ?_
  · have h0 := coords_of_resultIdx? _ _ _ _ hk 0
    have h1 := coords_of_resultIdx? _ _ _ _ hk 1
    rw [start16_0, window16_0, ix2_0] at h0
    rw [start16_1, window16_1, show (4#32).toInt = 4 from rfl, ix2_1, expertLane] at h1
    rw [eq_ix2 k]
    congr 2
    · exact Fin.ext (by omega)
    · exact Fin.ext (by simp only at h1; omega)
  · refine resultIdx?_of_coords _ _ _ _ fun a => ?_
    match a with
    | ⟨0, _⟩ => exact zero_add (t.val : Int)
    | ⟨1, _⟩ => exact (Nat.cast_add 4 e.val).symm

/-- A group lane of the packed biases is the group router's bias. -/
theorem packedB_group (bgrp : FVec Ideal S4 .f32) (brt : FVec Ideal S16 .f32) (j : Fin 4) :
    packedB bgrp brt (ix2 0 (groupLane j)) = bgrp (ix1 j) := by
  unfold packedB
  refine (Routing.scatter_set_miss _ _ _ _ _ fun k hk => ?_).trans
    (Routing.scatter_set_hit _ _ _ _ _ _ (fun k hk => ?_) (ix1 j) ?_)
  · have h1 := coords_of_resultIdx? _ _ _ _ hk 1
    rw [bstart16_1, bwindow16_1, show (4#32).toInt = 4 from rfl, ix2_1, groupLane] at h1
    simp only at h1
    omega
  · have h1 := coords_of_resultIdx? _ _ _ _ hk 1
    rw [bstart4_1, bwindow4_1, show (0#32).toInt = 0 from rfl, ix2_1, groupLane] at h1
    rw [eq_ix1 k]
    congr 2
    exact Fin.ext (by simp only at h1; omega)
  · refine resultIdx?_of_coords _ _ _ _ fun a => ?_
    match a with
    | ⟨0, _⟩ => rfl
    | ⟨1, _⟩ => exact zero_add (j.val : Int)

/-- An expert lane of the packed biases is the expert router's bias. -/
theorem packedB_expert (bgrp : FVec Ideal S4 .f32) (brt : FVec Ideal S16 .f32) (e : Fin 16) :
    packedB bgrp brt (ix2 0 (expertLane e)) = brt (ix1 e) := by
  unfold packedB
  refine Routing.scatter_set_hit _ _ _ _ _ _ (fun k hk => ?_) (ix1 e) ?_
  · have h1 := coords_of_resultIdx? _ _ _ _ hk 1
    rw [bstart16_1, bwindow16_1, show (4#32).toInt = 4 from rfl, ix2_1, expertLane] at h1
    rw [eq_ix1 k]
    congr 2
    exact Fin.ext (by simp only at h1; omega)
  · refine resultIdx?_of_coords _ _ _ _ fun a => ?_
    match a with
    | ⟨0, _⟩ => rfl
    | ⟨1, _⟩ => exact (Nat.cast_add 4 e.val).symm

/-! ### The expert weights -/

/-- Column `f` of expert `j` in group `e`'s weights is column `f` of that expert's own. -/
theorem grouped_apply (w : FVec Ideal S16x1024x256 .f32) (e : Fin 4) (t : Fin 1024) (j : Fin 4) (f : Fin 256) :
    grouped w (ix3 e t (column j f)) = w (ix3 (expertOf e j) t f) := by
  unfold grouped
  refine (shapeCast_apply _ shapeCasts_S4x1024x4x256_S4x1024x1024 _ (ix4 e t j f) ?_).trans
    ((transpose_apply [0, 2, 1, 3] _ transposes_S4x4x1024x256_S4x1024x4x256_0_2_1_3 _ (ix4 e j t f) ?_).trans
      (shapeCast_apply _ shapeCasts_S16x1024x256_S4x4x1024x256 _ (ix3 (expertOf e j) t f) ?_))
  · rw [Shape.rowMajor_val_three, Shape.rowMajor_val_four]
    show ((e.val * 1024 + t.val) * 4 + j.val) * 256 + f.val = (e.val * 1024 + t.val) * 1024 + (256 * j.val + f.val)
    ring
  · intro b
    match b with
    | ⟨0, _⟩ => rfl
    | ⟨1, _⟩ => rfl
    | ⟨2, _⟩ => rfl
    | ⟨3, _⟩ => rfl
  · rw [Shape.rowMajor_val_three, Shape.rowMajor_val_four]
    show ((4 * e.val + j.val) * 1024 + t.val) * 256 + f.val = ((e.val * 4 + j.val) * 1024 + t.val) * 256 + f.val
    ring

/-- Row `f` of expert `j` in group `e`'s down projection is row `f` of that expert's own. -/
theorem down_apply (w : FVec Ideal S16x256x1024 .f32) (e j : Fin 4) (f : Fin 256) (l : Fin 1024) :
    shapeCast S4x1024x1024 w shapeCasts_S16x256x1024_S4x1024x1024 (ix3 e (column j f) l) = w (ix3 (expertOf e j) f l) := by
  refine shapeCast_apply _ shapeCasts_S16x256x1024_S4x1024x1024 _ (ix3 (expertOf e j) f l) ?_
  rw [Shape.rowMajor_val_three, Shape.rowMajor_val_three]
  show ((4 * e.val + j.val) * 256 + f.val) * 1024 + l.val = (e.val * 1024 + (256 * j.val + f.val)) * 1024 + l.val
  ring

/-- A vector of 1024 laid out as one row. -/
theorem row_apply (v : FVec Ideal S1024 .f32) (l : Fin 1024) :
    shapeCast S1x1024 v shapeCasts_S1024_S1x1024 (ix2 0 l) = v (ix1 l) := by
  refine shapeCast_apply _ shapeCasts_S1024_S1x1024 _ (ix1 l) ?_
  rw [Shape.rowMajor_val_one, Shape.rowMajor_val_two]
  show l.val = 0 * 1024 + l.val
  ring

end Cert.KernelIdeal.Block
end
-- ==== Proof.Tile.lean ====
/-
  The blocks a grid point reads, in terms of the call's arguments.  Point `4q + e` reads tile `q` of 640 tokens and the
  weights of the experts of group `e`.
-/
module

public import proofs.«01_k».proof.Proof.HostPrep

@[expose] public section

noncomputable section

open Idealize.ShloMosaic Idealize.ShloMosaic.TcCoe Idealize.SL.Sem

namespace Cert.KernelIdeal.Block

open Cert.KernelIdeal Cert.KernelIdeal.Gen Cert.FirstMax Cert.Routing Cert.Spec Cert.Scatter

variable (m : (ℓ : Loc nD τ sig) → Buf (Elt Ideal) ℓ) (c : Dev nD)

/-- Row `r` of tile `q`. -/
def rowOf (q : Fin 52) (r : Fin 640) : Fin 33280 := ⟨640 * q.val + r.val, by omega⟩

/-- The arguments as arrays of numbers. -/
abbrev aH : FVec Ideal S33280x1024 .f32 := m ((c : Thread nD τ).loc main_arg0)
abbrev aWgrp : FVec Ideal S1024x4 .f32 := m ((c : Thread nD τ).loc main_arg1)
abbrev aBgrp : FVec Ideal S4 .f32 := m ((c : Thread nD τ).loc main_arg2)
abbrev aWrt : FVec Ideal S1024x16 .f32 := m ((c : Thread nD τ).loc main_arg3)
abbrev aBrt : FVec Ideal S16 .f32 := m ((c : Thread nD τ).loc main_arg4)
abbrev aGate : FVec Ideal S16x1024x256 .f32 := m ((c : Thread nD τ).loc main_arg5)
abbrev aUp : FVec Ideal S16x1024x256 .f32 := m ((c : Thread nD τ).loc main_arg6)
abbrev aDown : FVec Ideal S16x256x1024 .f32 := m ((c : Thread nD τ).loc main_arg7)
abbrev aG : FVec Ideal S1024 .f32 := m ((c : Thread nD τ).loc main_arg8)
abbrev aB : FVec Ideal S1024 .f32 := m ((c : Thread nD τ).loc main_arg9)

/-- Where the windows stand at a point. -/
theorem places : ∀ t : Fin cfg0.N,
    (win0_0.index t (0 : Fin 2) = t.val / 4 ∧ win0_0.index t (1 : Fin 2) = 0) ∧
    (win0_1.index t (0 : Fin 2) = t.val / 4 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 3) = t.val % 4 ∧ win0_4.index t (1 : Fin 3) = 0 ∧ win0_4.index t (2 : Fin 3) = 0) ∧
    (win0_5.index t (0 : Fin 3) = t.val % 4 ∧ win0_5.index t (1 : Fin 3) = 0 ∧ win0_5.index t (2 : Fin 3) = 0) ∧
    (win0_6.index t (0 : Fin 3) = t.val % 4 ∧ win0_6.index t (1 : Fin 3) = 0 ∧ win0_6.index t (2 : Fin 3) = 0) ∧
    (win0_7.index t (0 : Fin 2) = 0 ∧ win0_7.index t (1 : Fin 2) = 0) ∧
    (win0_8.index t (0 : Fin 2) = 0 ∧ win0_8.index t (1 : Fin 2) = 0) ∧
    (grid0.coords t (1 : Fin 2)).val = t.val % 4 :=
  (by decide +kernel : ∀ t : Fin grid0.N, _)

attribute [local irreducible] packedW packedB grouped shapeCast

variable (q : Fin 52) (e : Fin 4) (t : Fin cfg0.N) (ht : t.val = 4 * q.val + e.val)
include ht

/-- The tile's tokens. -/
theorem block0 (r : Fin 640) (l : Fin 1024) :
    (iblk m c 0 t : Vec Ideal S640x1024 .f32) (ix2 r l) = aH m c (ix2 (rowOf q r) l) := by
  obtain ⟨⟨p0, p1⟩, -⟩ := places t
  unfold iblk
  rw [View.read_apply]
  refine (congrFun (V_main_arg0 m c) _).trans (congrArg (aH m c) ?_)
  funext a
  apply Fin.ext
  match a with
  | ⟨0, _⟩ => show win0_0.index t 0 * 640 + 1 * r.val = 640 * q.val + r.val; rw [p0]; omega
  | ⟨1, _⟩ => show win0_0.index t 1 * 1024 + 1 * l.val = l.val; rw [p1]; omega

/-- The tile's tokens, as the products read them. -/
theorem block1 (r : Fin 640) (l : Fin 1024) :
    (iblk m c 1 t : Vec Ideal S640x1024 .bf16) (ix2 r l) = aH m c (ix2 (rowOf q r) l) := by
  obtain ⟨-, ⟨p0, p1⟩, -⟩ := places t
  unfold iblk
  rw [View.read_apply]
  refine (congrFun (V_v0 m c) _).trans (congrArg (aH m c) ?_)
  funext a
  apply Fin.ext
  match a with
  | ⟨0, _⟩ => show win0_1.index t 0 * 640 + 1 * r.val = 640 * q.val + r.val; rw [p0]; omega
  | ⟨1, _⟩ => show win0_1.index t 1 * 1024 + 1 * l.val = l.val; rw [p1]; omega

/-- The packed router weights, whole. -/
theorem block2 (k : Fin 1024) (l : Fin 128) :
    (iblk m c 2 t : Vec Ideal S1024x128 .bf16) (ix2 k l) = packedW (aWgrp m c) (aWrt m c) (ix2 k l) := by
  obtain ⟨-, -, ⟨p0, p1⟩, -⟩ := places t
  unfold iblk
  rw [View.read_apply]
  refine (congrFun (V_v22 m c) _).trans (congrArg (packedW (aWgrp m c) (aWrt m c)) ?_)
  funext a
  apply Fin.ext
  match a with
  | ⟨0, _⟩ => show win0_2.index t 0 * 1024 + 1 * k.val = k.val; rw [p0]; omega
  | ⟨1, _⟩ => show win0_2.index t 1 * 128 + 1 * l.val = l.val; rw [p1]; omega

/-- The packed router biases, whole. -/
theorem block3 (l : Fin 128) :
    (iblk m c 3 t : Vec Ideal S1x128 .f32) (ix2 0 l) = packedB (aBgrp m c) (aBrt m c) (ix2 0 l) := by
  obtain ⟨-, -, -, ⟨p0, p1⟩, -⟩ := places t
  unfold iblk
  rw [View.read_apply]
  refine (congrFun (V_v14 m c) _).trans (congrArg (packedB (aBgrp m c) (aBrt m c)) ?_)
  funext a
  apply Fin.ext
  match a with
  | ⟨0, _⟩ => show win0_3.index t 0 * 1 + 1 * 0 = 0; rw [p0]
  | ⟨1, _⟩ => show win0_3.index t 1 * 128 + 1 * l.val = l.val; rw [p1]; omega

/-- The gate projections of the group's experts. -/
theorem block4 (k : Fin 1024) (j : Fin 4) (f : Fin 256) :
    (iblk m c 4 t : Vec Ideal S1x1024x1024 .bf16) (ix3 0 k (column j f)) = aGate m c (ix3 (expertOf e j) k f) := by
  obtain ⟨-, -, -, -, ⟨p0, p1, p2⟩, -⟩ := places t
  rw [← grouped_apply (aGate m c) e k j f]
  unfold iblk
  rw [View.read_apply]
  refine (congrFun (V_v23 m c) _).trans (congrArg (grouped (aGate m c)) ?_)
  funext a
  apply Fin.ext
  match a with
  | ⟨0, _⟩ => show win0_4.index t 0 * 1 + 1 * 0 = e.val; rw [p0]; omega
  | ⟨1, _⟩ => show win0_4.index t 1 * 1024 + 1 * k.val = k.val; rw [p1]; omega
  | ⟨2, _⟩ => show win0_4.index t 2 * 1024 + 1 * (column j f).val = (column j f).val; rw [p2]; omega

/-- The up projections of the group's experts. -/
theorem block5 (k : Fin 1024) (j : Fin 4) (f : Fin 256) :
    (iblk m c 5 t : Vec Ideal S1x1024x1024 .bf16) (ix3 0 k (column j f)) = aUp m c (ix3 (expertOf e j) k f) := by
  obtain ⟨-, -, -, -, -, ⟨p0, p1, p2⟩, -⟩ := places t
  rw [← grouped_apply (aUp m c) e k j f]
  unfold iblk
  rw [View.read_apply]
  refine (congrFun (V_v24 m c) _).trans (congrArg (grouped (aUp m c)) ?_)
  funext a
  apply Fin.ext
  match a with
  | ⟨0, _⟩ => show win0_5.index t 0 * 1 + 1 * 0 = e.val; rw [p0]; omega
  | ⟨1, _⟩ => show win0_5.index t 1 * 1024 + 1 * k.val = k.val; rw [p1]; omega
  | ⟨2, _⟩ => show win0_5.index t 2 * 1024 + 1 * (column j f).val = (column j f).val; rw [p2]; omega

/-- The down projections of the group's experts. -/
theorem block6 (j : Fin 4) (f : Fin 256) (l : Fin 1024) :
    (iblk m c 6 t : Vec Ideal S1x1024x1024 .bf16) (ix3 0 (column j f) l) = aDown m c (ix3 (expertOf e j) f l) := by
  obtain ⟨-, -, -, -, -, -, ⟨p0, p1, p2⟩, -⟩ := places t
  rw [← down_apply (aDown m c) e j f l]
  unfold iblk
  rw [View.read_apply]
  refine (congrFun (V_v25 m c) _).trans (congrArg (shapeCast S4x1024x1024 (aDown m c) shapeCasts_S16x256x1024_S4x1024x1024) ?_)
  funext a
  apply Fin.ext
  match a with
  | ⟨0, _⟩ => show win0_6.index t 0 * 1 + 1 * 0 = e.val; rw [p0]; omega
  | ⟨1, _⟩ => show win0_6.index t 1 * 1024 + 1 * (column j f).val = (column j f).val; rw [p1]; omega
  | ⟨2, _⟩ => show win0_6.index t 2 * 1024 + 1 * l.val = l.val; rw [p2]; omega

/-- The norm's scale. -/
theorem block7 (l : Fin 1024) : (iblk m c 7 t : Vec Ideal S1x1024 .f32) (ix2 0 l) = aG m c (ix1 l) := by
  obtain ⟨-, -, -, -, -, -, -, ⟨p0, p1⟩, -⟩ := places t
  rw [← row_apply (aG m c) l]
  unfold iblk
  rw [View.read_apply]
  refine (congrFun (V_v26 m c) _).trans (congrArg (shapeCast S1x1024 (aG m c) shapeCasts_S1024_S1x1024) ?_)
  funext a
  apply Fin.ext
  match a with
  | ⟨0, _⟩ => show win0_7.index t 0 * 1 + 1 * 0 = 0; rw [p0]
  | ⟨1, _⟩ => show win0_7.index t 1 * 1024 + 1 * l.val = l.val; rw [p1]; omega

/-- The norm's shift. -/
theorem block8 (l : Fin 1024) : (iblk m c 8 t : Vec Ideal S1x1024 .f32) (ix2 0 l) = aB m c (ix1 l) := by
  obtain ⟨-, -, -, -, -, -, -, -, ⟨p0, p1⟩, -⟩ := places t
  rw [← row_apply (aB m c) l]
  unfold iblk
  rw [View.read_apply]
  refine (congrFun (V_v27 m c) _).trans (congrArg (shapeCast S1x1024 (aB m c) shapeCasts_S1024_S1x1024) ?_)
  funext a
  apply Fin.ext
  match a with
  | ⟨0, _⟩ => show win0_8.index t 0 * 1 + 1 * 0 = 0; rw [p0]
  | ⟨1, _⟩ => show win0_8.index t 1 * 1024 + 1 * l.val = l.val; rw [p1]; omega

/-- The point's second grid coordinate is its group. -/
theorem coord : (grid0.coords t (1 : Fin 2)).val = e.val := by
  obtain ⟨-, -, -, -, -, -, -, -, -, p⟩ := places t
  rw [p]; omega

end Cert.KernelIdeal.Block
end
-- ==== Proof.Fold.lean ====
/-
  What the mixture-of-experts call leaves in its results: the four points of a tile run one after the other, the gates
  stay as the first one left them, and each adds its group of experts to the accumulator.
-/
module

public import proofs.«01_k».proof.Proof.Tile

@[expose] public section

noncomputable section

open Idealize.ShloMosaic Idealize.ShloMosaic.TcCoe Idealize.SL.Sem

namespace Cert.Spec

open Cert.Routing

/-- The logit of group `j` for token `n`. -/
def groupLogit (h : FVec Ideal ⟨2, ![33280, 1024]⟩ .f32) (w : FVec Ideal ⟨2, ![1024, 4]⟩ .f32) (b : FVec Ideal ⟨1, ![4]⟩ .f32)
    (n : Fin 33280) (j : Fin 4) : EReal := (∑ t : Fin 1024, h (ix2 n t) * w (ix2 t j)) + b (ix1 j)

/-- The logit of expert `e` for token `n`. -/
def expertLogit (h : FVec Ideal ⟨2, ![33280, 1024]⟩ .f32) (w : FVec Ideal ⟨2, ![1024, 16]⟩ .f32) (b : FVec Ideal ⟨1, ![16]⟩ .f32)
    (n : Fin 33280) (e : Fin 16) : EReal := (∑ t : Fin 1024, h (ix2 n t) * w (ix2 t e)) + b (ix1 e)

/-- Hidden unit `f` of expert `e` for token `n`. -/
def unitOf (h : FVec Ideal ⟨2, ![33280, 1024]⟩ .f32) (wg wu : FVec Ideal ⟨3, ![16, 1024, 256]⟩ .f32)
    (n : Fin 33280) (e : Fin 16) (f : Fin 256) : EReal :=
  hiddenOf (∑ t : Fin 1024, h (ix2 n t) * wg (ix3 e t f)) (∑ t : Fin 1024, h (ix2 n t) * wu (ix3 e t f))

/-- What the experts give token `n` at place `l`, each hidden unit scaled by its expert's gate. -/
def mixture (gt : Fin 16 → EReal) (h : FVec Ideal ⟨2, ![33280, 1024]⟩ .f32) (wg wu : FVec Ideal ⟨3, ![16, 1024, 256]⟩ .f32)
    (wd : FVec Ideal ⟨3, ![16, 256, 1024]⟩ .f32) (n : Fin 33280) (l : Fin 1024) : EReal :=
  ∑ e : Fin 16, ∑ f : Fin 256, unitOf h wg wu n e f * gt e * wd (ix3 e f l)

/-- The layer's output for token `n` at place `l`. -/
def outputOf (gt : Fin 16 → EReal) (h : FVec Ideal ⟨2, ![33280, 1024]⟩ .f32) (wg wu : FVec Ideal ⟨3, ![16, 1024, 256]⟩ .f32)
    (wd : FVec Ideal ⟨3, ![16, 256, 1024]⟩ .f32) (ga be : FVec Ideal ⟨1, ![1024]⟩ .f32) (n : Fin 33280) (l : Fin 1024) : EReal :=
  layerNorm (fun t => residualOf (h (ix2 n t)) (mixture gt h wg wu wd n t)) (ga (ix1 l)) (be (ix1 l)) l

/-- A sum over the sixteen experts is one over the groups and each one's four. -/
theorem sum_experts (v : Fin 16 → EReal) : ∑ e, v e = ∑ a : Fin 4, ∑ j : Fin 4, v (expertOf a j) := by
  rw [← Fintype.sum_prod_type' (f := fun a j => v (expertOf a j))]
  refine (Fintype.sum_equiv (finProdFinEquiv (m := 4) (n := 4)) _ _ fun p => ?_).symm
  congr 1
  exact Fin.ext (by simp [expertOf, finProdFinEquiv]; omega)

end Cert.Spec

namespace Cert.KernelIdeal.Block

open Cert.KernelIdeal Cert.KernelIdeal.Gen Cert.KernelIdeal.Value Cert.FirstMax Cert.Routing Cert.Spec Cert.Scatter

variable (m : (ℓ : Loc nD τ sig) → Buf (Elt Ideal) ℓ) (c : Dev nD)

/-- The gates of the tile of point `t`, as the router computes them there. -/
abbrev gatesAt (t : Fin cfg0.N) : Vec Ideal S640x128 .f32 := gates (iblk m c 1 t) (iblk m c 2 t) (iblk m c 3 t)

/-- Point `t`'s accumulation. -/
abbrev stepAt (t : Fin cfg0.N) (g : Vec Ideal S640x128 .f32) (acc : Vec Ideal S640x1024 .f32) : Vec Ideal S640x1024 .f32 :=
  step (grid0.coords t) (iblk m c 1 t) (iblk m c 4 t) (iblk m c 5 t) (iblk m c 6 t) g acc

/-- The scratches after the first point of a tile. -/
theorem scratch_A (t : Fin cfg0.N) (h0 : t.val % 4 = 0) :
    (outsAt0 m c t.val t.isLt).2.2 = (gatesAt m c t, stepAt m c t (gatesAt m c t) clear) := by
  rw [outsAt0_A m c t h0 (by omega)]
  dsimp only
  rw [gates_A, acc_A]

/-- The scratches after a middle point. -/
theorem scratch_B (n : ℕ) (hn : n + 1 < cfg0.N) (h0 : ¬(n + 1) % 4 = 0) (h1 : ¬(n + 1) % 4 = 3) :
    (outsAt0 m c (n + 1) hn).2.2 = ((outsAt0 m c n (Nat.lt_of_succ_lt hn)).2.2.1,
      stepAt m c ⟨n + 1, hn⟩ (outsAt0 m c n (Nat.lt_of_succ_lt hn)).2.2.1 (outsAt0 m c n (Nat.lt_of_succ_lt hn)).2.2.2) := by
  rw [outsAt0_succ, stAt0_B m c ⟨n + 1, hn⟩ _ h0 h1]
  dsimp only
  rw [acc_B]
  rfl

/-- The first result's block after the last point. -/
theorem out_C (n : ℕ) (hn : n + 1 < cfg0.N) (h1 : (n + 1) % 4 = 3) :
    (outsAt0 m c (n + 1) hn).1 = k0_pay2 (iblk m c 0 ⟨n + 1, hn⟩)
      (stepAt m c ⟨n + 1, hn⟩ (outsAt0 m c n (Nat.lt_of_succ_lt hn)).2.2.1 (outsAt0 m c n (Nat.lt_of_succ_lt hn)).2.2.2)
      (iblk m c 7 ⟨n + 1, hn⟩) (iblk m c 8 ⟨n + 1, hn⟩) := by
  rw [outsAt0_succ, stAt0_C m c ⟨n + 1, hn⟩ _ (by dsimp only; omega) h1]
  dsimp only
  rw [out_C_9]

/-- The second result's block after the last point. -/
theorem out_C' (n : ℕ) (hn : n + 1 < cfg0.N) (h1 : (n + 1) % 4 = 3) :
    (outsAt0 m c (n + 1) hn).2.1 = k0_pay3 (iblk m c 0 ⟨n + 1, hn⟩)
      (stepAt m c ⟨n + 1, hn⟩ (outsAt0 m c n (Nat.lt_of_succ_lt hn)).2.2.1 (outsAt0 m c n (Nat.lt_of_succ_lt hn)).2.2.2)
      (iblk m c 7 ⟨n + 1, hn⟩) (iblk m c 8 ⟨n + 1, hn⟩) := by
  rw [outsAt0_succ, stAt0_C m c ⟨n + 1, hn⟩ _ (by dsimp only; omega) h1]
  dsimp only
  rw [out_C_10]

variable (q : Fin 52)

/-- Point `e` of tile `q`. -/
def point (e : Fin 4) : Fin cfg0.N := ⟨4 * q.val + e.val, by show _ < grid0.N; rw [N_0]; omega⟩

/-- The number of that point. -/
theorem point_val (e : Fin 4) : (point q e).val = 4 * q.val + e.val := rfl

variable (r : Fin 640)
  (k : Choice (groupLogit (aH m c) (aWgrp m c) (aBgrp m c) (rowOf q r)) (expertLogit (aH m c) (aWrt m c) (aBrt m c) (rowOf q r)))
  (fG : ∀ j, Fin' (groupLogit (aH m c) (aWgrp m c) (aBgrp m c) (rowOf q r) j))
  (fE : ∀ e, Fin' (expertLogit (aH m c) (aWrt m c) (aBrt m c) (rowOf q r) e))

include fG fE in
/-- The gates the first point of a tile leaves, at a token. -/
theorem gatesAt_apply (e : Fin 16) : gatesAt m c (point q 0) (ix2 r (expertLane e)) = gate k e := by
  have hx := fun l => block1 m c q 0 (point q 0) rfl r l
  have hw := fun t l => block2 m c q 0 (point q 0) rfl t l
  have hb := fun l => block3 m c q 0 (point q 0) rfl l
  unfold gatesAt
  revert hx hw hb
  generalize (iblk m c 1 (point q 0) : Vec Ideal S640x1024 .bf16) = x
  generalize (iblk m c 2 (point q 0) : Vec Ideal S1024x128 .bf16) = w
  generalize (iblk m c 3 (point q 0) : Vec Ideal S1x128 .f32) = b
  intro hx hw hb
  refine gates_apply x w b r _ _ (fun j => ?_) (fun e => ?_) fG fE k e
  · unfold logit groupLogit
    refine congrArg₂ (fun a b : EReal => a + b) (Finset.sum_congr rfl fun t _ => ?_) ((hb _).trans (packedB_group _ _ j))
    exact congrArg₂ (fun a b : EReal => a * b) (hx t) ((hw t _).trans (packedW_group _ _ t j))
  · unfold logit expertLogit
    refine congrArg₂ (fun a b : EReal => a + b) (Finset.sum_congr rfl fun t _ => ?_) ((hb _).trans (packedB_expert _ _ e))
    exact congrArg₂ (fun a b : EReal => a * b) (hx t) ((hw t _).trans (packedW_expert _ _ t e))

/-- One point's accumulation at a token. -/
theorem stepAt_apply (gt : Fin 16 → EReal) (g : Vec Ideal S640x128 .f32) (hg : ∀ e, g (ix2 r (expertLane e)) = gt e)
    (e : Fin 4) (acc : Vec Ideal S640x1024 .f32) (l : Fin 1024) :
    stepAt m c (point q e) g acc (ix2 r l) = acc (ix2 r l) + ∑ j : Fin 4, ∑ f : Fin 256,
      unitOf (aH m c) (aGate m c) (aUp m c) (rowOf q r) (expertOf e j) f * gt (expertOf e j) * aDown m c (ix3 (expertOf e j) f l) := by
  have hc := coord q e (point q e) rfl
  have hx := fun l => block1 m c q e (point q e) rfl r l
  have hg' := fun k j f => block4 m c q e (point q e) rfl k j f
  have hu := fun k j f => block5 m c q e (point q e) rfl k j f
  have hd := fun j f l => block6 m c q e (point q e) rfl j f l
  unfold stepAt
  revert hc hx hg' hu hd
  generalize grid0.coords (point q e) = i
  generalize (iblk m c 1 (point q e) : Vec Ideal S640x1024 .bf16) = x
  generalize (iblk m c 4 (point q e) : Vec Ideal S1x1024x1024 .bf16) = wg
  generalize (iblk m c 5 (point q e) : Vec Ideal S1x1024x1024 .bf16) = wu
  generalize (iblk m c 6 (point q e) : Vec Ideal S1x1024x1024 .bf16) = wd
  intro hc hx hg' hu hd
  refine (step_apply i x wg wu wd g r e hc acc l).trans ?_
  refine congrArg (fun a : EReal => acc (ix2 r l) + a) (Finset.sum_congr rfl fun j _ => Finset.sum_congr rfl fun f _ => ?_)
  refine congrArg₂ (fun a b : EReal => a * b) (congrArg₂ (fun a b : EReal => a * b) ?_ (hg _)) (hd j f l)
  unfold unitOf
  refine congrArg₂ hiddenOf (Finset.sum_congr rfl fun t _ => ?_) (Finset.sum_congr rfl fun t _ => ?_)
  · exact congrArg₂ (fun a b : EReal => a * b) (hx t) (hg' t j f)
  · exact congrArg₂ (fun a b : EReal => a * b) (hx t) (hu t j f)

/-- The gates stay, and the accumulator collects the experts, up to the third point. -/
theorem scratches (h : 4 * q.val + 2 < cfg0.N) :
    (outsAt0 m c (4 * q.val + 2) h).2.2 = (gatesAt m c (point q 0),
      stepAt m c (point q 2) (gatesAt m c (point q 0)) (stepAt m c (point q 1) (gatesAt m c (point q 0))
        (stepAt m c (point q 0) (gatesAt m c (point q 0)) clear))) := by
  have h0 : (point q 0).val % 4 = 0 := by
    rw [point_val, Fin.val_zero]
    omega
  have e0 := scratch_A m c (point q 0) h0
  have e1 := scratch_B m c (4 * q.val) (Nat.lt_of_succ_lt h) (by omega) (by omega)
  have e2 := scratch_B m c (4 * q.val + 1) h (by omega) (by omega)
  have p1 : (⟨4 * q.val + 1, Nat.lt_of_succ_lt h⟩ : Fin cfg0.N) = point q 1 := rfl
  have p2 : (⟨4 * q.val + 1 + 1, h⟩ : Fin cfg0.N) = point q 2 := rfl
  have e0' : (outsAt0 m c (4 * q.val) (Nat.lt_of_succ_lt (Nat.lt_of_succ_lt h))).2.2 = _ := e0
  rw [e2, e1, p1, p2, e0']

include fG fE in
/-- The accumulator at the end of a tile. -/
theorem accumulated (l : Fin 1024) :
    stepAt m c (point q 3) (gatesAt m c (point q 0)) (stepAt m c (point q 2) (gatesAt m c (point q 0))
      (stepAt m c (point q 1) (gatesAt m c (point q 0)) (stepAt m c (point q 0) (gatesAt m c (point q 0)) clear))) (ix2 r l) =
    mixture (gate k) (aH m c) (aGate m c) (aUp m c) (aDown m c) (rowOf q r) l := by
  have hg := gatesAt_apply m c q r k fG fE
  rw [stepAt_apply m c q r (gate k) _ hg 3, stepAt_apply m c q r (gate k) _ hg 2,
    stepAt_apply m c q r (gate k) _ hg 1, stepAt_apply m c q r (gate k) _ hg 0, clear_apply, zero_add]
  unfold mixture
  rw [sum_experts]
  exact (Fin.sum_univ_four (fun a : Fin 4 => ∑ j : Fin 4, ∑ f : Fin 256,
    unitOf (aH m c) (aGate m c) (aUp m c) (rowOf q r) (expertOf a j) f * gate k (expertOf a j) *
      aDown m c (ix3 (expertOf a j) f l))).symm

include fG fE in
/-- The first result at token `r` of tile `q`. -/
theorem G9_apply (l : Fin 1024) : G9 m c (ix2 (rowOf q r) l) =
    outputOf (gate k) (aH m c) (aGate m c) (aUp m c) (aDown m c) (aG m c) (aB m c) (rowOf q r) l := by
  have hq : (640 * q.val + r.val) / 640 = q.val := by omega
  have hr : (640 * q.val + r.val) % 640 = r.val := by omega
  have hp : pt9Of (ix2 (rowOf q r) l) = 4 * q.val + 2 + 1 := by
    show 4 * (1 * ((640 * q.val + r.val) / 640 - 0) + 1 * (l.val / 1024 - 0)) + 3 = _
    omega
  have hl : loc9Of (ix2 (rowOf q r) l) = ix2 r l := by
    funext a
    apply Fin.ext
    match a with
    | ⟨0, _⟩ => exact hr
    | ⟨1, _⟩ => exact Nat.mod_eq_of_lt l.isLt
  have hn : 4 * q.val + 2 + 1 < cfg0.N := (point q 3).isLt
  unfold G9
  rw [dif_pos (by rw [hp]; exact hn), fold0_congr m c _ _ (4 * q.val + 2 + 1) (by rw [Nat.zero_add]; exact hn) hp, ← outsAt0_sweep m c _ hn, hl,
    out_C m c (4 * q.val + 2) hn (by omega), pay2_apply, scratches m c q]
  unfold outputOf
  have hpt : (⟨4 * q.val + 2 + 1, hn⟩ : Fin cfg0.N) = point q 3 := rfl
  rw [hpt, block7 m c q 3 (point q 3) rfl, block8 m c q 3 (point q 3) rfl]
  congr 1
  funext t
  rw [block0 m c q 3 (point q 3) rfl, accumulated m c q r k fG fE]

include fG fE in
/-- The second result at token `r` of tile `q`. -/
theorem G10_apply (l : Fin 1024) : G10 m c (ix2 (rowOf q r) l) =
    outputOf (gate k) (aH m c) (aGate m c) (aUp m c) (aDown m c) (aG m c) (aB m c) (rowOf q r) l := by
  have hq : (640 * q.val + r.val) / 640 = q.val := by omega
  have hr : (640 * q.val + r.val) % 640 = r.val := by omega
  have hp : pt10Of (ix2 (rowOf q r) l) = 4 * q.val + 2 + 1 := by
    show 4 * (1 * ((640 * q.val + r.val) / 640 - 0) + 1 * (l.val / 1024 - 0)) + 3 = _
    omega
  have hl : loc10Of (ix2 (rowOf q r) l) = ix2 r l := by
    funext a
    apply Fin.ext
    match a with
    | ⟨0, _⟩ => exact hr
    | ⟨1, _⟩ => exact Nat.mod_eq_of_lt l.isLt
  have hn : 4 * q.val + 2 + 1 < cfg0.N := (point q 3).isLt
  unfold G10
  rw [dif_pos (by rw [hp]; exact hn), fold0_congr m c _ _ (4 * q.val + 2 + 1) (by rw [Nat.zero_add]; exact hn) hp, ← outsAt0_sweep m c _ hn, hl,
    out_C' m c (4 * q.val + 2) hn (by omega), pay3_apply, scratches m c q]
  unfold outputOf
  have hpt : (⟨4 * q.val + 2 + 1, hn⟩ : Fin cfg0.N) = point q 3 := rfl
  rw [hpt, block7 m c q 3 (point q 3) rfl, block8 m c q 3 (point q 3) rfl]
  congr 1
  funext t
  rw [block0 m c q 3 (point q 3) rfl, accumulated m c q r k fG fE]

end Cert.KernelIdeal.Block

end
-- ==== Proof.Finite.lean ====
/-
  The precondition, read: the token array and the router's weights and biases have no infinite entry, so every logit is a
  finite number.
-/
module

public import proofs.«01_k».proof.Defs
public import proofs.«01_k».proof.Proof.Fold

@[expose] public section

noncomputable section

open Idealize.ShloMosaic Idealize.ShloMosaic.TcCoe Idealize.SL.Sem

namespace Cert.Pre_router_finite

/-- The broadcasts of the precondition's bound are broadcasts of a scalar. -/
theorem broadcasts : Facts :=
  ⟨by decide, by decide, by decide, by decide, by decide⟩

end Cert.Pre_router_finite

namespace Cert.Finite

open Cert.Routing Cert.Spec

/-- The word of positive infinity. -/
theorem top_word : Ideal.ofBits .f32 0x7F800000#32 = ⊤ := by simp [Ideal.ofBits, Ideal.ieee]

/-- A number whose magnitude compares below positive infinity is finite. -/
theorem of_below (x : EReal) (h : Ideal.cmp .olt (max x (-x)) (Ideal.ofBits .f32 0x7F800000#32) = 1#1) : Fin' x := by
  rw [top_word] at h
  unfold Ideal.cmp at h
  have hlt : max x (-x) < ⊤ := by
    by_contra hn
    simp [hn] at h
  rw [max_lt_iff] at hlt
  refine ⟨fun hx => ?_, hlt.1.ne⟩
  rw [hx] at hlt
  simp at hlt

theorem add_fin {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

theorem mul_fin {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

theorem sum_fin {ι : Type} (s : Finset ι) (f : ι → EReal) (h : ∀ i, Fin' (f i)) : Fin' (∑ i ∈ s, f i) := by
  classical
  induction s using Finset.induction_on with
  | empty => exact ⟨by simp, by simp⟩
  | insert i s hi ih => rw [Finset.sum_insert hi]; exact add_fin (h i) ih

section

variable (h : FVec Ideal ⟨2, ![33280, 1024]⟩ .f32) (wg : FVec Ideal ⟨2, ![1024, 4]⟩ .f32) (bg : FVec Ideal ⟨1, ![4]⟩ .f32)
  (wr : FVec Ideal ⟨2, ![1024, 16]⟩ .f32) (br : FVec Ideal ⟨1, ![16]⟩ .f32)

/-- Finite entries give finite group logits. -/
theorem group_fin (hh : ∀ i, Fin' (h i)) (hw : ∀ i, Fin' (wg i)) (hb : ∀ i, Fin' (bg i)) (n : Fin 33280) (j : Fin 4) :
    Fin' (groupLogit h wg bg n j) :=
  add_fin (sum_fin _ _ fun _ => mul_fin (hh _) (hw _)) (hb _)

/-- Finite entries give finite expert logits. -/
theorem expert_fin (hh : ∀ i, Fin' (h i)) (hw : ∀ i, Fin' (wr i)) (hb : ∀ i, Fin' (br i)) (n : Fin 33280) (e : Fin 16) :
    Fin' (expertLogit h wr br n e) :=
  add_fin (sum_fin _ _ fun _ => mul_fin (hh _) (hw _)) (hb _)

end

section

variable (m : (ℓ : Loc Cert.KernelIdeal.nD Cert.KernelIdeal.τ Cert.KernelIdeal.sig) → Buf (Elt Ideal) ℓ)
  (c : Dev Cert.KernelIdeal.nD)

open Cert.KernelIdeal.Block

/-- Under the precondition the five arrays the router reads are finite. -/
theorem entries (hp : Cert.Pre_KernelIdeal_router_finite (hPre_router_finite := Cert.Pre_router_finite.broadcasts) m) :
    (∀ i, Fin' (aH m c i)) ∧ (∀ i, Fin' (aWgrp m c i)) ∧ (∀ i, Fin' (aBgrp m c i)) ∧ (∀ i, Fin' (aWrt m c i)) ∧
      ∀ i, Fin' (aBrt m c i) := by
  obtain ⟨h0, h1, h2, h3, h4⟩ := hp c
  exact ⟨fun i => of_below _ (congrFun h0 i), fun i => of_below _ (congrFun h1 i), fun i => of_below _ (congrFun h2 i),
    fun i => of_below _ (congrFun h3 i), fun i => of_below _ (congrFun h4 i)⟩

end

end Cert.Finite

end
-- ==== Proof.RefOps.lean ====
/-
  The host operations of the reference's router, read at an element: the largest one or two of a row with their places,
  the entry of a row picked by an index, and the maximum of a row.
-/
module

public import proofs.«01_k».proof.Proof.Gen.ReferenceIdeal.Read
public import proofs.«01_k».proof.Proof.Routing
public import Idealize.ShloMosaic.Lib.KernelVsHost
public import Idealize.ShloMosaic.Lib.Pointwise

@[expose] public section

noncomputable section

open Idealize.ShloMosaic Idealize.ShloMosaic.TcCoe Idealize.SL.Sem

namespace Cert.RefOps

open Cert.ReferenceIdeal Cert.ReferenceIdeal.Gen Cert.FirstMax Cert.Routing

/-- The places of a row's entries in falling order, equal entries in index order. -/
def place (f : Fin 4 → EReal) (k : Fin 4) : Fin 4 := sortedFrom (fun a b => decide (f b < f a)) k

/-- The comparison of the sort, on two numbers. -/
theorem before_eq (x y : Ideal .f32) : ((FloatOps.cmpfTotal (F := Ideal) (φ := .f32) .gt x y : BitVec 1) == 1#1) = decide (y < x) := by
  show (BitVec.ofBool (decide (y < x)) == 1#1) = decide (y < x)
  by_cases h : y < x <;> simp [h]

/-- A place of the row through `(r, i)`. -/
theorem along_eq {n : Nat} (r : Fin n) (i a : Fin 4) :
    Shape.Idx.along (ix2 r i : (⟨2, ![n, 4]⟩ : Shape).Idx) (1 : Fin 2) a = ix2 r a := by
  funext b
  match b with
  | ⟨0, _⟩ => rfl
  | ⟨1, _⟩ => rfl

/-- The `k` largest of a row of four: their values. -/
theorem topK_values {n k : Nat} (hk : k ≤ 4) (x : FVec Ideal ⟨2, ![n, 4]⟩ .f32)
    (h : (⟨2, ![n, 4]⟩ : Shape).Slices (fun _ => 0) ⟨2, ![n, k]⟩) (r : Fin n) (j : Fin k) :
    (Host.topK ⟨2, ![n, k]⟩ 1 (FloatOps.cmpfTotal .gt) x h).1 (ix2 r j) =
      x (ix2 r (place (fun a => x (ix2 r a)) ⟨j.val, by omega⟩)) := by
  unfold Host.topK
  dsimp only
  rw [extractStridedSlice_apply (k := ix2 r (⟨j.val, by omega⟩ : Fin 4)) _ _ _ _ (fun a => by
    match a with
    | ⟨0, _⟩ => exact (Nat.zero_add _).symm
    | ⟨1, _⟩ => exact (Nat.zero_add _).symm)]
  unfold Host.sort2
  rw [dif_pos (by show 1 < 2; omega)]
  simp only [before_eq]
  refine (congrArg x (along_eq r _ _)).trans ?_
  refine congrArg (fun a => x (ix2 r a)) ?_
  unfold place
  refine congrArg (fun b => sortedFrom b _) ?_
  funext a b
  exact congrArg₂ (fun p q => decide (x p < x q)) (along_eq r _ b) (along_eq r _ a)

/-- … and their places. -/
theorem topK_indices {n k : Nat} (hk : k ≤ 4) (x : FVec Ideal ⟨2, ![n, 4]⟩ .f32)
    (h : (⟨2, ![n, 4]⟩ : Shape).Slices (fun _ => 0) ⟨2, ![n, k]⟩) (r : Fin n) (j : Fin k) :
    (Host.topK ⟨2, ![n, k]⟩ 1 (FloatOps.cmpfTotal .gt) x h).2 (ix2 r j) =
      BitVec.ofNat 32 (place (fun a => x (ix2 r a)) ⟨j.val, by omega⟩).val := by
  unfold Host.topK
  dsimp only
  rw [extractStridedSlice_apply (k := ix2 r (⟨j.val, by omega⟩ : Fin 4)) _ _ _ _ (fun a => by
    match a with
    | ⟨0, _⟩ => exact (Nat.zero_add _).symm
    | ⟨1, _⟩ => exact (Nat.zero_add _).symm)]
  unfold Host.sort2
  rw [dif_pos (by show 1 < 2; omega)]
  simp only [before_eq]
  have key : ∀ a : Fin 4, (fun i : (⟨2, ![n, 4]⟩ : Shape).Idx => if hd : 1 < (⟨2, ![n, 4]⟩ : Shape).rank then
      iotaInDim (⟨2, ![n, 4]⟩ : Shape) 32 ⟨1, hd⟩ i else 0#32) (ix2 r a) = BitVec.ofNat 32 a.val := fun a => by
    dsimp only
    rw [dif_pos (by show 1 < 2; omega)]
    rfl
  refine (congrArg (fun i : (⟨2, ![n, 4]⟩ : Shape).Idx => if hd : 1 < (⟨2, ![n, 4]⟩ : Shape).rank then
    iotaInDim (⟨2, ![n, 4]⟩ : Shape) 32 ⟨1, hd⟩ i else 0#32) (along_eq r _ _)).trans ((key _).trans ?_)
  refine congrArg (fun a : Fin 4 => BitVec.ofNat 32 a.val) ?_
  unfold place
  refine congrArg (fun b => sortedFrom b _) ?_
  funext a b
  exact congrArg₂ (fun p q => decide (x p < x q)) (along_eq r _ b) (along_eq r _ a)

/-- The first largest entry. -/
theorem place_zero (f : Fin 4 → EReal) : IsFirst (fun _ => True) f (place f 0) := (sortedFrom_two (n := 2) f).1
/-- The first largest of the others. -/
theorem place_one (f : Fin 4 → EReal) : IsFirst (fun j => j ≠ place f 0) f (place f 1) := (sortedFrom_two (n := 2) f).2

/-- A word below four, read as a number and kept within the row. -/
theorem clamp_four (a : Fin 4) : min (BitVec.ofNat 32 a.val).toInt.toNat 3 = a.val := by
  revert a; decide

/-- The entry of each row picked by that row's index. -/
theorem gather_row (x : FVec Ideal S33280x4 .f32) (idx : IVec S33280x1x1 32) (n : Fin 33280) (a : Fin 4)
    (h : idx (ix3 n 0 0) = BitVec.ofNat 32 a.val) :
    Host.gather gather_S33280x4_S33280x1x1_S33280x1_n_1_0_0_1_2_11 x idx (ix2 n 0) = x (ix2 n a) := by
  unfold Host.gather
  refine congrArg x (funext fun b => Fin.ext ?_)
  match b with
  | ⟨0, _⟩ =>
    show 0 + n.val + 0 = n.val
    omega
  | ⟨1, _⟩ =>
    have e : gather_S33280x4_S33280x1x1_S33280x1_n_1_0_0_1_2_11.siIdx (ix2 n 0) ⟨0, by decide⟩ = ix3 n 0 0 := by
      funext c; apply Fin.ext
      match c with
      | ⟨0, _⟩ => rfl
      | ⟨1, _⟩ => rfl
      | ⟨2, _⟩ => rfl
    show min (idx (gather_S33280x4_S33280x1x1_S33280x1_n_1_0_0_1_2_11.siIdx (ix2 n 0) ⟨0, by decide⟩)).toInt.toNat 3 + 0 + 0 = a.val
    rw [e, h, clamp_four]
    rfl

/-- The row of each token's four picked by that token's index. -/
theorem gather_group (x : FVec Ideal S33280x4x4 .f32) (idx : IVec S33280x1x1 32) (n : Fin 33280) (a j : Fin 4)
    (h : idx (ix3 n 0 0) = BitVec.ofNat 32 a.val) :
    Host.gather gather_S33280x4x4_S33280x1x1_S33280x1x4_2_1_0_0_1_2_114 x idx (ix3 n 0 j) = x (ix3 n a j) := by
  unfold Host.gather
  refine congrArg x (funext fun b => Fin.ext ?_)
  match b with
  | ⟨0, _⟩ =>
    show 0 + n.val + 0 = n.val
    omega
  | ⟨1, _⟩ =>
    have e : gather_S33280x4x4_S33280x1x1_S33280x1x4_2_1_0_0_1_2_114.siIdx (ix3 n 0 j) ⟨0, by decide⟩ = ix3 n 0 0 := by
      funext c; apply Fin.ext
      match c with
      | ⟨0, _⟩ => rfl
      | ⟨1, _⟩ => rfl
      | ⟨2, _⟩ => rfl
    show min (idx (gather_S33280x4x4_S33280x1x1_S33280x1x4_2_1_0_0_1_2_114.siIdx (ix3 n 0 j) ⟨0, by decide⟩)).toInt.toNat 3 + 0 + 0 = a.val
    rw [e, h, clamp_four]
    rfl
  | ⟨2, _⟩ =>
    show 0 + 0 + j.val = j.val
    omega

/-- A row's maximum, from −∞. -/
theorem max_row {n k : Nat} (x : FVec Ideal ⟨2, ![n, k]⟩ .f32) (h : (⟨2, ![n, k]⟩ : Shape).ReducesTo [1] ⟨1, ![n]⟩) (hu : 0 < S_.numel)
    (h' : (⟨2, ![n, k]⟩ : Shape).Reduces [1] ⟨1, ![n]⟩) (r : Fin n) (a : Fin k) (ha : IsFirst (fun _ => True) (fun j => x (ix2 r j)) a) :
    Host.reduce FloatOps.maximumf x (constant S_ .f32 0xFF800000#32) h hu (ix1 r) = x (ix2 r a) := by
  refine (congrFun (hostReduce_maximumf_eq_multiReduction (φ := .f32) x 0xFF800000#32 h hu h' (.inl rfl) rfl) (ix1 r)).trans
    ((Ideal.multiReduction_maximumf_single (a := 1) x 0xFF800000#32 h' (.inl rfl) rfl (ix1 r)).trans ?_)
  have e : (fun j => x (h'.lift (ix1 r) j)) = fun j : Fin k => x (ix2 r j) := by
    funext j
    refine congrArg x (funext fun b => Fin.ext ?_)
    match b with
    | ⟨0, _⟩ => rfl
    | ⟨1, _⟩ => rfl
  have hb : (FloatOps.ofBits (F := Ideal) .f32 0xFF800000#32) = (⊥ : EReal) := by
    show Ideal.ofBits FTy.f32 0xFF800000#32 = ⊥
    simp [Ideal.ofBits, Ideal.ieee]
  rw [hb]
  show Finset.fold max ⊥ (fun j => x (h'.lift (ix1 r) j)) Finset.univ = _
  rw [e]
  exact fold_max_eq fun j => ha.le j trivial

end Cert.RefOps

end
-- ==== Proof.RefRouter.lean ====
/-
  The reference's router at a token: the group and the two experts its sorts pick are the token's choice, and the weight
  it gives every expert is the choice's gate.
-/
module

public import proofs.«01_k».proof.Proof.RefOps
public import proofs.«01_k».proof.Proof.Fold

@[expose] public section

noncomputable section

open Idealize.ShloMosaic Idealize.ShloMosaic.TcCoe Idealize.SL.Sem

namespace Cert.RefRouter

open Cert.ReferenceIdeal Cert.ReferenceIdeal.Gen Cert.ReferenceIdeal.Read Cert.FirstMax Cert.Routing Cert.Spec Cert.RefOps

variable (x0 : FVec Ideal S33280x1024 .f32) (x1 : FVec Ideal S1024x4 .f32) (x2 : FVec Ideal S4 .f32)
  (x3 : FVec Ideal S1024x16 .f32) (x4 : FVec Ideal S16 .f32) (n : Fin 33280)

/-- The zero the sums start from. -/
theorem zero_word : (FloatOps.ofBits (F := Ideal) .f32 0x00000000#32) = (0 : EReal) := by
  show Ideal.ofBits FTy.f32 0x00000000#32 = 0
  simp [Ideal.ofBits, Ideal.ieee]

/-- The −∞ the maxima start from. -/
theorem bot_word : (FloatOps.ofBits (F := Ideal) .f32 0xFF800000#32) = (⊥ : EReal) := by
  show Ideal.ofBits FTy.f32 0xFF800000#32 = ⊥
  simp [Ideal.ofBits, Ideal.ieee]

/-- The group logits. -/
theorem v3_at (j : Fin 4) : val_main_v3 (F := Ideal) x0 x1 x2 (ix2 n j) = groupLogit x0 x1 x2 n j := by
  rw [val_main_v3_apply, val_main_v0_apply, val_main_v2_apply, val_main_v1_apply]
  refine congrArg₂ (fun a b : EReal => a + b) (Finset.sum_congr rfl fun t _ => ?_) (congrArg x2 (eq_ix1 _))
  exact congrArg₂ (fun a b : EReal => a * b) (congrArg x0 (eq_ix2 _)) (congrArg x1 (eq_ix2 _))

/-- The expert logits. -/
theorem v21_at (e : Fin 16) : val_main_v21 (F := Ideal) x0 x3 x4 (ix2 n e) = expertLogit x0 x3 x4 n e := by
  rw [val_main_v21_apply, val_main_v18_apply, val_main_v20_apply, val_main_v19_apply]
  refine congrArg₂ (fun a b : EReal => a + b) (Finset.sum_congr rfl fun t _ => ?_) (congrArg x4 (eq_ix1 _))
  exact congrArg₂ (fun a b : EReal => a * b) (congrArg x0 (eq_ix2 _)) (congrArg x3 (eq_ix2 _))

/-- The expert logits, by group. -/
theorem v22_at (a j : Fin 4) : val_main_v22 (F := Ideal) x0 x3 x4 (ix3 n a j) = expertLogit x0 x3 x4 n (expertOf a j) := by
  rw [val_main_v22_apply, ← v21_at]
  refine congrArg _ (funext fun b => Fin.ext ?_)
  match b with
  | ⟨0, _⟩ => show ((n.val * 4 + a.val) * 4 + j.val) / 16 = n.val; omega
  | ⟨1, _⟩ => show ((n.val * 4 + a.val) * 4 + j.val) % 16 = 4 * a.val + j.val; omega

variable (k : Choice (groupLogit x0 x1 x2 n) (expertLogit x0 x3 x4 n))

/-- The first place of the group logits is the chosen group. -/
theorem place_group : place (fun a => val_main_v3 (F := Ideal) x0 x1 x2 (ix2 n a)) 0 = k.a := by
  rw [show (fun a => val_main_v3 (F := Ideal) x0 x1 x2 (ix2 n a)) = groupLogit x0 x1 x2 n from funext fun j => v3_at x0 x1 x2 n j]
  exact (place_zero _).unique k.ha

/-- The chosen group, as a word. -/
theorem v4_at : val_main_v4 (F := Ideal) x0 x1 x2 (ix1 n) = BitVec.ofNat 32 k.a.val := by
  rw [val_main_v4_apply, ← place_group x0 x1 x2 x3 x4 n k]
  rw [show idx_main_v4 (ix1 n) = ix2 n 0 from funext fun b => Fin.ext (by
    match b with
    | ⟨0, _⟩ => show n.val / 1 = n.val; omega
    | ⟨1, _⟩ => rfl)]
  unfold val_main_indices
  exact topK_indices (by omega) _ _ n 0

/-- An index below four is not wrapped. -/
theorem no_wrap (a : Fin 4) : Scalar.select (IntOp.cmpi .slt (BitVec.ofNat 32 a.val) 0#32)
    (IntOp.addi (BitVec.ofNat 32 a.val) 4#32) (BitVec.ofNat 32 a.val) = BitVec.ofNat 32 a.val := by
  revert a; decide

/-- The index of the group's entry. -/
theorem call0_at : val_main_call0_v5 (F := Ideal) x0 x1 x2 (ix3 n 0 0) = BitVec.ofNat 32 k.a.val := by
  rw [val_main_call0_v5_apply, val_main_call0_v4_apply, val_main_call0_v1_apply, val_main_call0_v3_apply,
    val_main_call0_v0_apply, val_main_call0_v2_apply, val_main_v16_apply]
  rw [show idx_main_v16 (idx_main_call0_v5 (ix3 n 0 0)) = ix1 n from funext fun b => Fin.ext (by
    match b with
    | ⟨0, _⟩ => show ((n.val * 1 + 0) * 1 + 0) / 1 = n.val; omega), v4_at x0 x1 x2 x3 x4 n k]
  exact no_wrap k.a

/-- The index of the group's experts. -/
theorem call1_at : val_main_call1_v4 (F := Ideal) x0 x1 x2 (ix3 n 0 0) = BitVec.ofNat 32 k.a.val := by
  rw [val_main_call1_v4_apply, val_main_call1_v1_apply, val_main_call1_v3_apply,
    val_main_call1_v0_apply, val_main_call1_v2_apply, val_main_v23_apply]
  rw [show idx_main_v23 (ix3 n 0 0) = ix1 n from eq_ix1 _, v4_at x0 x1 x2 x3 x4 n k]
  exact no_wrap k.a

/-- The largest group logit. -/
theorem v7_at : val_main_v7 (F := Ideal) x0 x1 x2 (ix1 n) = groupLogit x0 x1 x2 n k.a := by
  rw [val_main_v7_apply, val_main_v6_apply, val_main_cst_0_apply, bot_word]
  refine (max_eq_right bot_le : max (⊥ : EReal) _ = _).trans ?_
  rw [← v3_at]
  exact max_row _ _ _ (by decide) n k.a (by
    rw [show (fun j => val_main_v3 (F := Ideal) x0 x1 x2 (ix2 n j)) = groupLogit x0 x1 x2 n from funext fun j => v3_at x0 x1 x2 n j]
    exact k.ha)

/-- The exponentials of the group logits. -/
theorem v11_at (j : Fin 4) : val_main_v11 (F := Ideal) x0 x1 x2 (ix2 n j) =
    Ideal.exp (groupLogit x0 x1 x2 n j - groupLogit x0 x1 x2 n k.a) := by
  rw [val_main_v11_apply, val_main_v10_apply, v3_at, val_main_v9_apply, val_main_v8_apply,
    show idx_main_v8 (idx_main_v9 (ix2 n j)) = ix1 n from eq_ix1 _, v7_at x0 x1 x2 x3 x4 n k]
  rfl

/-- The group's probability. -/
theorem v17_at : val_main_v17 (F := Ideal) x0 x1 x2 (ix2 n 0) =
    Ideal.div (Ideal.exp (groupLogit x0 x1 x2 n k.a - groupLogit x0 x1 x2 n k.a))
      (∑ j, Ideal.exp (groupLogit x0 x1 x2 n j - groupLogit x0 x1 x2 n k.a)) := by
  unfold val_main_v17
  rw [gather_row _ _ n k.a (call0_at x0 x1 x2 x3 x4 n k), val_main_v15_apply, v11_at x0 x1 x2 x3 x4 n k,
    val_main_v14_apply, val_main_v13_apply, show idx_main_v13 (idx_main_v14 (ix2 n k.a)) = ix1 n from eq_ix1 _,
    val_main_v12_apply, val_main_cst_1_apply, zero_word, zero_add]
  refine congrArg (Ideal.div _) (Finset.sum_congr rfl fun j _ => ?_)
  rw [show idx_main_v12 (ix1 n) j = ix2 n j from eq_ix2 _]
  exact v11_at x0 x1 x2 x3 x4 n k j

/-- The logits of the chosen group's experts. -/
theorem v25_at (j : Fin 4) : val_main_v25 (F := Ideal) x0 x1 x2 x3 x4 (ix2 n j) =
    expertLogit x0 x3 x4 n (expertOf k.a j) := by
  rw [val_main_v25_apply, show idx_main_v25 (ix2 n j) = ix3 n 0 j from funext fun b => Fin.ext (by
    match b with
    | ⟨0, _⟩ => show (n.val * 4 + j.val) / 4 = n.val; omega
    | ⟨1, _⟩ => rfl
    | ⟨2, _⟩ => show (n.val * 4 + j.val) % 4 = j.val; omega)]
  unfold val_main_v24
  rw [gather_group _ _ n k.a j (call1_at x0 x1 x2 x3 x4 n k), v22_at]

/-- The row of the chosen group's expert logits. -/
theorem v25_row : (fun j => val_main_v25 (F := Ideal) x0 x1 x2 x3 x4 (ix2 n j)) =
    fun j => expertLogit x0 x3 x4 n (expertOf k.a j) := funext fun j => v25_at x0 x1 x2 x3 x4 n k j

/-- The first place of that row is the first expert. -/
theorem place_first : place (fun j => val_main_v25 (F := Ideal) x0 x1 x2 x3 x4 (ix2 n j)) 0 = k.i1 := by
  rw [v25_row x0 x1 x2 x3 x4 n k]
  exact (place_zero _).unique k.h1

/-- The second place is the second expert. -/
theorem place_second : place (fun j => val_main_v25 (F := Ideal) x0 x1 x2 x3 x4 (ix2 n j)) 1 = k.i2 := by
  have h0 := place_first x0 x1 x2 x3 x4 n k
  have h1 := place_one (fun j => val_main_v25 (F := Ideal) x0 x1 x2 x3 x4 (ix2 n j))
  rw [h0] at h1
  rw [v25_row x0 x1 x2 x3 x4 n k] at h1 ⊢
  exact h1.unique k.h2

/-- The chosen expert number `i`. -/
def chosen (i : Fin 2) : Fin 4 := if i = 0 then k.i1 else k.i2

/-- The place number `i`. -/
theorem place_chosen (i : Fin 2) :
    place (fun j => val_main_v25 (F := Ideal) x0 x1 x2 x3 x4 (ix2 n j)) ⟨i.val, by omega⟩ = chosen x0 x1 x2 x3 x4 n k i := by
  fin_cases i
  · exact place_first x0 x1 x2 x3 x4 n k
  · exact place_second x0 x1 x2 x3 x4 n k

/-- The chosen experts' logits. -/
theorem values_at (i : Fin 2) : val_main_values_2 (F := Ideal) x0 x1 x2 x3 x4 (ix2 n i) =
    expertLogit x0 x3 x4 n (expertOf k.a (chosen x0 x1 x2 x3 x4 n k i)) := by
  unfold val_main_values_2
  refine (topK_values (by omega) _ _ n i).trans ?_
  rw [place_chosen x0 x1 x2 x3 x4 n k, v25_at x0 x1 x2 x3 x4 n k]

/-- The chosen experts' places in the group. -/
theorem indices_at (i : Fin 2) : val_main_indices_3 (F := Ideal) x0 x1 x2 x3 x4 (ix2 n i) =
    BitVec.ofNat 32 (chosen x0 x1 x2 x3 x4 n k i).val := by
  unfold val_main_indices_3
  refine (topK_indices (by omega) _ _ n i).trans ?_
  rw [place_chosen x0 x1 x2 x3 x4 n k]

/-- The larger of the two logits. -/
theorem v28_at : val_main_v28 (F := Ideal) x0 x1 x2 x3 x4 (ix1 n) = expertLogit x0 x3 x4 n (expertOf k.a k.i1) := by
  rw [val_main_v28_apply, val_main_v27_apply, val_main_cst_5_apply, bot_word]
  refine (max_eq_right bot_le : max (⊥ : EReal) _ = _).trans ?_
  refine (max_row _ _ _ (by decide) n 0 ⟨trivial, fun j _ => ?_, fun j _ hj => absurd hj (by simp)⟩).trans
    (values_at x0 x1 x2 x3 x4 n k 0)
  rw [values_at x0 x1 x2 x3 x4 n k, values_at x0 x1 x2 x3 x4 n k]
  exact k.h1.le _ trivial

/-- Their exponentials. -/
theorem v32_at (i : Fin 2) : val_main_v32 (F := Ideal) x0 x1 x2 x3 x4 (ix2 n i) =
    Ideal.exp (expertLogit x0 x3 x4 n (expertOf k.a (chosen x0 x1 x2 x3 x4 n k i)) - expertLogit x0 x3 x4 n (expertOf k.a k.i1)) := by
  rw [val_main_v32_apply, val_main_v31_apply, values_at x0 x1 x2 x3 x4 n k, val_main_v30_apply, val_main_v29_apply,
    show idx_main_v29 (idx_main_v30 (ix2 n i)) = ix1 n from eq_ix1 _, v28_at x0 x1 x2 x3 x4 n k]
  rfl

/-- The weight of chosen expert `i`. -/
theorem v38_at (i : Fin 2) : val_main_v38 (F := Ideal) x0 x1 x2 x3 x4 (ix2 n i) =
    Ideal.div (Ideal.exp (expertLogit x0 x3 x4 n (expertOf k.a (chosen x0 x1 x2 x3 x4 n k i)) - expertLogit x0 x3 x4 n (expertOf k.a k.i1)))
        (Ideal.exp (expertLogit x0 x3 x4 n (expertOf k.a k.i1) - expertLogit x0 x3 x4 n (expertOf k.a k.i1)) +
          Ideal.exp (expertLogit x0 x3 x4 n (expertOf k.a k.i2) - expertLogit x0 x3 x4 n (expertOf k.a k.i1))) *
      Ideal.div (Ideal.exp (groupLogit x0 x1 x2 n k.a - groupLogit x0 x1 x2 n k.a))
        (∑ j, Ideal.exp (groupLogit x0 x1 x2 n j - groupLogit x0 x1 x2 n k.a)) := by
  rw [val_main_v38_apply, val_main_v36_apply, v32_at x0 x1 x2 x3 x4 n k, val_main_v35_apply, val_main_v34_apply,
    show idx_main_v34 (idx_main_v35 (ix2 n i)) = ix1 n from eq_ix1 _, val_main_v33_apply, val_main_cst_6_apply, zero_word,
    zero_add, Fin.sum_univ_two, show idx_main_v33 (ix1 n) 0 = ix2 n 0 from eq_ix2 _,
    show idx_main_v33 (ix1 n) 1 = ix2 n 1 from eq_ix2 _, v32_at x0 x1 x2 x3 x4 n k, v32_at x0 x1 x2 x3 x4 n k,
    val_main_v37_apply, show idx_main_v37 (ix2 n i) = ix2 n 0 from eq_ix2 _, v17_at x0 x1 x2 x3 x4 n k]
  rfl

/-- The number of expert `j` of group `a`, as a word. -/
theorem expert_word (a j : Fin 4) : IntOp.addi (IntOp.muli (BitVec.ofNat 32 a.val) 4#32) (BitVec.ofNat 32 j.val) =
    BitVec.ofNat 32 (expertOf a j).val := by
  revert a j; decide

/-- Equal words of experts, as a number. -/
theorem onehot_word (e e' : Fin 16) :
    (FloatOps.uitofp (F := Ideal) .f32 (IntOp.cmpi .eq (BitVec.ofNat 32 e.val) (BitVec.ofNat 32 e'.val)) : EReal) =
      if e = e' then 1 else 0 := by
  have h : IntOp.cmpi .eq (BitVec.ofNat 32 e.val) (BitVec.ofNat 32 e'.val) = if e = e' then 1#1 else 0#1 := by
    revert e e'; decide
  rw [h]
  split
  · show (((1#1 : BitVec 1).toNat : ℝ) : EReal) = 1
    simp
  · show (((0#1 : BitVec 1).toNat : ℝ) : EReal) = 0
    simp

/-- Whether chosen expert `i` is expert `e`. -/
theorem v44_at (i : Fin 2) (e : Fin 16) : val_main_v44 (F := Ideal) x0 x1 x2 x3 x4 (ix3 n i e) =
    if expertOf k.a (chosen x0 x1 x2 x3 x4 n k i) = e then 1 else 0 := by
  rw [val_main_v44_apply, val_main_call2_v4_apply, val_main_call2_v2_apply, val_main_call2_v0_apply, val_main_call2_v3_apply,
    val_main_call2_v1_apply, show idx_main_call2_v0 (idx_main_call2_v2 (ix3 n i e)) = ix2 n i from eq_ix2 _,
    val_main_v43_apply, indices_at x0 x1 x2 x3 x4 n k, val_main_v42_apply, val_main_v41_apply, val_main_v39_apply,
    val_main_v40_apply, val_main_c_apply, show idx_main_v39 (idx_main_v42 (ix2 n i)) = ix1 n from eq_ix1 _,
    v4_at x0 x1 x2 x3 x4 n k, expert_word]
  exact onehot_word _ e

/-- The weight of expert `e` is its gate. -/
theorem v45_at (hG : ∀ j, Fin' (groupLogit x0 x1 x2 n j)) (hE : ∀ e, Fin' (expertLogit x0 x3 x4 n e)) (e : Fin 16) :
    val_main_v45 (F := Ideal) x0 x1 x2 x3 x4 (ix2 n e) = gate k e := by
  rw [← reference_gate k hG hE e, val_main_v45_apply, Fin.sum_univ_two,
    show lidx_main_v45 (ix2 n e) 0 = ix3 n 0 e from eq_ix3 _, show lidx_main_v45 (ix2 n e) 1 = ix3 n 1 e from eq_ix3 _,
    show ridx_main_v45 (ix2 n e) 0 = ix2 n 0 from eq_ix2 _, show ridx_main_v45 (ix2 n e) 1 = ix2 n 1 from eq_ix2 _,
    v44_at x0 x1 x2 x3 x4 n k, v44_at x0 x1 x2 x3 x4 n k, v38_at x0 x1 x2 x3 x4 n k, v38_at x0 x1 x2 x3 x4 n k]
  rfl

end Cert.RefRouter

end
-- ==== Proof.RefValue.lean ====
/-
  The reference's output at a token and a place: the experts' outputs weighted by the gates and summed, the residual, and
  the layer norm, in the form in which the kernel computes them.
-/
module

public import proofs.«01_k».proof.Proof.RefRouter

@[expose] public section

noncomputable section

open Idealize.ShloMosaic Idealize.ShloMosaic.TcCoe Idealize.SL.Sem

namespace Cert.RefValue

open Cert.ReferenceIdeal Cert.ReferenceIdeal.Gen Cert.ReferenceIdeal.Read Cert.FirstMax Cert.Routing Cert.Spec Cert.RefOps Cert.RefRouter

/-- A nonnegative finite number times a sum is the sum of its products. -/
theorem mul_sum_of_nonneg {ι : Type} (s : Finset ι) (a : EReal) (h0 : 0 ≤ a) (h1 : a ≠ ⊤) (v : ι → EReal) :
    a * ∑ i ∈ s, v i = ∑ i ∈ s, a * v i := by
  classical
  induction s using Finset.induction_on with
  | empty => simp
  | insert i s hi ih =>
    rw [Finset.sum_insert hi, Finset.sum_insert hi, EReal.left_distrib_of_nonneg_of_ne_top h0 h1, ih]

/-- The word of one. -/
theorem one_word : (FloatOps.ofBits (F := Ideal) .f32 0x3F800000#32) = (1 : EReal) := by
  show Ideal.ofBits FTy.f32 0x3F800000#32 = 1
  exact Ideal.ofBits_one_f32

variable (x0 : FVec Ideal S33280x1024 .f32) (x1 : FVec Ideal S1024x4 .f32) (x2 : FVec Ideal S4 .f32)
  (x3 : FVec Ideal S1024x16 .f32) (x4 : FVec Ideal S16 .f32) (x5 x6 : FVec Ideal S16x1024x256 .f32)
  (x7 : FVec Ideal S16x256x1024 .f32) (x8 x9 : FVec Ideal S1024 .f32) (n : Fin 33280)

/-- The gate projection of expert `e`. -/
theorem v46_at (e : Fin 16) (f : Fin 256) : val_main_v46 (F := Ideal) x0 x5 (ix3 n e f) =
    ∑ t : Fin 1024, x0 (ix2 n t) * x5 (ix3 e t f) := by
  rw [val_main_v46_apply]
  exact Finset.sum_congr rfl fun t _ => congrArg₂ (fun a b : EReal => a * b) (congrArg x0 (eq_ix2 _)) (congrArg x5 (eq_ix3 _))

/-- The up projection of expert `e`. -/
theorem v48_at (e : Fin 16) (f : Fin 256) : val_main_v48 (F := Ideal) x0 x6 (ix3 n e f) =
    ∑ t : Fin 1024, x0 (ix2 n t) * x6 (ix3 e t f) := by
  rw [val_main_v48_apply]
  exact Finset.sum_congr rfl fun t _ => congrArg₂ (fun a b : EReal => a * b) (congrArg x0 (eq_ix2 _)) (congrArg x6 (eq_ix3 _))

/-- The hidden units of expert `e`. -/
theorem v49_at (e : Fin 16) (f : Fin 256) : val_main_v49 (F := Ideal) x0 x5 x6 (ix3 n e f) = unitOf x0 x5 x6 n e f := by
  rw [val_main_v49_apply, val_main_v47_apply, val_main_call3_v5_apply, val_main_call3_v4_apply, val_main_call3_cst_0_apply,
    val_main_call3_v3_apply, val_main_call3_v2_apply, val_main_call3_cst_apply, val_main_call3_v1_apply, val_main_call3_v0_apply,
    v46_at, v48_at, one_word]
  unfold unitOf hiddenOf
  rw [zero_sub]
  rfl

/-- The down projection of expert `e`. -/
theorem v52_at (e : Fin 16) (l : Fin 1024) : val_main_v52 (F := Ideal) x0 x5 x6 x7 (ix3 e n l) =
    ∑ f : Fin 256, unitOf x0 x5 x6 n e f * x7 (ix3 e f l) := by
  rw [val_main_v52_apply]
  refine Finset.sum_congr rfl fun f _ => congrArg₂ (fun a b : EReal => a * b) ?_ (congrArg x7 (eq_ix3 _))
  rw [← v49_at]
  exact congrArg _ (eq_ix3 _)

variable (k : Choice (groupLogit x0 x1 x2 n) (expertLogit x0 x3 x4 n))
  (hG : ∀ j, Fin' (groupLogit x0 x1 x2 n j)) (hE : ∀ e, Fin' (expertLogit x0 x3 x4 n e))

include hG hE

/-- The weighted sum of the experts' outputs. -/
theorem v55_at (l : Fin 1024) : val_main_v55 (F := Ideal) x0 x1 x2 x3 x4 x5 x6 x7 (ix2 n l) =
    mixture (gate k) x0 x5 x6 x7 n l := by
  rw [val_main_v55_apply, val_main_cst_7_apply, zero_word, zero_add]
  unfold mixture
  refine Finset.sum_congr rfl fun e _ => ?_
  obtain ⟨h0, h1⟩ := gate_nonneg_ne_top k hG hE e
  rw [show idx_main_v55 (ix2 n l) e = ix3 e n l from eq_ix3 _, val_main_v54_apply, v52_at, val_main_v53_apply,
    val_main_v51_apply, val_main_v50_apply,
    show idx_main_v50 (idx_main_v51 (idx_main_v53 (ix3 e n l))) = ix2 n e from eq_ix2 _, v45_at x0 x1 x2 x3 x4 n k hG hE]
  refine (mul_sum_of_nonneg Finset.univ (gate k e) h0 h1 _).trans (Finset.sum_congr rfl fun f _ => ?_)
  rw [← mul_assoc, mul_comm (gate k e)]

/-- The residual before the norm. -/
theorem v58_at (l : Fin 1024) : val_main_v58 (F := Ideal) x0 x1 x2 x3 x4 x5 x6 x7 (ix2 n l) =
    residualOf (x0 (ix2 n l)) (mixture (gate k) x0 x5 x6 x7 n l) := by
  rw [val_main_v58_apply, v55_at x0 x1 x2 x3 x4 x5 x6 x7 n k hG hE, val_main_v57_apply, val_main_v56_apply, val_main_cst_8_apply]
  rfl

/-- The mean of the residual. -/
theorem v62_at : val_main_v62 (F := Ideal) x0 x1 x2 x3 x4 x5 x6 x7 (ix2 n 0) =
    mean fun t => residualOf (x0 (ix2 n t)) (mixture (gate k) x0 x5 x6 x7 n t) := by
  rw [val_main_v62_apply, val_main_v61_apply, val_main_cst_10_apply, val_main_v60_apply, val_main_v59_apply, val_main_cst_9_apply,
    zero_word, zero_add]
  unfold mean
  refine congrArg (fun a : EReal => Ideal.div a _) (Finset.sum_congr rfl fun t _ => ?_)
  exact (congrArg _ (eq_ix2 _)).trans (v58_at x0 x1 x2 x3 x4 x5 x6 x7 n k hG hE t)

/-- The reference's output is the layer's. -/
theorem v82_at (l : Fin 1024) : val_main_v82 (F := Ideal) x0 x1 x2 x3 x4 x5 x6 x7 x8 x9 (ix2 n l) =
    outputOf (gate k) x0 x5 x6 x7 x8 x9 n l := by
  have hc : ∀ t, val_main_v64 (F := Ideal) x0 x1 x2 x3 x4 x5 x6 x7 (ix2 n t) =
      residualOf (x0 (ix2 n t)) (mixture (gate k) x0 x5 x6 x7 n t) -
        mean fun t => residualOf (x0 (ix2 n t)) (mixture (gate k) x0 x5 x6 x7 n t) := fun t => by
    rw [val_main_v64_apply, v58_at x0 x1 x2 x3 x4 x5 x6 x7 n k hG hE, val_main_v63_apply,
      show idx_main_v63 (ix2 n t) = ix2 n 0 from eq_ix2 _, v62_at x0 x1 x2 x3 x4 x5 x6 x7 n k hG hE]
    rfl
  rw [val_main_v82_apply, val_main_v81_apply, val_main_v80_apply, val_main_v79_apply, val_main_v78_apply, val_main_v77_apply,
    val_main_v76_apply, val_main_v75_apply, val_main_v74_apply, val_main_v73_apply, val_main_v72_apply, val_main_cst_13_apply,
    val_main_v71_apply, v58_at x0 x1 x2 x3 x4 x5 x6 x7 n k hG hE, val_main_v70_apply,
    show idx_main_v70 (ix2 n l) = ix2 n 0 from eq_ix2 _, v62_at x0 x1 x2 x3 x4 x5 x6 x7 n k hG hE,
    val_main_v69_apply, val_main_v68_apply, val_main_cst_12_apply, val_main_v67_apply, val_main_v66_apply, val_main_cst_11_apply,
    zero_word, zero_add,
    show idx_main_v77 (idx_main_v78 (ix2 n l)) = ix1 l from eq_ix1 _, show idx_main_v80 (idx_main_v81 (ix2 n l)) = ix1 l from eq_ix1 _]
  unfold outputOf layerNorm
  have hs : ∑ t, val_main_v65 (F := Ideal) x0 x1 x2 x3 x4 x5 x6 x7 (idx_main_v66 (idx_main_v67 (idx_main_v75 (ix2 n l))) t) =
      ∑ t, (residualOf (x0 (ix2 n t)) (mixture (gate k) x0 x5 x6 x7 n t) -
          mean fun t => residualOf (x0 (ix2 n t)) (mixture (gate k) x0 x5 x6 x7 n t)) *
        (residualOf (x0 (ix2 n t)) (mixture (gate k) x0 x5 x6 x7 n t) -
          mean fun t => residualOf (x0 (ix2 n t)) (mixture (gate k) x0 x5 x6 x7 n t)) :=
    Finset.sum_congr rfl fun t _ => by
      rw [show idx_main_v66 (idx_main_v67 (idx_main_v75 (ix2 n l))) t = ix2 n t from eq_ix2 _, val_main_v65_apply, hc]
      rfl
  rw [hs]
  rfl

end Cert.RefValue

end
-- ==== Proof.Equation.lean ====
/-
  The two results of the kernel are, as arrays, the two results of the reference of the same arguments.
-/
module

public import proofs.«01_k».proof.Proof.Finite
public import proofs.«01_k».proof.Proof.RefValue

@[expose] public section

noncomputable section

open Idealize.ShloMosaic Idealize.ShloMosaic.TcCoe Idealize.SL.Sem

namespace Cert.Equation

open Cert.KernelIdeal.Block Cert.KernelIdeal.Value Cert.Routing Cert.Spec Cert.Finite

variable (m : (ℓ : Loc Cert.KernelIdeal.nD Cert.KernelIdeal.τ Cert.KernelIdeal.sig) → Buf (Elt Ideal) ℓ)
  (c : Dev Cert.KernelIdeal.nD)
  (hp : Cert.Pre_KernelIdeal_router_finite (hPre_router_finite := Cert.Pre_router_finite.broadcasts) m)

include hp

/-- The first result: the normalised residual. -/
theorem first : G9 m c = Cert.ReferenceIdeal.Read.val_main_v82 (F := Ideal) (aH m c) (aWgrp m c) (aBgrp m c) (aWrt m c)
    (aBrt m c) (aGate m c) (aUp m c) (aDown m c) (aG m c) (aB m c) := by
  obtain ⟨hh, hwg, hbg, hwr, hbr⟩ := entries m c hp
  funext i
  obtain ⟨n, l, rfl⟩ : ∃ (n : Fin 33280) (l : Fin 1024), i = ix2 n l := ⟨i 0, i 1, eq_ix2 i⟩
  obtain ⟨q, r, rfl⟩ : ∃ (q : Fin 52) (r : Fin 640), n = rowOf q r :=
    ⟨⟨n.val / 640, by omega⟩, ⟨n.val % 640, by omega⟩, Fin.ext (by show n.val = 640 * (n.val / 640) + n.val % 640; omega)⟩
  obtain ⟨k⟩ := exists_choice (groupLogit (aH m c) (aWgrp m c) (aBgrp m c) (rowOf q r))
    (expertLogit (aH m c) (aWrt m c) (aBrt m c) (rowOf q r))
  have hG := group_fin (aH m c) (aWgrp m c) (aBgrp m c) hh hwg hbg (rowOf q r)
  have hE := expert_fin (aH m c) (aWrt m c) (aBrt m c) hh hwr hbr (rowOf q r)
  exact (G9_apply m c q r k hG hE l).trans
    (Cert.RefValue.v82_at (aH m c) (aWgrp m c) (aBgrp m c) (aWrt m c) (aBrt m c) (aGate m c) (aUp m c) (aDown m c) (aG m c)
      (aB m c) (rowOf q r) k hG hE l).symm

/-- The second result: the same numbers in the narrower format. -/
theorem second : G10 m c = Cert.ReferenceIdeal.Read.val_main_v83 (F := Ideal) (aH m c) (aWgrp m c) (aBgrp m c) (aWrt m c)
    (aBrt m c) (aGate m c) (aUp m c) (aDown m c) (aG m c) (aB m c) := by
  obtain ⟨hh, hwg, hbg, hwr, hbr⟩ := entries m c hp
  funext i
  obtain ⟨n, l, rfl⟩ : ∃ (n : Fin 33280) (l : Fin 1024), i = ix2 n l := ⟨i 0, i 1, eq_ix2 i⟩
  obtain ⟨q, r, rfl⟩ : ∃ (q : Fin 52) (r : Fin 640), n = rowOf q r :=
    ⟨⟨n.val / 640, by omega⟩, ⟨n.val % 640, by omega⟩, Fin.ext (by show n.val = 640 * (n.val / 640) + n.val % 640; omega)⟩
  obtain ⟨k⟩ := exists_choice (groupLogit (aH m c) (aWgrp m c) (aBgrp m c) (rowOf q r))
    (expertLogit (aH m c) (aWrt m c) (aBrt m c) (rowOf q r))
  have hG := group_fin (aH m c) (aWgrp m c) (aBgrp m c) hh hwg hbg (rowOf q r)
  have hE := expert_fin (aH m c) (aWrt m c) (aBrt m c) hh hwr hbr (rowOf q r)
  rw [Cert.ReferenceIdeal.Read.val_main_v83_apply]
  exact (G10_apply m c q r k hG hE l).trans
    (Cert.RefValue.v82_at (aH m c) (aWgrp m c) (aBgrp m c) (aWrt m c) (aBrt m c) (aGate m c) (aUp m c) (aDown m c) (aG m c)
      (aB m c) (rowOf q r) k hG hE l).symm

end Cert.Equation

end
-- ==== Proof.Merge.lean ====
/-
  The numbers one grid point of the merge call computes: four branches, each projected to the model's width and scaled by
  its gate, summed, put through the output projection, added to the residual and normalised.
-/
module

public import proofs.«01_k».proof.Proof.Gen.Kernel2Ideal.Value
public import proofs.«01_k».proof.Proof.BlockValue
public import Idealize.ShloMosaic.Lib.Pointwise

@[expose] public section

noncomputable section

open Idealize.ShloMosaic Idealize.ShloMosaic.TcCoe Idealize.SL.Sem

namespace Cert.MergeSpec

/-- `1/(1 + e^(0 − z))`. -/
def gateOf (z : EReal) : EReal := Ideal.div 1 (1 + Ideal.exp (0 - z))

/-- One branch at one place: the gate of `x · g`, times the branch's output projected, `y · b`. -/
def gated (x g : Fin 1024 → EReal) (y b : Fin 256 → EReal) : EReal :=
  gateOf (∑ t, x t * g t) * ∑ k, y k * b k

theorem gated_congr {x x' g g' : Fin 1024 → EReal} {y y' b b' : Fin 256 → EReal} (hx : ∀ t, x t = x' t) (hg : ∀ t, g t = g' t)
    (hy : ∀ k, y k = y' k) (hb : ∀ k, b k = b' k) : gated x g y b = gated x' g' y' b' := by
  rw [funext hx, funext hg, funext hy, funext hb]

/-- Column `l` of branch `j` among the 4096 gate columns. -/
def gateCol (j : Fin 4) (l : Fin 1024) : Fin 4096 := ⟨1024 * j.val + l.val, by omega⟩

end Cert.MergeSpec

namespace Cert.Kernel2Ideal.Block

open Cert.Kernel2Ideal Cert.Kernel2Ideal.Gen Cert.Spec Cert.MergeSpec

theorem off2 : (![0, 0] : Fin 2 → Nat) = fun _ => 0 := funext fun a => by fin_cases a <;> rfl

/-! ### The parts of the gate weight and of the branch weights a point loads -/

theorem gate_part (x2 : Vec Ideal S1024x4096 .bf16) (off : Nat) (inb) (t l : Fin 1024) (j : Fin 4) (hj : off = 1024 * j.val) :
    (View.ld x2 (Rect.unit (s := S1024x4096) ![0, off] S1024x1024.size inb) : Vec Ideal S1024x1024 .bf16) (ix2 t l) =
      x2 (ix2 t (gateCol j l)) := by
  refine congrArg x2 (funext fun a => Fin.ext ?_)
  match a with
  | ⟨0, _⟩ => show 0 + 1 * t.val = t.val; omega
  | ⟨1, _⟩ => show off + 1 * l.val = 1024 * j.val + l.val; omega

theorem branch_part (x7 : Vec Ideal S4x256x1024 .bf16) (off : Nat) (inb) (k : Fin 256) (l : Fin 1024) (j : Fin 4) (hj : off = j.val) :
    (View.ld x7 (Rect.unit (s := S4x256x1024) ![off, 0, 0] S1x256x1024.size inb) : Vec Ideal S1x256x1024 .bf16) (ix3 0 k l) =
      x7 (ix3 j k l) := by
  refine congrArg x7 (funext fun a => Fin.ext ?_)
  match a with
  | ⟨0, _⟩ => show off + 1 * 0 = j.val; omega
  | ⟨1, _⟩ => show 0 + 1 * k.val = k.val; omega
  | ⟨2, _⟩ => show 0 + 1 * l.val = l.val; omega

/-! ### The payloads -/

section
variable (x : Vec Ideal S640x1024 .bf16) (g g' : Vec Ideal S1024x1024 .bf16) (y y' : Vec Ideal S640x256 .bf16)
  (b b' : Vec Ideal S1x256x1024 .bf16) (r : Fin 640) (l : Fin 1024)

/-- The first two branches. -/
theorem pay4_apply : k0_pay4 x g y b g' y' b' (ix2 r l) =
    gated (fun t => x (ix2 r t)) (fun t => g (ix2 t l)) (fun k => y (ix2 r k)) (fun k => b (ix3 0 k l)) +
      gated (fun t => x (ix2 r t)) (fun t => g' (ix2 t l)) (fun k => y' (ix2 r k)) (fun k => b' (ix3 0 k l)) := by
  unfold gated gateOf
  pointwise [k0_pay4, k0_pay3]

/-- The last two added. -/
theorem pay5_apply (s : FVec Ideal S640x1024 .f32) : k0_pay5 (k0_pay3 x) s g y b g' y' b' (ix2 r l) =
    s (ix2 r l) + gated (fun t => x (ix2 r t)) (fun t => g (ix2 t l)) (fun k => y (ix2 r k)) (fun k => b (ix3 0 k l)) +
      gated (fun t => x (ix2 r t)) (fun t => g' (ix2 t l)) (fun k => y' (ix2 r k)) (fun k => b' (ix3 0 k l)) := by
  unfold gated gateOf
  pointwise [k0_pay5, k0_pay3]

/-- The output projection, the residual and the norm. -/
theorem pay1_apply (s : FVec Ideal S640x1024 .f32) (h : Vec Ideal S640x1024 .f32) (wo : Vec Ideal S1024x1024 .bf16)
    (ga be : Vec Ideal S1x1024 .f32) : k0_pay1 s h (Scalar.ofBits .f32 0x3FB504F3#32) wo ga be (ix2 r l) =
    layerNorm (fun t => residualOf (h (ix2 r t)) (∑ k : Fin 1024, s (ix2 r k) * wo (ix2 k t))) (ga (ix2 0 l)) (be (ix2 0 l)) l := by
  unfold layerNorm mean residualOf
  pointwise [k0_pay1]

end

/-! ### What a point leaves, over the blocks it reads -/

section
variable (x0 : Vec Ideal S640x1024 .f32) (x1 : Vec Ideal S640x1024 .bf16) (x2 : Vec Ideal S1024x4096 .bf16)
  (x3 x4 x5 x6 : Vec Ideal S640x256 .bf16) (x7 : Vec Ideal S4x256x1024 .bf16) (x8 : Vec Ideal S1024x1024 .bf16)
  (x9 x10 : Vec Ideal S1x1024 .f32) (r : Fin 640) (l : Fin 1024)

/-- The four branches merged. -/
def mergedBlock : EReal :=
  gated (fun t => x1 (ix2 r t)) (fun t => x2 (ix2 t (gateCol 0 l))) (fun k => x3 (ix2 r k)) (fun k => x7 (ix3 0 k l)) +
  gated (fun t => x1 (ix2 r t)) (fun t => x2 (ix2 t (gateCol 1 l))) (fun k => x4 (ix2 r k)) (fun k => x7 (ix3 1 k l)) +
  gated (fun t => x1 (ix2 r t)) (fun t => x2 (ix2 t (gateCol 2 l))) (fun k => x5 (ix2 r k)) (fun k => x7 (ix3 2 k l)) +
  gated (fun t => x1 (ix2 r t)) (fun t => x2 (ix2 t (gateCol 3 l))) (fun k => x6 (ix2 r k)) (fun k => x7 (ix3 3 k l))

theorem pay6_apply : k0_pay6 x0 x1 x2 x3 x4 x5 x6 x7 x8 x9 x10 (ix2 r l) = mergedBlock x1 x2 x3 x4 x5 x6 x7 r l := by
  unfold k0_pay6 mergedBlock
  rw [View.ld_unit_zero off2, View.ld_unit_zero off2, View.ld_unit_zero off2, View.ld_unit_zero off2, View.ld_unit_zero off2,
    pay5_apply, pay4_apply]
  refine congrArg₂ (fun a b : EReal => a + b) (congrArg₂ (fun a b : EReal => a + b) (congrArg₂ (fun a b : EReal => a + b) ?_ ?_) ?_) ?_
  · exact gated_congr (fun _ => rfl) (fun t => gate_part x2 _ _ t l 0 rfl) (fun _ => rfl) (fun k => branch_part x7 _ _ k l 0 rfl)
  · exact gated_congr (fun _ => rfl) (fun t => gate_part x2 _ _ t l 1 rfl) (fun _ => rfl) (fun k => branch_part x7 _ _ k l 1 rfl)
  · exact gated_congr (fun _ => rfl) (fun t => gate_part x2 _ _ t l 2 rfl) (fun _ => rfl) (fun k => branch_part x7 _ _ k l 2 rfl)
  · exact gated_congr (fun _ => rfl) (fun t => gate_part x2 _ _ t l 3 rfl) (fun _ => rfl) (fun k => branch_part x7 _ _ k l 3 rfl)

/-- The row the point normalises. -/
def outBlock : EReal :=
  layerNorm (fun t => residualOf (x0 (ix2 r t)) (∑ k : Fin 1024, mergedBlock x1 x2 x3 x4 x5 x6 x7 r k * x8 (ix2 k t)))
    (x9 (ix2 0 l)) (x10 (ix2 0 l)) l

theorem out11_apply : out0_11 x0 x1 x2 x3 x4 x5 x6 x7 x8 x9 x10 (ix2 r l) = outBlock x0 x1 x2 x3 x4 x5 x6 x7 x8 x9 x10 r l := by
  unfold out0_11 outBlock
  rw [View.canon_unit_zero off2, View.ld_unit_zero off2, View.ld_unit_zero off2, View.ld_unit_zero off2, View.ld_unit_zero off2,
    pay1_apply]
  simp only [pay6_apply]

theorem out12_apply : out0_12 x0 x1 x2 x3 x4 x5 x6 x7 x8 x9 x10 (ix2 r l) = outBlock x0 x1 x2 x3 x4 x5 x6 x7 x8 x9 x10 r l := by
  rw [← out11_apply]
  unfold out0_12 out0_11
  rw [View.canon_unit_zero off2, View.canon_unit_zero off2]
  generalize k0_pay6 x0 x1 x2 x3 x4 x5 x6 x7 x8 x9 x10 = s
  pointwise [k0_pay2]

end

end Cert.Kernel2Ideal.Block

end
-- ==== Proof.MergeTile.lean ====
/-
  What the merge call leaves: every tile of tokens merged, projected and normalised.  Grid point `q` reads and writes tile
  `q` of 640 tokens.
-/
module

public import proofs.«01_k».proof.Proof.Merge

@[expose] public section

noncomputable section

open Idealize.ShloMosaic Idealize.ShloMosaic.TcCoe Idealize.SL.Sem

namespace Cert.MergeSpec

/-- Column `l` of branch `j`'s gate in the whole input weight. -/
def gateIn (j : Fin 4) (l : Fin 1024) : Fin 7616 := ⟨3520 + (gateCol j l).val, by have := (gateCol j l).isLt; omega⟩

end Cert.MergeSpec

namespace Cert.Kernel2Ideal.Block

open Cert.Kernel2Ideal Cert.Kernel2Ideal.Gen Cert.Spec Cert.MergeSpec

/-! ### The layer's values -/

section
variable (h : FVec Ideal S33280x1024 .f32) (w : FVec Ideal S1024x7616 .f32) (ya yb yc yd : FVec Ideal S33280x256 .bf16)
  (wb : FVec Ideal S4x256x1024 .f32) (wo : FVec Ideal S1024x1024 .f32) (ga be : FVec Ideal S1024 .f32) (n : Fin 33280)
  (l : Fin 1024)

/-- The four branches of token `n` merged. -/
def mergedOf : EReal :=
  gated (fun t => h (ix2 n t)) (fun t => w (ix2 t (gateIn 0 l))) (fun k => ya (ix2 n k)) (fun k => wb (ix3 0 k l)) +
  gated (fun t => h (ix2 n t)) (fun t => w (ix2 t (gateIn 1 l))) (fun k => yb (ix2 n k)) (fun k => wb (ix3 1 k l)) +
  gated (fun t => h (ix2 n t)) (fun t => w (ix2 t (gateIn 2 l))) (fun k => yc (ix2 n k)) (fun k => wb (ix3 2 k l)) +
  gated (fun t => h (ix2 n t)) (fun t => w (ix2 t (gateIn 3 l))) (fun k => yd (ix2 n k)) (fun k => wb (ix3 3 k l))

/-- The residual of token `n`. -/
def residualAt : EReal :=
  residualOf (h (ix2 n l)) (∑ k : Fin 1024, mergedOf h w ya yb yc yd wb n k * wo (ix2 k l))

/-- The output of token `n`. -/
def outputAt : EReal := layerNorm (residualAt h w ya yb yc yd wb wo n) (ga (ix1 l)) (be (ix1 l)) l

end

variable (m : (ℓ : Loc nD τ sig) → Buf (Elt Ideal) ℓ) (c : Dev nD)

/-- The arguments as arrays of numbers. -/
abbrev aH : FVec Ideal S33280x1024 .f32 := m ((c : Thread nD τ).loc main_arg0)
abbrev aW : FVec Ideal S1024x7616 .f32 := m ((c : Thread nD τ).loc main_arg1)
abbrev aYa : FVec Ideal S33280x256 .bf16 := m ((c : Thread nD τ).loc main_arg2)
abbrev aYb : FVec Ideal S33280x256 .bf16 := m ((c : Thread nD τ).loc main_arg3)
abbrev aYc : FVec Ideal S33280x256 .bf16 := m ((c : Thread nD τ).loc main_arg4)
abbrev aYd : FVec Ideal S33280x256 .bf16 := m ((c : Thread nD τ).loc main_arg5)
abbrev aWb : FVec Ideal S4x256x1024 .f32 := m ((c : Thread nD τ).loc main_arg6)
abbrev aWo : FVec Ideal S1024x1024 .f32 := m ((c : Thread nD τ).loc main_arg7)
abbrev aG : FVec Ideal S1024 .f32 := m ((c : Thread nD τ).loc main_arg8)
abbrev aB : FVec Ideal S1024 .f32 := m ((c : Thread nD τ).loc main_arg9)

/-- Row `r` of tile `q`. -/
def rowOf (q : Fin 52) (r : Fin 640) : Fin 33280 := ⟨640 * q.val + r.val, by omega⟩

/-- Every row lies in a tile. -/
theorem exists_rowOf (n : Fin 33280) : ∃ q r, n = rowOf q r :=
  ⟨⟨n.val / 640, by omega⟩, ⟨n.val % 640, by omega⟩, Fin.ext (by show n.val = 640 * (n.val / 640) + n.val % 640; omega)⟩

theorem row_apply (v : FVec Ideal S1024 .f32) (l : Fin 1024) :
    shapeCast S1x1024 v shapeCasts_S1024_S1x1024 (ix2 0 l) = v (ix1 l) := by
  refine shapeCast_apply _ shapeCasts_S1024_S1x1024 _ (ix1 l) ?_
  rw [Shape.rowMajor_val_one, Shape.rowMajor_val_two]
  show l.val = 0 * 1024 + l.val
  ring

/-! ### What the host prepares -/

section
set_option maxRecDepth 100000
attribute [local irreducible] pad extractStridedSlice transpose concatenate truncf sitofp constantI shapeCast

theorem V_v34 : V m c main_v34 = (truncf .bf16 (extractStridedSlice S1024x4096 ![0, 3520] (aW m c) slices_S1024x7616_S1024x4096_0_3520 :
    FVec Ideal S1024x4096 .f32) bitsLt_bf16_f32 : FVec Ideal S1024x4096 .bf16) := by rfl

theorem V_v35 : V m c main_v35 = (truncf .bf16 (aH m c) bitsLt_bf16_f32 : FVec Ideal S33280x1024 .bf16) := by rfl

theorem V_v36 : V m c main_v36 = (truncf .bf16 (aWb m c) bitsLt_bf16_f32 : FVec Ideal S4x256x1024 .bf16) := by rfl

theorem V_v37 : V m c main_v37 = (truncf .bf16 (aWo m c) bitsLt_bf16_f32 : FVec Ideal S1024x1024 .bf16) := by rfl

theorem V_v38 : V m c main_v38 = shapeCast S1x1024 (aG m c) shapeCasts_S1024_S1x1024 := by rfl

theorem V_v39 : V m c main_v39 = shapeCast S1x1024 (aB m c) shapeCasts_S1024_S1x1024 := by rfl

end

/-! ### The blocks a point reads -/

/-- Where the windows stand at a point. -/
theorem places : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) ∧
    (win0_7.index t (0 : Fin 3) = 0 ∧ win0_7.index t (1 : Fin 3) = 0 ∧ win0_7.index t (2 : Fin 3) = 0) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = t.val ∧ win0_11.index t (1 : Fin 2) = 0) ∧
    (win0_12.index t (0 : Fin 2) = t.val ∧ win0_12.index t (1 : Fin 2) = 0) :=
  (by decide +kernel : ∀ t : Fin grid0.N, _)

/-- Every point writes its blocks back. -/
theorem flushes : ∀ t : Fin cfg0.N, (cfg0.win 11).flush t = true ∧ (cfg0.win 12).flush t = true :=
  (by decide +kernel : ∀ t : Fin grid0.N, _)

section
variable (q : Fin 52) (t : Fin cfg0.N) (ht : t.val = q.val)

include ht in
theorem block0 (r : Fin 640) (l : Fin 1024) :
    (iblk m c 0 t : Vec Ideal S640x1024 .f32) (ix2 r l) = aH m c (ix2 (rowOf q r) l) := by
  obtain ⟨⟨p0, p1⟩, -⟩ := places t
  unfold iblk
  rw [View.read_apply]
  refine (congrFun (V_main_arg0 m c) _).trans (congrArg (aH m c) ?_)
  funext a
  apply Fin.ext
  match a with
  | ⟨0, _⟩ => show win0_0.index t 0 * 640 + 1 * r.val = 640 * q.val + r.val; rw [p0]; omega
  | ⟨1, _⟩ => show win0_0.index t 1 * 1024 + 1 * l.val = l.val; rw [p1]; omega

include ht in
theorem block1 (r : Fin 640) (l : Fin 1024) :
    (iblk m c 1 t : Vec Ideal S640x1024 .bf16) (ix2 r l) = aH m c (ix2 (rowOf q r) l) := by
  obtain ⟨-, ⟨p0, p1⟩, -⟩ := places t
  unfold iblk
  rw [View.read_apply]
  refine (congrFun (V_v35 m c) _).trans (congrArg (aH m c) ?_)
  funext a
  apply Fin.ext
  match a with
  | ⟨0, _⟩ => show win0_1.index t 0 * 640 + 1 * r.val = 640 * q.val + r.val; rw [p0]; omega
  | ⟨1, _⟩ => show win0_1.index t 1 * 1024 + 1 * l.val = l.val; rw [p1]; omega

include ht in
theorem block3 (r : Fin 640) (l : Fin 256) :
    (iblk m c 3 t : Vec Ideal S640x256 .bf16) (ix2 r l) = aYa m c (ix2 (rowOf q r) l) := by
  obtain ⟨-, -, -, ⟨p0, p1⟩, -⟩ := places t
  unfold iblk
  rw [View.read_apply]
  refine (congrFun (V_main_arg2 m c) _).trans (congrArg (aYa m c) ?_)
  funext a
  apply Fin.ext
  match a with
  | ⟨0, _⟩ => show win0_3.index t 0 * 640 + 1 * r.val = 640 * q.val + r.val; rw [p0]; omega
  | ⟨1, _⟩ => show win0_3.index t 1 * 256 + 1 * l.val = l.val; rw [p1]; omega

include ht in
theorem block4 (r : Fin 640) (l : Fin 256) :
    (iblk m c 4 t : Vec Ideal S640x256 .bf16) (ix2 r l) = aYb m c (ix2 (rowOf q r) l) := by
  obtain ⟨-, -, -, -, ⟨p0, p1⟩, -⟩ := places t
  unfold iblk
  rw [View.read_apply]
  refine (congrFun (V_main_arg3 m c) _).trans (congrArg (aYb m c) ?_)
  funext a
  apply Fin.ext
  match a with
  | ⟨0, _⟩ => show win0_4.index t 0 * 640 + 1 * r.val = 640 * q.val + r.val; rw [p0]; omega
  | ⟨1, _⟩ => show win0_4.index t 1 * 256 + 1 * l.val = l.val; rw [p1]; omega

include ht in
theorem block5 (r : Fin 640) (l : Fin 256) :
    (iblk m c 5 t : Vec Ideal S640x256 .bf16) (ix2 r l) = aYc m c (ix2 (rowOf q r) l) := by
  obtain ⟨-, -, -, -, -, ⟨p0, p1⟩, -⟩ := places t
  unfold iblk
  rw [View.read_apply]
  refine (congrFun (V_main_arg4 m c) _).trans (congrArg (aYc m c) ?_)
  funext a
  apply Fin.ext
  match a with
  | ⟨0, _⟩ => show win0_5.index t 0 * 640 + 1 * r.val = 640 * q.val + r.val; rw [p0]; omega
  | ⟨1, _⟩ => show win0_5.index t 1 * 256 + 1 * l.val = l.val; rw [p1]; omega

include ht in
theorem block6 (r : Fin 640) (l : Fin 256) :
    (iblk m c 6 t : Vec Ideal S640x256 .bf16) (ix2 r l) = aYd m c (ix2 (rowOf q r) l) := by
  obtain ⟨-, -, -, -, -, -, ⟨p0, p1⟩, -⟩ := places t
  unfold iblk
  rw [View.read_apply]
  refine (congrFun (V_main_arg5 m c) _).trans (congrArg (aYd m c) ?_)
  funext a
  apply Fin.ext
  match a with
  | ⟨0, _⟩ => show win0_6.index t 0 * 640 + 1 * r.val = 640 * q.val + r.val; rw [p0]; omega
  | ⟨1, _⟩ => show win0_6.index t 1 * 256 + 1 * l.val = l.val; rw [p1]; omega

theorem block2 (k : Fin 1024) (j : Fin 4) (l : Fin 1024) :
    (iblk m c 2 t : Vec Ideal S1024x4096 .bf16) (ix2 k (gateCol j l)) = aW m c (ix2 k (gateIn j l)) := by
  obtain ⟨-, -, ⟨p0, p1⟩, -⟩ := places t
  unfold iblk
  rw [View.read_apply]
  refine (congrFun (V_v34 m c) _).trans (congrArg (aW m c) ?_)
  funext a
  apply Fin.ext
  match a with
  | ⟨0, _⟩ => show 0 + (win0_2.index t 0 * 1024 + 1 * k.val) = k.val; rw [p0]; omega
  | ⟨1, _⟩ => show 3520 + (win0_2.index t 1 * 4096 + 1 * (gateCol j l).val) = 3520 + (gateCol j l).val; rw [p1]; omega

theorem block7 (j : Fin 4) (k : Fin 256) (l : Fin 1024) :
    (iblk m c 7 t : Vec Ideal S4x256x1024 .bf16) (ix3 j k l) = aWb m c (ix3 j k l) := by
  obtain ⟨-, -, -, -, -, -, -, ⟨p0, p1, p2⟩, -⟩ := places t
  unfold iblk
  rw [View.read_apply]
  refine (congrFun (V_v36 m c) _).trans (congrArg (aWb m c) ?_)
  funext a
  apply Fin.ext
  match a with
  | ⟨0, _⟩ => show win0_7.index t 0 * 4 + 1 * j.val = j.val; rw [p0]; omega
  | ⟨1, _⟩ => show win0_7.index t 1 * 256 + 1 * k.val = k.val; rw [p1]; omega
  | ⟨2, _⟩ => show win0_7.index t 2 * 1024 + 1 * l.val = l.val; rw [p2]; omega

theorem block8 (k l : Fin 1024) :
    (iblk m c 8 t : Vec Ideal S1024x1024 .bf16) (ix2 k l) = aWo m c (ix2 k l) := by
  obtain ⟨-, -, -, -, -, -, -, -, ⟨p0, p1⟩, -⟩ := places t
  unfold iblk
  rw [View.read_apply]
  refine (congrFun (V_v37 m c) _).trans (congrArg (aWo m c) ?_)
  funext a
  apply Fin.ext
  match a with
  | ⟨0, _⟩ => show win0_8.index t 0 * 1024 + 1 * k.val = k.val; rw [p0]; omega
  | ⟨1, _⟩ => show win0_8.index t 1 * 1024 + 1 * l.val = l.val; rw [p1]; omega

theorem block9 (l : Fin 1024) :
    (iblk m c 9 t : Vec Ideal S1x1024 .f32) (ix2 0 l) = aG m c (ix1 l) := by
  obtain ⟨-, -, -, -, -, -, -, -, -, ⟨p0, p1⟩, -⟩ := places t
  rw [← row_apply (aG m c) l]
  unfold iblk
  rw [View.read_apply]
  refine (congrFun (V_v38 m c) _).trans (congrArg (shapeCast S1x1024 (aG m c) shapeCasts_S1024_S1x1024) ?_)
  funext a
  apply Fin.ext
  match a with
  | ⟨0, _⟩ => show win0_9.index t 0 * 1 + 1 * 0 = 0; rw [p0]
  | ⟨1, _⟩ => show win0_9.index t 1 * 1024 + 1 * l.val = l.val; rw [p1]; omega

theorem block10 (l : Fin 1024) :
    (iblk m c 10 t : Vec Ideal S1x1024 .f32) (ix2 0 l) = aB m c (ix1 l) := by
  obtain ⟨-, -, -, -, -, -, -, -, -, -, ⟨p0, p1⟩, -⟩ := places t
  rw [← row_apply (aB m c) l]
  unfold iblk
  rw [View.read_apply]
  refine (congrFun (V_v39 m c) _).trans (congrArg (shapeCast S1x1024 (aB m c) shapeCasts_S1024_S1x1024) ?_)
  funext a
  apply Fin.ext
  match a with
  | ⟨0, _⟩ => show win0_10.index t 0 * 1 + 1 * 0 = 0; rw [p0]
  | ⟨1, _⟩ => show win0_10.index t 1 * 1024 + 1 * l.val = l.val; rw [p1]; omega

include ht in
/-- The merged branches of a row of the tile. -/
theorem merged_tile (r : Fin 640) (l : Fin 1024) :
    mergedBlock (iblk m c 1 t) (iblk m c 2 t) (iblk m c 3 t) (iblk m c 4 t) (iblk m c 5 t) (iblk m c 6 t) (iblk m c 7 t) r l =
      mergedOf (aH m c) (aW m c) (aYa m c) (aYb m c) (aYc m c) (aYd m c) (aWb m c) (rowOf q r) l := by
  unfold mergedBlock mergedOf
  have hx := block1 m c q t ht r
  refine congrArg₂ (fun a b : EReal => a + b) (congrArg₂ (fun a b : EReal => a + b) (congrArg₂ (fun a b : EReal => a + b) ?_ ?_) ?_) ?_
  · exact gated_congr hx (fun k => block2 m c t k 0 l) (block3 m c q t ht r) (fun k => block7 m c t 0 k l)
  · exact gated_congr hx (fun k => block2 m c t k 1 l) (block4 m c q t ht r) (fun k => block7 m c t 1 k l)
  · exact gated_congr hx (fun k => block2 m c t k 2 l) (block5 m c q t ht r) (fun k => block7 m c t 2 k l)
  · exact gated_congr hx (fun k => block2 m c t k 3 l) (block6 m c q t ht r) (fun k => block7 m c t 3 k l)

include ht in
/-- The row a point leaves. -/
theorem out_tile (r : Fin 640) (l : Fin 1024) :
    outBlock (iblk m c 0 t) (iblk m c 1 t) (iblk m c 2 t) (iblk m c 3 t) (iblk m c 4 t) (iblk m c 5 t) (iblk m c 6 t)
        (iblk m c 7 t) (iblk m c 8 t) (iblk m c 9 t) (iblk m c 10 t) r l =
      outputAt (aH m c) (aW m c) (aYa m c) (aYb m c) (aYc m c) (aYd m c) (aWb m c) (aWo m c) (aG m c) (aB m c) (rowOf q r) l := by
  unfold outBlock outputAt
  have hr : ∀ u : Fin 1024, residualOf ((iblk m c 0 t : Vec Ideal S640x1024 .f32) (ix2 r u))
      (∑ k : Fin 1024, mergedBlock (iblk m c 1 t) (iblk m c 2 t) (iblk m c 3 t) (iblk m c 4 t) (iblk m c 5 t) (iblk m c 6 t)
        (iblk m c 7 t) r k * (iblk m c 8 t : Vec Ideal S1024x1024 .bf16) (ix2 k u)) =
      residualAt (aH m c) (aW m c) (aYa m c) (aYb m c) (aYc m c) (aYd m c) (aWb m c) (aWo m c) (rowOf q r) u := fun u => by
    unfold residualAt
    exact congrArg₂ residualOf (block0 m c q t ht r u) (Finset.sum_congr rfl fun k _ =>
      congrArg₂ (fun a b : EReal => a * b) (merged_tile m c q t ht r k) (block8 m c t k u))
  rw [funext hr, block9 m c t l, block10 m c t l]

end

/-! ### The two arrays after the run -/

theorem array11 (n : Fin 33280) (l : Fin 1024) :
    ((dats m 0 c).arrAt 11 cfg0.N : Vec Ideal S33280x1024 .f32) (ix2 n l) =
      outputAt (aH m c) (aW m c) (aYa m c) (aYb m c) (aYc m c) (aYd m c) (aWb m c) (aWo m c) (aG m c) (aB m c) n l := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks11 m c t (flushes t).1).trans (Value.flushed11 m c t)) (ix2 r l)
  rw [View.read_apply] at h
  generalize (dats m 0 c).arrAt 11 cfg0.N = A at h ⊢
  refine Eq.trans (congrArg A ?_) (h.trans ?_)
  · obtain ⟨-, -, -, -, -, -, -, -, -, -, -, ⟨p0, p1⟩, -⟩ := places t
    funext a
    apply Fin.ext
    match a with
    | ⟨0, _⟩ => show 640 * q.val + r.val = win0_11.index t 0 * 640 + 1 * r.val; rw [p0]; omega
    | ⟨1, _⟩ => show l.val = win0_11.index t 1 * 1024 + 1 * l.val; rw [p1]; omega
  · exact (out11_apply _ _ _ _ _ _ _ _ _ _ _ r l).trans (out_tile m c q t ht r l)

theorem array12 (n : Fin 33280) (l : Fin 1024) :
    ((dats m 0 c).arrAt 12 cfg0.N : Vec Ideal S33280x1024 .bf16) (ix2 n l) =
      outputAt (aH m c) (aW m c) (aYa m c) (aYb m c) (aYc m c) (aYd m c) (aWb m c) (aWo m c) (aG m c) (aB m c) n l := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks12 m c t (flushes t).2).trans (Value.flushed12 m c t)) (ix2 r l)
  rw [View.read_apply] at h
  generalize (dats m 0 c).arrAt 12 cfg0.N = A at h ⊢
  refine Eq.trans (congrArg A ?_) (h.trans ?_)
  · obtain ⟨-, -, -, -, -, -, -, -, -, -, -, -, ⟨p0, p1⟩⟩ := places t
    funext a
    apply Fin.ext
    match a with
    | ⟨0, _⟩ => show 640 * q.val + r.val = win0_12.index t 0 * 640 + 1 * r.val; rw [p0]; omega
    | ⟨1, _⟩ => show l.val = win0_12.index t 1 * 1024 + 1 * l.val; rw [p1]; omega
  · exact (out12_apply _ _ _ _ _ _ _ _ _ _ _ r l).trans (out_tile m c q t ht r l)

end Cert.Kernel2Ideal.Block

end
-- ==== Proof.RefMerge.lean ====
/-
  The merge's reference, read at an entry: gates from the whole input projection, the branches projected and scaled, the
  output projection, the residual and the layer norm.
-/
module

public import proofs.«01_k».proof.Proof.MergeTile
public import proofs.«01_k».proof.Proof.Gen.Reference2Ideal.Read

@[expose] public section

noncomputable section

open Idealize.ShloMosaic Idealize.ShloMosaic.TcCoe Idealize.SL.Sem

namespace Cert.RefMerge

open Cert.Reference2Ideal Cert.Reference2Ideal.Read Cert.Spec Cert.MergeSpec
open Cert.Kernel2Ideal.Block (mergedOf residualAt outputAt)

/-- The word of one. -/
theorem one_word : (FloatOps.ofBits (F := Ideal) .f32 0x3F800000#32) = (1 : EReal) := by
  show Ideal.ofBits FTy.f32 0x3F800000#32 = 1
  exact Ideal.ofBits_one_f32

/-- The word of zero. -/
theorem zero_word : (FloatOps.ofBits (F := Ideal) .f32 0x00000000#32) = (0 : EReal) := by
  show Ideal.ofBits FTy.f32 0x00000000#32 = 0
  exact Ideal.ofBits_zero_f32

variable (x0 : FVec Ideal S33280x1024 .f32) (x1 : FVec Ideal S1024x7616 .f32) (x2 x3 x4 x5 : FVec Ideal S33280x256 .bf16)
  (x6 : FVec Ideal S4x256x1024 .f32) (x7 : FVec Ideal S1024x1024 .f32) (x8 x9 : FVec Ideal S1024 .f32) (n : Fin 33280)
  (l : Fin 1024)

/-- The input projection. -/
theorem v0_at (k : Fin 7616) : val_main_v0 (F := Ideal) x0 x1 (ix2 n k) = ∑ t : Fin 1024, x0 (ix2 n t) * x1 (ix2 t k) := by
  rw [val_main_v0_apply]
  refine Finset.sum_congr rfl fun t _ => ?_
  rw [show lidx_main_v0 (ix2 n k) t = ix2 n t from eq_ix2 _, show ridx_main_v0 (ix2 n k) t = ix2 t k from eq_ix2 _]

/-- The gates. -/
theorem v11_at (j : Fin 4) : val_main_v11 (F := Ideal) x0 x1 (ix2 n (gateCol j l)) =
    gateOf (∑ t : Fin 1024, x0 (ix2 n t) * x1 (ix2 t (gateIn j l))) := by
  rw [val_main_v11_apply, val_main_v10_apply, val_main_cst_0_apply, val_main_v9_apply, val_main_v8_apply, val_main_cst_apply,
    val_main_v7_apply, val_main_v6_apply, val_main_v5_apply, one_word,
    show idx_main_v5 (ix2 n (gateCol j l)) = ix2 n (gateIn j l) from eq_ix2 _, v0_at]
  unfold gateOf
  rw [zero_sub]
  rfl

/-- Branch 0 projected. -/
theorem v20_at : val_main_v20 (F := Ideal) x2 x6 (ix2 n l) = ∑ k : Fin 256, x2 (ix2 n k) * x6 (ix3 0 k l) := by
  rw [val_main_v20_apply]
  refine Finset.sum_congr rfl fun k _ => ?_
  rw [show lidx_main_v20 (ix2 n l) k = ix2 n k from eq_ix2 _, val_main_v19_apply, val_main_v18_apply]
  refine congrArg₂ (fun a b : EReal => a * b) rfl (congrArg x6 (funext fun a => Fin.ext ?_))
  have hk := k.isLt
  have hl := l.isLt
  match a with
  | ⟨0, _⟩ => show 0 = 0; rfl
  | ⟨1, _⟩ => show (k.val * 1024 + l.val) / 1024 % 256 = k.val; omega
  | ⟨2, _⟩ => show (k.val * 1024 + l.val) % 1024 = l.val; omega

/-- Branch 0 scaled by its gate. -/
theorem v21_at : val_main_v21 (F := Ideal) x0 x1 x2 x6 (ix2 n l) =
    gated (fun t => x0 (ix2 n t)) (fun t => x1 (ix2 t (gateIn 0 l))) (fun k => x2 (ix2 n k)) (fun k => x6 (ix3 0 k l)) := by
  have hi : idx_main_v12 (ix2 n l) = ix2 n (gateCol 0 l) := funext fun a => Fin.ext (by
    match a with
    | ⟨0, _⟩ => rfl
    | ⟨1, _⟩ => show l.val = 1024 * 0 + l.val; omega)
  rw [val_main_v21_apply, val_main_v12_apply, hi, v11_at, v20_at]
  rfl

/-- Branch 1 projected. -/
theorem v26_at : val_main_v26 (F := Ideal) x3 x6 (ix2 n l) = ∑ k : Fin 256, x3 (ix2 n k) * x6 (ix3 1 k l) := by
  rw [val_main_v26_apply]
  refine Finset.sum_congr rfl fun k _ => ?_
  rw [show lidx_main_v26 (ix2 n l) k = ix2 n k from eq_ix2 _, val_main_v25_apply, val_main_v24_apply]
  refine congrArg₂ (fun a b : EReal => a * b) rfl (congrArg x6 (funext fun a => Fin.ext ?_))
  have hk := k.isLt
  have hl := l.isLt
  match a with
  | ⟨0, _⟩ => show 1 + 0 = 1; rfl
  | ⟨1, _⟩ => show (k.val * 1024 + l.val) / 1024 % 256 = k.val; omega
  | ⟨2, _⟩ => show (k.val * 1024 + l.val) % 1024 = l.val; omega

/-- Branch 1 scaled by its gate. -/
theorem v27_at : val_main_v27 (F := Ideal) x0 x1 x3 x6 (ix2 n l) =
    gated (fun t => x0 (ix2 n t)) (fun t => x1 (ix2 t (gateIn 1 l))) (fun k => x3 (ix2 n k)) (fun k => x6 (ix3 1 k l)) := by
  have hi : idx_main_v13 (ix2 n l) = ix2 n (gateCol 1 l) := funext fun a => Fin.ext (by
    match a with
    | ⟨0, _⟩ => rfl
    | ⟨1, _⟩ => show 1024 + l.val = 1024 * 1 + l.val; omega)
  rw [val_main_v27_apply, val_main_v13_apply, hi, v11_at, v26_at]
  rfl

/-- Branch 2 projected. -/
theorem v32_at : val_main_v32 (F := Ideal) x4 x6 (ix2 n l) = ∑ k : Fin 256, x4 (ix2 n k) * x6 (ix3 2 k l) := by
  rw [val_main_v32_apply]
  refine Finset.sum_congr rfl fun k _ => ?_
  rw [show lidx_main_v32 (ix2 n l) k = ix2 n k from eq_ix2 _, val_main_v31_apply, val_main_v30_apply]
  refine congrArg₂ (fun a b : EReal => a * b) rfl (congrArg x6 (funext fun a => Fin.ext ?_))
  have hk := k.isLt
  have hl := l.isLt
  match a with
  | ⟨0, _⟩ => show 2 + 0 = 2; rfl
  | ⟨1, _⟩ => show (k.val * 1024 + l.val) / 1024 % 256 = k.val; omega
  | ⟨2, _⟩ => show (k.val * 1024 + l.val) % 1024 = l.val; omega

/-- Branch 2 scaled by its gate. -/
theorem v33_at : val_main_v33 (F := Ideal) x0 x1 x4 x6 (ix2 n l) =
    gated (fun t => x0 (ix2 n t)) (fun t => x1 (ix2 t (gateIn 2 l))) (fun k => x4 (ix2 n k)) (fun k => x6 (ix3 2 k l)) := by
  have hi : idx_main_v14 (ix2 n l) = ix2 n (gateCol 2 l) := funext fun a => Fin.ext (by
    match a with
    | ⟨0, _⟩ => rfl
    | ⟨1, _⟩ => show 2048 + l.val = 1024 * 2 + l.val; omega)
  rw [val_main_v33_apply, val_main_v14_apply, hi, v11_at, v32_at]
  rfl

/-- Branch 3 projected. -/
theorem v38_at : val_main_v38 (F := Ideal) x5 x6 (ix2 n l) = ∑ k : Fin 256, x5 (ix2 n k) * x6 (ix3 3 k l) := by
  rw [val_main_v38_apply]
  refine Finset.sum_congr rfl fun k _ => ?_
  rw [show lidx_main_v38 (ix2 n l) k = ix2 n k from eq_ix2 _, val_main_v37_apply, val_main_v36_apply]
  refine congrArg₂ (fun a b : EReal => a * b) rfl (congrArg x6 (funext fun a => Fin.ext ?_))
  have hk := k.isLt
  have hl := l.isLt
  match a with
  | ⟨0, _⟩ => show 3 + 0 = 3; rfl
  | ⟨1, _⟩ => show (k.val * 1024 + l.val) / 1024 % 256 = k.val; omega
  | ⟨2, _⟩ => show (k.val * 1024 + l.val) % 1024 = l.val; omega

/-- Branch 3 scaled by its gate. -/
theorem v39_at : val_main_v39 (F := Ideal) x0 x1 x5 x6 (ix2 n l) =
    gated (fun t => x0 (ix2 n t)) (fun t => x1 (ix2 t (gateIn 3 l))) (fun k => x5 (ix2 n k)) (fun k => x6 (ix3 3 k l)) := by
  have hi : idx_main_v15 (ix2 n l) = ix2 n (gateCol 3 l) := funext fun a => Fin.ext (by
    match a with
    | ⟨0, _⟩ => rfl
    | ⟨1, _⟩ => show 3072 + l.val = 1024 * 3 + l.val; omega)
  rw [val_main_v39_apply, val_main_v15_apply, hi, v11_at, v38_at]
  rfl

/-- The branches merged. -/
theorem v40_at : val_main_v40 (F := Ideal) x0 x1 x2 x3 x4 x5 x6 (ix2 n l) = mergedOf x0 x1 x2 x3 x4 x5 x6 n l := by
  rw [val_main_v40_apply, val_main_v34_apply, val_main_v28_apply, val_main_v22_apply, val_main_v16_apply, val_main_cst_1_apply,
    v21_at, v27_at, v33_at, v39_at, zero_word]
  unfold mergedOf
  refine congrArg₂ (fun a b : EReal => a + b) (congrArg₂ (fun a b : EReal => a + b) (congrArg₂ (fun a b : EReal => a + b) ?_ rfl) rfl) rfl
  exact zero_add _

/-- The residual before the norm. -/
theorem v44_at : val_main_v44 (F := Ideal) x0 x1 x2 x3 x4 x5 x6 x7 (ix2 n l) = residualAt x0 x1 x2 x3 x4 x5 x6 x7 n l := by
  rw [val_main_v44_apply, val_main_v42_apply, val_main_v41_apply, val_main_cst_2_apply, val_main_v43_apply]
  unfold residualAt residualOf
  refine congrArg₂ (fun a b : EReal => a + b) rfl (Finset.sum_congr rfl fun k _ => ?_)
  rw [show lidx_main_v43 (ix2 n l) k = ix2 n k from eq_ix2 _, show ridx_main_v43 (ix2 n l) k = ix2 k l from eq_ix2 _, v40_at]

/-- The mean of the residual. -/
theorem v48_at : val_main_v48 (F := Ideal) x0 x1 x2 x3 x4 x5 x6 x7 (ix2 n 0) = mean (residualAt x0 x1 x2 x3 x4 x5 x6 x7 n) := by
  rw [val_main_v48_apply, val_main_v47_apply, val_main_cst_4_apply, val_main_v46_apply, val_main_v45_apply, val_main_cst_3_apply,
    zero_word, zero_add]
  unfold mean
  refine congrArg (fun a : EReal => Ideal.div a _) (Finset.sum_congr rfl fun t _ => ?_)
  exact (congrArg _ (eq_ix2 _)).trans (v44_at x0 x1 x2 x3 x4 x5 x6 x7 n t)

/-- The reference's output is the layer's. -/
theorem v68_at : val_main_v68 (F := Ideal) x0 x1 x2 x3 x4 x5 x6 x7 x8 x9 (ix2 n l) =
    outputAt x0 x1 x2 x3 x4 x5 x6 x7 x8 x9 n l := by
  have hc : ∀ t, val_main_v50 (F := Ideal) x0 x1 x2 x3 x4 x5 x6 x7 (ix2 n t) =
      residualAt x0 x1 x2 x3 x4 x5 x6 x7 n t - mean (residualAt x0 x1 x2 x3 x4 x5 x6 x7 n) := fun t => by
    rw [val_main_v50_apply, v44_at, val_main_v49_apply, show idx_main_v49 (ix2 n t) = ix2 n 0 from eq_ix2 _, v48_at]
    rfl
  rw [val_main_v68_apply, val_main_v67_apply, val_main_v66_apply, val_main_v65_apply, val_main_v64_apply, val_main_v63_apply,
    val_main_v62_apply, val_main_v61_apply, val_main_v60_apply, val_main_v59_apply, val_main_v58_apply, val_main_cst_7_apply,
    val_main_v57_apply, v44_at, val_main_v56_apply, show idx_main_v56 (ix2 n l) = ix2 n 0 from eq_ix2 _, v48_at,
    val_main_v55_apply, val_main_v54_apply, val_main_cst_6_apply, val_main_v53_apply, val_main_v52_apply, val_main_cst_5_apply,
    zero_word, zero_add,
    show idx_main_v63 (idx_main_v64 (ix2 n l)) = ix1 l from eq_ix1 _, show idx_main_v66 (idx_main_v67 (ix2 n l)) = ix1 l from eq_ix1 _]
  unfold outputAt layerNorm
  have hs : ∑ t, val_main_v51 (F := Ideal) x0 x1 x2 x3 x4 x5 x6 x7 (idx_main_v52 (idx_main_v53 (idx_main_v61 (ix2 n l))) t) =
      ∑ t, (residualAt x0 x1 x2 x3 x4 x5 x6 x7 n t - mean (residualAt x0 x1 x2 x3 x4 x5 x6 x7 n)) *
        (residualAt x0 x1 x2 x3 x4 x5 x6 x7 n t - mean (residualAt x0 x1 x2 x3 x4 x5 x6 x7 n)) :=
    Finset.sum_congr rfl fun t _ => by
      rw [show idx_main_v52 (idx_main_v53 (idx_main_v61 (ix2 n l))) t = ix2 n t from eq_ix2 _, val_main_v51_apply, hc]
      rfl
  rw [hs]
  rfl

end Cert.RefMerge

namespace Cert.Equation2

open Cert.Kernel2Ideal Cert.Kernel2Ideal.Gen Cert.Kernel2Ideal.Block

variable (m : (ℓ : Loc nD τ sig) → Buf (Elt Ideal) ℓ) (c : Dev nD)

/-- The merge's two arrays are the reference's. -/
theorem first : ((dats m 0 c).arrAt 11 cfg0.N : Vec Ideal S33280x1024 .f32) =
    Cert.Reference2Ideal.Read.val_main_v68 (F := Ideal) (aH m c) (aW m c) (aYa m c) (aYb m c) (aYc m c) (aYd m c) (aWb m c)
      (aWo m c) (aG m c) (aB m c) := by
  funext i
  rw [eq_ix2 i]
  exact (array11 m c _ _).trans (Cert.RefMerge.v68_at _ _ _ _ _ _ _ _ _ _ _ _).symm

theorem second : ((dats m 0 c).arrAt 12 cfg0.N : Vec Ideal S33280x1024 .bf16) =
    Cert.Reference2Ideal.Read.val_main_v69 (F := Ideal) (aH m c) (aW m c) (aYa m c) (aYb m c) (aYc m c) (aYd m c) (aWb m c)
      (aWo m c) (aG m c) (aB m c) := by
  funext i
  rw [eq_ix2 i]
  exact (array12 m c _ _).trans (Cert.RefMerge.v68_at _ _ _ _ _ _ _ _ _ _ _ _).symm

end Cert.Equation2

end
-- ==== Proof.Columns.lean ====
/-
  The in-projection's packed columns.  The weight has 7616 columns; the second branch's 784 and the fourth branch's 1032
  columns are taken out of it in a new order and followed by columns of zeros up to a multiple of 128.
-/
module

public import proofs.«01_k».proof.Proof.Gen.Kernel3Ideal.Value
public import Idealize.ShloMosaic.Lib.Pointwise
public import Idealize.ShloMosaic.Lib.KernelVsHost

@[expose] public section

noncomputable section

open Idealize.ShloMosaic Idealize.ShloMosaic.TcCoe Idealize.SL.Sem

namespace Cert.Columns

/-- The first branch's columns are the weight's first. -/
def firstCol (c : Fin 1024) : Fin 7616 := ⟨c.val, by omega⟩

/-- The weight's column a packed column of the second branch comes from; none for the zeros at the end. -/
def glaCol (c : Fin 896) : Option (Fin 7616) :=
  if h : c.val < 512 then some ⟨1024 + c.val, by omega⟩
  else if h : c.val < 768 then some ⟨1040 + c.val, by omega⟩
  else if h : c.val < 784 then some ⟨768 + c.val, by omega⟩
  else none

/-- The same of the fourth branch. -/
def mlstmCol (c : Fin 1152) : Option (Fin 7616) :=
  if h : c.val < 768 then some ⟨2488 + c.val, by omega⟩
  else if h : c.val < 1024 then some ⟨2496 + c.val, by omega⟩
  else if h : c.val < 1032 then some ⟨2232 + c.val, by omega⟩
  else none

/-- An entry of a row at a packed column. -/
def pick (f : Fin 7616 → EReal) : Option (Fin 7616) → EReal
  | none => 0
  | some k => f k

/-- An entry of matrices put side by side, named by the piece it lies in and its column there. -/
theorem piece_apply {α : Type} {R n w : Nat} (xs : List ((s : Shape) × (s.Idx → α)))
    (h : Shape.Concatenates (xs.map (·.1)) ⟨2, ![R, n]⟩ 1) (t : Fin R) (c : Fin n) (k : Nat) (hk : k < xs.length)
    (x : (⟨2, ![R, w]⟩ : Shape).Idx → α) (hx : xs[k] = ⟨⟨2, ![R, w]⟩, x⟩) (pre : Nat)
    (hpre : (((xs.take k).map (·.1)).map fun s => if h : s.rank = 2 then s.size ((1 : Fin 2).cast h.symm) else 0).sum = pre)
    (c' : Fin w) (hc : pre + c'.val = c.val) :
    concatenate (⟨2, ![R, n]⟩ : Shape) 1 xs h (ix2 t c) = x (ix2 t c') :=
  concatenate_apply_piece (t := ⟨2, ![R, n]⟩) (1 : Fin 2) xs h (ix2 t c) k hk ⟨2, ![R, w]⟩ x hx rfl pre hpre (ix2 t c')
    (fun b hb => match b, hb with
      | ⟨0, _⟩, _ => rfl
      | ⟨1, _⟩, hb => absurd rfl hb) hc

end Cert.Columns

namespace Cert.Kernel3Ideal.Block

open Cert.Kernel3Ideal Cert.Kernel3Ideal.Gen Cert.Columns

/-- The second branch's weight, as the host packs it. -/
def packedB (w : FVec Ideal S1024x7616 .f32) : FVec Ideal S1024x896 .f32 :=
  pad S1024x896 ![0, 0] ![0, 112] ![0, 0]
    (concatenate S1024x784 1
      [⟨S1024x128, extractStridedSlice S1024x128 ![0, 1024] w slices_S1024x7616_S1024x128_0_1024⟩,
       ⟨S1024x128, extractStridedSlice S1024x128 ![0, 1152] w slices_S1024x7616_S1024x128_0_1152⟩,
       ⟨S1024x256, extractStridedSlice S1024x256 ![0, 1280] w slices_S1024x7616_S1024x256_0_1280⟩,
       ⟨S1024x256, extractStridedSlice S1024x256 ![0, 1552] w slices_S1024x7616_S1024x256_0_1552⟩,
       ⟨S1024x16, extractStridedSlice S1024x16 ![0, 1536] w slices_S1024x7616_S1024x16_0_1536⟩]
      concatenates_S1024x128_S1024x128_S1024x256_S1024x256_S1024x16_S1024x784_d1)
    (sitofp .f32 (constantI S_ 32 0#32)) pads_S1024x784_S1024x896_000_01120 h_S_

/-- The fourth branch's weight, as the host packs it. -/
def packedD (w : FVec Ideal S1024x7616 .f32) : FVec Ideal S1024x1152 .f32 :=
  pad S1024x1152 ![0, 0] ![0, 120] ![0, 0]
    (concatenate S1024x1032 1
      [⟨S1024x256, extractStridedSlice S1024x256 ![0, 2488] w slices_S1024x7616_S1024x256_0_2488⟩,
       ⟨S1024x256, extractStridedSlice S1024x256 ![0, 2744] w slices_S1024x7616_S1024x256_0_2744⟩,
       ⟨S1024x256, extractStridedSlice S1024x256 ![0, 3000] w slices_S1024x7616_S1024x256_0_3000⟩,
       ⟨S1024x256, extractStridedSlice S1024x256 ![0, 3264] w slices_S1024x7616_S1024x256_0_3264⟩,
       ⟨S1024x4, extractStridedSlice S1024x4 ![0, 3256] w slices_S1024x7616_S1024x4_0_3256⟩,
       ⟨S1024x4, extractStridedSlice S1024x4 ![0, 3260] w slices_S1024x7616_S1024x4_0_3260⟩]
      concatenates_S1024x256_S1024x256_S1024x256_S1024x256_S1024x4_S1024x4_S1024x1032_d1)
    (sitofp .f32 (constantI S_ 32 0#32)) pads_S1024x1032_S1024x1152_000_01200 h_S_

/-- A block of columns cut out of the weight. -/
theorem cut_apply {n off : Nat} (w : FVec Ideal S1024x7616 .f32) (h : S1024x7616.Slices ![0, off] ⟨2, ![1024, n]⟩)
    (t : Fin 1024) (c : Fin n) (k : Fin 7616) (hk : k.val = off + c.val) :
    extractStridedSlice ⟨2, ![1024, n]⟩ ![0, off] w h (ix2 t c) = w (ix2 t k) :=
  extractStridedSlice_apply _ _ _ _ _ fun a => match a with
    | ⟨0, _⟩ => by show t.val = 0 + t.val; omega
    | ⟨1, _⟩ => hk

theorem packedB_apply (w : FVec Ideal S1024x7616 .f32) (t : Fin 1024) (c : Fin 896) :
    packedB w (ix2 t c) = pick (fun k => w (ix2 t k)) (glaCol c) := by
  unfold packedB glaCol
  by_cases h4 : c.val < 784
  · rw [pad_apply_of_inside _ _ _ _ _ _ _ _ (ix2 t (⟨c.val, h4⟩ : Fin 784)) (fun a => match a with
      | ⟨0, _⟩ => by show t.val = 0 + t.val * (0 + 1); omega
      | ⟨1, _⟩ => by show c.val = 0 + c.val * (0 + 1); omega)]
    by_cases h0 : c.val < 128
    · rw [dif_pos (by omega : c.val < 512)]
      refine Eq.trans (piece_apply _ _ t _ 0 (by simp only [List.length]; omega) _ rfl 0 rfl (⟨c.val, h0⟩ : Fin 128)
          (by show 0 + c.val = c.val; omega)) (cut_apply w _ t _ _ ?_)
      rfl
    by_cases h1 : c.val < 256
    · rw [dif_pos (by omega : c.val < 512)]
      refine Eq.trans (piece_apply _ _ t _ 1 (by simp only [List.length]; omega) _ rfl 128 rfl (⟨c.val - 128, by omega⟩ : Fin 128)
          (by show 128 + (c.val - 128) = c.val; omega)) (cut_apply w _ t _ _ ?_)
      show 1024 + c.val = 1152 + (c.val - 128); omega
    by_cases h2 : c.val < 512
    · rw [dif_pos h2]
      refine Eq.trans (piece_apply _ _ t _ 2 (by simp only [List.length]; omega) _ rfl 256 rfl (⟨c.val - 256, by omega⟩ : Fin 256)
          (by show 256 + (c.val - 256) = c.val; omega)) (cut_apply w _ t _ _ ?_)
      show 1024 + c.val = 1280 + (c.val - 256); omega
    rw [dif_neg h2]
    by_cases h3 : c.val < 768
    · rw [dif_pos h3]
      refine Eq.trans (piece_apply _ _ t _ 3 (by simp only [List.length]; omega) _ rfl 512 rfl (⟨c.val - 512, by omega⟩ : Fin 256)
          (by show 512 + (c.val - 512) = c.val; omega)) (cut_apply w _ t _ _ ?_)
      show 1040 + c.val = 1552 + (c.val - 512); omega
    rw [dif_neg h3, dif_pos h4]
    refine Eq.trans (piece_apply _ _ t _ 4 (by simp only [List.length]; omega) _ rfl 768 rfl (⟨c.val - 768, by omega⟩ : Fin 16)
          (by show 768 + (c.val - 768) = c.val; omega)) (cut_apply w _ t _ _ ?_)
    show 768 + c.val = 1536 + (c.val - 768); omega
  · rw [dif_neg (by omega), dif_neg (by omega), dif_neg h4]
    refine (pad_apply_of_not_inside _ _ _ _ _ _ _ _ (1 : Fin 2) ?_).trans (sitofp_zero (φ := .f32))
    rintro ⟨-, -, h⟩
    exact h4 ((by omega : c.val = (c.val - 0) / (0 + 1)).trans_lt h)

theorem packedD_apply (w : FVec Ideal S1024x7616 .f32) (t : Fin 1024) (c : Fin 1152) :
    packedD w (ix2 t c) = pick (fun k => w (ix2 t k)) (mlstmCol c) := by
  unfold packedD mlstmCol
  by_cases h5 : c.val < 1032
  · rw [pad_apply_of_inside _ _ _ _ _ _ _ _ (ix2 t (⟨c.val, h5⟩ : Fin 1032)) (fun a => match a with
      | ⟨0, _⟩ => by show t.val = 0 + t.val * (0 + 1); omega
      | ⟨1, _⟩ => by show c.val = 0 + c.val * (0 + 1); omega)]
    by_cases h0 : c.val < 256
    · rw [dif_pos (by omega : c.val < 768)]
      refine Eq.trans (piece_apply _ _ t _ 0 (by simp only [List.length]; omega) _ rfl 0 rfl (⟨c.val, h0⟩ : Fin 256)
          (by show 0 + c.val = c.val; omega)) (cut_apply w _ t _ _ ?_)
      rfl
    by_cases h1 : c.val < 512
    · rw [dif_pos (by omega : c.val < 768)]
      refine Eq.trans (piece_apply _ _ t _ 1 (by simp only [List.length]; omega) _ rfl 256 rfl (⟨c.val - 256, by omega⟩ : Fin 256)
          (by show 256 + (c.val - 256) = c.val; omega)) (cut_apply w _ t _ _ ?_)
      show 2488 + c.val = 2744 + (c.val - 256); omega
    by_cases h2 : c.val < 768
    · rw [dif_pos h2]
      refine Eq.trans (piece_apply _ _ t _ 2 (by simp only [List.length]; omega) _ rfl 512 rfl (⟨c.val - 512, by omega⟩ : Fin 256)
          (by show 512 + (c.val - 512) = c.val; omega)) (cut_apply w _ t _ _ ?_)
      show 2488 + c.val = 3000 + (c.val - 512); omega
    rw [dif_neg h2]
    by_cases h3 : c.val < 1024
    · rw [dif_pos h3]
      refine Eq.trans (piece_apply _ _ t _ 3 (by simp only [List.length]; omega) _ rfl 768 rfl (⟨c.val - 768, by omega⟩ : Fin 256)
          (by show 768 + (c.val - 768) = c.val; omega)) (cut_apply w _ t _ _ ?_)
      show 2496 + c.val = 3264 + (c.val - 768); omega
    rw [dif_neg h3, dif_pos h5]
    by_cases h4 : c.val < 1028
    · refine Eq.trans (piece_apply _ _ t _ 4 (by simp only [List.length]; omega) _ rfl 1024 rfl (⟨c.val - 1024, by omega⟩ : Fin 4)
          (by show 1024 + (c.val - 1024) = c.val; omega)) (cut_apply w _ t _ _ ?_)
      show 2232 + c.val = 3256 + (c.val - 1024); omega
    · refine Eq.trans (piece_apply _ _ t _ 5 (by simp only [List.length]; omega) _ rfl 1028 rfl (⟨c.val - 1028, by omega⟩ : Fin 4)
          (by show 1028 + (c.val - 1028) = c.val; omega)) (cut_apply w _ t _ _ ?_)
      show 2232 + c.val = 3260 + (c.val - 1028); omega
  · rw [dif_neg (by omega), dif_neg (by omega), dif_neg h5]
    refine (pad_apply_of_not_inside _ _ _ _ _ _ _ _ (1 : Fin 2) ?_).trans (sitofp_zero (φ := .f32))
    rintro ⟨-, -, h⟩
    exact h5 ((by omega : c.val = (c.val - 0) / (0 + 1)).trans_lt h)

end Cert.Kernel3Ideal.Block

end
-- ==== Proof.Project.lean ====
/-
  What the in-projection call leaves: every tile of tokens times the three packed weights.  Grid point `q` reads and
  writes tile `q` of 640 tokens.
-/
module

public import proofs.«01_k».proof.Proof.Columns

@[expose] public section

noncomputable section

open Idealize.ShloMosaic Idealize.ShloMosaic.TcCoe Idealize.SL.Sem

namespace Cert.Kernel3Ideal.Block

open Cert.Kernel3Ideal Cert.Kernel3Ideal.Gen Cert.Columns

variable (m : (ℓ : Loc nD τ sig) → Buf (Elt Ideal) ℓ) (c : Dev nD)

/-- The arguments as arrays of numbers. -/
abbrev aH : FVec Ideal S33280x1024 .f32 := m ((c : Thread nD τ).loc main_arg0)
abbrev aW : FVec Ideal S1024x7616 .f32 := m ((c : Thread nD τ).loc main_arg1)

/-- The product of token `n` with column `k` of the weight. -/
def dotAt (h : FVec Ideal S33280x1024 .f32) (w : FVec Ideal S1024x7616 .f32) (n : Fin 33280) (k : Fin 7616) : EReal :=
  ∑ t : Fin 1024, h (ix2 n t) * w (ix2 t k)

/-- The product with a packed column is the product with the column it comes from, and zero for a column of zeros. -/
theorem dot_pick (h : FVec Ideal S33280x1024 .f32) (w : FVec Ideal S1024x7616 .f32) (n : Fin 33280) (o : Option (Fin 7616)) :
    ∑ t : Fin 1024, h (ix2 n t) * pick (fun k => w (ix2 t k)) o = pick (dotAt h w n) o := by
  cases o with
  | none => exact Finset.sum_eq_zero fun t _ => mul_zero _
  | some k => rfl

/-- Row `r` of tile `q`. -/
def rowOf (q : Fin 52) (r : Fin 640) : Fin 33280 := ⟨640 * q.val + r.val, by omega⟩

/-- Every row lies in a tile. -/
theorem exists_rowOf (n : Fin 33280) : ∃ q r, n = rowOf q r :=
  ⟨⟨n.val / 640, by omega⟩, ⟨n.val % 640, by omega⟩, Fin.ext (by show n.val = 640 * (n.val / 640) + n.val % 640; omega)⟩

theorem off2 : (![0, 0] : Fin 2 → Nat) = fun _ => 0 := funext fun a => by fin_cases a <;> rfl

/-! ### What the host prepares -/

section
set_option maxRecDepth 100000
attribute [local irreducible] pad extractStridedSlice transpose concatenate truncf sitofp constantI

theorem V_v35 : V m c main_v35 = (truncf .bf16 (aH m c) bitsLt_bf16_f32 : FVec Ideal S33280x1024 .bf16) := by rfl

theorem V_v29 : V m c main_v29 = (truncf .bf16 (extractStridedSlice S1024x1024 ![0, 0] (aW m c) slices_S1024x7616_S1024x1024_0_0 :
    FVec Ideal S1024x1024 .f32) bitsLt_bf16_f32 : FVec Ideal S1024x1024 .bf16) := by rfl

theorem V_v30 : V m c main_v30 = (truncf .bf16 (packedB (aW m c)) bitsLt_bf16_f32 : FVec Ideal S1024x896 .bf16) := by rfl

theorem V_v33 : V m c main_v33 = (truncf .bf16 (packedD (aW m c)) bitsLt_bf16_f32 : FVec Ideal S1024x1152 .bf16) := by rfl

end

/-! ### The blocks a point reads -/

/-- Where the windows stand at a point. -/
theorem places : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = t.val ∧ win0_4.index t (1 : Fin 2) = 0) ∧
    (win0_5.index t (0 : Fin 2) = t.val ∧ win0_5.index t (1 : Fin 2) = 0) ∧
    (win0_6.index t (0 : Fin 2) = t.val ∧ win0_6.index t (1 : Fin 2) = 0) :=
  (by decide +kernel : ∀ t : Fin grid0.N, _)

/-- Every point writes its blocks back. -/
theorem flushes : ∀ t : Fin cfg0.N,
    (cfg0.win 4).flush t = true ∧ (cfg0.win 5).flush t = true ∧ (cfg0.win 6).flush t = true :=
  (by decide +kernel : ∀ t : Fin grid0.N, _)

section
variable (q : Fin 52) (t : Fin cfg0.N) (ht : t.val = q.val)

include ht in
theorem block0 (r : Fin 640) (l : Fin 1024) :
    (iblk m c 0 t : Vec Ideal S640x1024 .bf16) (ix2 r l) = aH m c (ix2 (rowOf q r) l) := by
  obtain ⟨⟨p0, p1⟩, -⟩ := places t
  unfold iblk
  rw [View.read_apply]
  refine (congrFun (V_v35 m c) _).trans (congrArg (aH m c) ?_)
  funext a
  apply Fin.ext
  match a with
  | ⟨0, _⟩ => show win0_0.index t 0 * 640 + 1 * r.val = 640 * q.val + r.val; rw [p0]; omega
  | ⟨1, _⟩ => show win0_0.index t 1 * 1024 + 1 * l.val = l.val; rw [p1]; omega

theorem block1 (k : Fin 1024) (l : Fin 1024) :
    (iblk m c 1 t : Vec Ideal S1024x1024 .bf16) (ix2 k l) = aW m c (ix2 k (firstCol l)) := by
  obtain ⟨-, ⟨p0, p1⟩, -⟩ := places t
  unfold iblk
  rw [View.read_apply]
  refine (congrFun (V_v29 m c) _).trans (congrArg (aW m c) ?_)
  funext a
  apply Fin.ext
  match a with
  | ⟨0, _⟩ => show 0 + (win0_1.index t 0 * 1024 + 1 * k.val) = k.val; rw [p0]; omega
  | ⟨1, _⟩ => show 0 + (win0_1.index t 1 * 1024 + 1 * l.val) = l.val; rw [p1]; omega

theorem block2 (k : Fin 1024) (l : Fin 896) :
    (iblk m c 2 t : Vec Ideal S1024x896 .bf16) (ix2 k l) = pick (fun o => aW m c (ix2 k o)) (glaCol l) := by
  obtain ⟨-, -, ⟨p0, p1⟩, -⟩ := places t
  rw [← packedB_apply]
  unfold iblk
  rw [View.read_apply]
  refine (congrFun (V_v30 m c) _).trans (congrArg (packedB (aW m c)) ?_)
  funext a
  apply Fin.ext
  match a with
  | ⟨0, _⟩ => show win0_2.index t 0 * 1024 + 1 * k.val = k.val; rw [p0]; omega
  | ⟨1, _⟩ => show win0_2.index t 1 * 896 + 1 * l.val = l.val; rw [p1]; omega

theorem block3 (k : Fin 1024) (l : Fin 1152) :
    (iblk m c 3 t : Vec Ideal S1024x1152 .bf16) (ix2 k l) = pick (fun o => aW m c (ix2 k o)) (mlstmCol l) := by
  obtain ⟨-, -, -, ⟨p0, p1⟩, -⟩ := places t
  rw [← packedD_apply]
  unfold iblk
  rw [View.read_apply]
  refine (congrFun (V_v33 m c) _).trans (congrArg (packedD (aW m c)) ?_)
  funext a
  apply Fin.ext
  match a with
  | ⟨0, _⟩ => show win0_3.index t 0 * 1024 + 1 * k.val = k.val; rw [p0]; omega
  | ⟨1, _⟩ => show win0_3.index t 1 * 1152 + 1 * l.val = l.val; rw [p1]; omega

end

/-! ### What a point computes -/

section
variable (x0 : Vec Ideal S640x1024 .bf16) (x1 : Vec Ideal S1024x1024 .bf16) (x2 : Vec Ideal S1024x896 .bf16)
  (x3 : Vec Ideal S1024x1152 .bf16) (r : Fin 640)

theorem out4_apply (l : Fin 1024) : out0_4 x0 x1 x2 x3 (ix2 r l) = ∑ t : Fin 1024, x0 (ix2 r t) * x1 (ix2 t l) := by
  unfold out0_4
  rw [View.canon_unit_zero off2, View.ld_unit_zero off2, View.ld_unit_zero off2]
  pointwise [k0_pay2, k0_pay1]

theorem out5_apply (l : Fin 896) : out0_5 x0 x1 x2 x3 (ix2 r l) = ∑ t : Fin 1024, x0 (ix2 r t) * x2 (ix2 t l) := by
  unfold out0_5
  rw [View.canon_unit_zero off2, View.ld_unit_zero off2, View.ld_unit_zero off2]
  pointwise [k0_pay3, k0_pay1]

theorem out6_apply (l : Fin 1152) : out0_6 x0 x1 x2 x3 (ix2 r l) = ∑ t : Fin 1024, x0 (ix2 r t) * x3 (ix2 t l) := by
  unfold out0_6
  rw [View.canon_unit_zero off2, View.ld_unit_zero off2, View.ld_unit_zero off2]
  pointwise [k0_pay4, k0_pay1]

end

/-! ### The three arrays after the run -/

/-- The first branch's projection. -/
theorem array4 (n : Fin 33280) (l : Fin 1024) :
    ((dats m 0 c).arrAt 4 cfg0.N : Vec Ideal S33280x1024 .f32) (ix2 n l) = dotAt (aH m c) (aW m c) n (firstCol l) := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks4 m c t (flushes t).1).trans (Value.flushed4 m c t)) (ix2 r l)
  rw [View.read_apply] at h
  generalize (dats m 0 c).arrAt 4 cfg0.N = A at h ⊢
  refine Eq.trans (congrArg A ?_) (h.trans ?_)
  · obtain ⟨-, -, -, -, ⟨p0, p1⟩, -⟩ := places t
    funext a
    apply Fin.ext
    match a with
    | ⟨0, _⟩ => show 640 * q.val + r.val = win0_4.index t 0 * 640 + 1 * r.val; rw [p0]; omega
    | ⟨1, _⟩ => show l.val = win0_4.index t 1 * 1024 + 1 * l.val; rw [p1]; omega
  · refine (out4_apply _ _ _ _ r l).trans (Finset.sum_congr rfl fun k _ => ?_)
    exact congrArg₂ (fun a b : EReal => a * b) (block0 m c q t ht r k) (block1 m c t k l)

/-- The second branch's, in its packed columns. -/
theorem array5 (n : Fin 33280) (l : Fin 896) :
    ((dats m 0 c).arrAt 5 cfg0.N : Vec Ideal S33280x896 .f32) (ix2 n l) = pick (dotAt (aH m c) (aW m c) n) (glaCol l) := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks5 m c t (flushes t).2.1).trans (Value.flushed5 m c t)) (ix2 r l)
  rw [View.read_apply] at h
  generalize (dats m 0 c).arrAt 5 cfg0.N = A at h ⊢
  refine Eq.trans (congrArg A ?_) (h.trans ?_)
  · obtain ⟨-, -, -, -, -, ⟨p0, p1⟩, -⟩ := places t
    funext a
    apply Fin.ext
    match a with
    | ⟨0, _⟩ => show 640 * q.val + r.val = win0_5.index t 0 * 640 + 1 * r.val; rw [p0]; omega
    | ⟨1, _⟩ => show l.val = win0_5.index t 1 * 896 + 1 * l.val; rw [p1]; omega
  · rw [← dot_pick]
    refine (out5_apply _ _ _ _ r l).trans (Finset.sum_congr rfl fun k _ => ?_)
    exact congrArg₂ (fun a b : EReal => a * b) (block0 m c q t ht r k) (block2 m c t k l)

/-- The fourth branch's, in its packed columns. -/
theorem array6 (n : Fin 33280) (l : Fin 1152) :
    ((dats m 0 c).arrAt 6 cfg0.N : Vec Ideal S33280x1152 .f32) (ix2 n l) = pick (dotAt (aH m c) (aW m c) n) (mlstmCol l) := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks6 m c t (flushes t).2.2).trans (Value.flushed6 m c t)) (ix2 r l)
  rw [View.read_apply] at h
  generalize (dats m 0 c).arrAt 6 cfg0.N = A at h ⊢
  refine Eq.trans (congrArg A ?_) (h.trans ?_)
  · obtain ⟨-, -, -, -, -, -, ⟨p0, p1⟩⟩ := places t
    funext a
    apply Fin.ext
    match a with
    | ⟨0, _⟩ => show 640 * q.val + r.val = win0_6.index t 0 * 640 + 1 * r.val; rw [p0]; omega
    | ⟨1, _⟩ => show l.val = win0_6.index t 1 * 1152 + 1 * l.val; rw [p1]; omega
  · rw [← dot_pick]
    refine (out6_apply _ _ _ _ r l).trans (Finset.sum_congr rfl fun k _ => ?_)
    exact congrArg₂ (fun a b : EReal => a * b) (block0 m c q t ht r k) (block3 m c t k l)

end Cert.Kernel3Ideal.Block

end
-- ==== Proof.RefProject.lean ====
/-
  The in-projection's reference, read at an entry: the product of a token with the whole weight, cut into the branches'
  columns and packed.
-/
module

public import proofs.«01_k».proof.Proof.Project
public import proofs.«01_k».proof.Proof.Gen.Reference3Ideal.Read

@[expose] public section

noncomputable section

open Idealize.ShloMosaic Idealize.ShloMosaic.TcCoe Idealize.SL.Sem

namespace Cert.RefProject

open Cert.Reference3Ideal Cert.Reference3Ideal.Read Cert.Columns

variable (h : FVec Ideal S33280x1024 .f32) (w : FVec Ideal S1024x7616 .f32) (n : Fin 33280)

/-- The product of token `n` with column `k` of the weight. -/
abbrev dotAt (k : Fin 7616) : EReal := Cert.Kernel3Ideal.Block.dotAt h w n k

theorem v0_at (k : Fin 7616) : val_main_v0 (F := Ideal) h w (ix2 n k) = dotAt h w n k := by
  rw [val_main_v0_apply]
  refine Finset.sum_congr rfl fun t _ => ?_
  rw [show lidx_main_v0 (ix2 n k) t = ix2 n t from eq_ix2 _, show ridx_main_v0 (ix2 n k) t = ix2 t k from eq_ix2 _]

/-- An entry of the product whose index is known by its coordinates. -/
theorem v0_of (i : S33280x7616.Idx) (k : Fin 7616) (h0 : (i 0).val = n.val) (h1 : (i 1).val = k.val) :
    val_main_v0 (F := Ideal) h w i = dotAt h w n k := by
  rw [← v0_at]
  exact congrArg _ (funext fun a => Fin.ext (match a with | ⟨0, _⟩ => h0 | ⟨1, _⟩ => h1))

theorem v1_at (l : Fin 1024) : val_main_v1 (F := Ideal) h w (ix2 n l) = dotAt h w n (firstCol l) := by
  rw [val_main_v1_apply]
  exact v0_of h w n _ _ rfl rfl

theorem v11_at (c : Fin 784) : val_main_v11 (F := Ideal) h w (ix2 n c) = pick (dotAt h w n) (glaCol ⟨c.val, by omega⟩) := by
  unfold val_main_v11 glaCol
  by_cases h0 : c.val < 128
  · rw [dif_pos (by show c.val < 512; omega)]
    refine Eq.trans (piece_apply _ _ n _ 0 (by simp only [List.length]; omega) _ rfl 0 rfl (⟨c.val, h0⟩ : Fin 128)
      (by show 0 + c.val = c.val; omega)) ?_
    rw [val_main_v6_apply, val_main_v2_apply]
    exact v0_of h w n _ _ rfl rfl
  by_cases h1 : c.val < 256
  · rw [dif_pos (by show c.val < 512; omega)]
    refine Eq.trans (piece_apply _ _ n _ 1 (by simp only [List.length]; omega) _ rfl 128 rfl (⟨c.val - 128, by omega⟩ : Fin 128)
      (by show 128 + (c.val - 128) = c.val; omega)) ?_
    rw [val_main_v7_apply, val_main_v2_apply]
    exact v0_of h w n _ _ rfl (by show 1024 + (128 + (c.val - 128)) = 1024 + c.val; omega)
  by_cases h2 : c.val < 512
  · rw [dif_pos h2]
    refine Eq.trans (piece_apply _ _ n _ 2 (by simp only [List.length]; omega) _ rfl 256 rfl (⟨c.val - 256, by omega⟩ : Fin 256)
      (by show 256 + (c.val - 256) = c.val; omega)) ?_
    rw [val_main_v8_apply, val_main_v2_apply]
    exact v0_of h w n _ _ rfl (by show 1024 + (256 + (c.val - 256)) = 1024 + c.val; omega)
  rw [dif_neg h2]
  by_cases h3 : c.val < 768
  · rw [dif_pos h3]
    refine Eq.trans (piece_apply _ _ n _ 3 (by simp only [List.length]; omega) _ rfl 512 rfl (⟨c.val - 512, by omega⟩ : Fin 256)
      (by show 512 + (c.val - 512) = c.val; omega)) ?_
    rw [val_main_v10_apply, val_main_v2_apply]
    exact v0_of h w n _ _ rfl (by show 1024 + (528 + (c.val - 512)) = 1040 + c.val; omega)
  · rw [dif_neg h3, dif_pos c.isLt]
    refine Eq.trans (piece_apply _ _ n _ 4 (by simp only [List.length]; omega) _ rfl 768 rfl (⟨c.val - 768, by omega⟩ : Fin 16)
      (by show 768 + (c.val - 768) = c.val; omega)) ?_
    rw [val_main_v9_apply, val_main_v2_apply]
    exact v0_of h w n _ _ rfl (by show 1024 + (512 + (c.val - 768)) = 768 + c.val; omega)

theorem v18_at (c : Fin 1032) : val_main_v18 (F := Ideal) h w (ix2 n c) = pick (dotAt h w n) (mlstmCol ⟨c.val, by omega⟩) := by
  unfold val_main_v18 mlstmCol
  by_cases h0 : c.val < 256
  · rw [dif_pos (by show c.val < 768; omega)]
    refine Eq.trans (piece_apply _ _ n _ 0 (by simp only [List.length]; omega) _ rfl 0 rfl (⟨c.val, h0⟩ : Fin 256)
      (by show 0 + c.val = c.val; omega)) ?_
    rw [val_main_v12_apply, val_main_v4_apply]
    exact v0_of h w n _ _ rfl rfl
  by_cases h1 : c.val < 512
  · rw [dif_pos (by show c.val < 768; omega)]
    refine Eq.trans (piece_apply _ _ n _ 1 (by simp only [List.length]; omega) _ rfl 256 rfl (⟨c.val - 256, by omega⟩ : Fin 256)
      (by show 256 + (c.val - 256) = c.val; omega)) ?_
    rw [val_main_v13_apply, val_main_v4_apply]
    exact v0_of h w n _ _ rfl (by show 2488 + (256 + (c.val - 256)) = 2488 + c.val; omega)
  by_cases h2 : c.val < 768
  · rw [dif_pos h2]
    refine Eq.trans (piece_apply _ _ n _ 2 (by simp only [List.length]; omega) _ rfl 512 rfl (⟨c.val - 512, by omega⟩ : Fin 256)
      (by show 512 + (c.val - 512) = c.val; omega)) ?_
    rw [val_main_v14_apply, val_main_v4_apply]
    exact v0_of h w n _ _ rfl (by show 2488 + (512 + (c.val - 512)) = 2488 + c.val; omega)
  rw [dif_neg h2]
  by_cases h3 : c.val < 1024
  · rw [dif_pos h3]
    refine Eq.trans (piece_apply _ _ n _ 3 (by simp only [List.length]; omega) _ rfl 768 rfl (⟨c.val - 768, by omega⟩ : Fin 256)
      (by show 768 + (c.val - 768) = c.val; omega)) ?_
    rw [val_main_v17_apply, val_main_v4_apply]
    exact v0_of h w n _ _ rfl (by show 2488 + (776 + (c.val - 768)) = 2496 + c.val; omega)
  rw [dif_neg h3, dif_pos c.isLt]
  by_cases h4 : c.val < 1028
  · refine Eq.trans (piece_apply _ _ n _ 4 (by simp only [List.length]; omega) _ rfl 1024 rfl (⟨c.val - 1024, by omega⟩ : Fin 4)
      (by show 1024 + (c.val - 1024) = c.val; omega)) ?_
    rw [val_main_v15_apply, val_main_v4_apply]
    exact v0_of h w n _ _ rfl (by show 2488 + (768 + (c.val - 1024)) = 2232 + c.val; omega)
  · refine Eq.trans (piece_apply _ _ n _ 5 (by simp only [List.length]; omega) _ rfl 1028 rfl (⟨c.val - 1028, by omega⟩ : Fin 4)
      (by show 1028 + (c.val - 1028) = c.val; omega)) ?_
    rw [val_main_v16_apply, val_main_v4_apply]
    exact v0_of h w n _ _ rfl (by show 2488 + (772 + (c.val - 1028)) = 2232 + c.val; omega)

theorem v19_at (l : Fin 896) : val_main_v19 (F := Ideal) h w (ix2 n l) = pick (dotAt h w n) (glaCol l) := by
  unfold val_main_v19
  by_cases hl : l.val < 784
  · rw [pad_apply_of_inside _ _ _ _ _ _ _ _ (ix2 n (⟨l.val, hl⟩ : Fin 784)) (fun a => match a with
      | ⟨0, _⟩ => by show n.val = 0 + n.val * (0 + 1); omega
      | ⟨1, _⟩ => by show l.val = 0 + l.val * (0 + 1); omega)]
    exact v11_at h w n ⟨l.val, hl⟩
  · unfold glaCol
    rw [dif_neg (by omega), dif_neg (by omega), dif_neg hl]
    refine (pad_apply_of_not_inside _ _ _ _ _ _ _ _ (1 : Fin 2) ?_).trans (sitofp_zero (φ := .f32))
    rintro ⟨-, -, h'⟩
    exact hl ((by omega : l.val = (l.val - 0) / (0 + 1)).trans_lt h')

theorem v20_at (l : Fin 1152) : val_main_v20 (F := Ideal) h w (ix2 n l) = pick (dotAt h w n) (mlstmCol l) := by
  unfold val_main_v20
  by_cases hl : l.val < 1032
  · rw [pad_apply_of_inside _ _ _ _ _ _ _ _ (ix2 n (⟨l.val, hl⟩ : Fin 1032)) (fun a => match a with
      | ⟨0, _⟩ => by show n.val = 0 + n.val * (0 + 1); omega
      | ⟨1, _⟩ => by show l.val = 0 + l.val * (0 + 1); omega)]
    exact v18_at h w n ⟨l.val, hl⟩
  · unfold mlstmCol
    rw [dif_neg (by omega), dif_neg (by omega), dif_neg hl]
    refine (pad_apply_of_not_inside _ _ _ _ _ _ _ _ (1 : Fin 2) ?_).trans (sitofp_zero (φ := .f32))
    rintro ⟨-, -, h'⟩
    exact hl ((by omega : l.val = (l.val - 0) / (0 + 1)).trans_lt h')

end Cert.RefProject

namespace Cert.Equation3

open Cert.Kernel3Ideal Cert.Kernel3Ideal.Gen Cert.Kernel3Ideal.Block

variable (m : (ℓ : Loc nD τ sig) → Buf (Elt Ideal) ℓ) (c : Dev nD)

/-- The three arrays of the in-projection are the reference's. -/
theorem first : ((dats m 0 c).arrAt 4 cfg0.N : Vec Ideal S33280x1024 .f32) =
    Cert.Reference3Ideal.Read.val_main_v1 (F := Ideal) (aH m c) (aW m c) := by
  funext i
  rw [eq_ix2 i]
  exact (array4 m c _ _).trans (Cert.RefProject.v1_at _ _ _ _).symm

theorem second : ((dats m 0 c).arrAt 5 cfg0.N : Vec Ideal S33280x896 .f32) =
    Cert.Reference3Ideal.Read.val_main_v19 (F := Ideal) (aH m c) (aW m c) := by
  funext i
  rw [eq_ix2 i]
  exact (array5 m c _ _).trans (Cert.RefProject.v19_at _ _ _ _).symm

theorem third : ((dats m 0 c).arrAt 6 cfg0.N : Vec Ideal S33280x1152 .f32) =
    Cert.Reference3Ideal.Read.val_main_v20 (F := Ideal) (aH m c) (aW m c) := by
  funext i
  rw [eq_ix2 i]
  exact (array6 m c _ _).trans (Cert.RefProject.v20_at _ _ _ _).symm

end Cert.Equation3

end
-- ==== Proof.PrepTiles.lean ====
/-
  How the sparse-attention preparation lays its transposed projections out.  A grid point holds the product of the
  packed transposed weight with its 640 tokens, a 528-by-640 block `p`, and writes it piece by piece: for each of its
  five tiles of 128 tokens, one piece per query head (rows `64 h ..`), and one per indexer head (rows `256 + 32 h ..`).
  Here the pieces are put together: what each result block holds is an entry of `p`.
-/
module

public import proofs.«01_k».proof.Proof.Gen.Kernel4Ideal.Value
public import Idealize.ShloMosaic.Lib.Pointwise

@[expose] public section

noncomputable section

open Idealize.ShloMosaic Idealize.ShloMosaic.TcCoe Idealize.SL.Sem

namespace Cert.Kernel4Ideal.Block

open Cert.Kernel4Ideal Cert.Kernel4Ideal.Gen

/-- Entry `(head h, feature d, token n)` of the query block's place in `p`. -/
def queryRow (d : Fin 64) (c : Fin 512) : Fin 528 := ⟨64 * (c.val / 128) + d.val, by omega⟩
/-- The indexer's rows follow the 256 query rows. -/
def indexRow (d : Fin 32) (c : Fin 1024) : Fin 528 := ⟨256 + 32 * (c.val / 128) + d.val, by omega⟩
/-- Token `c % 128` of tile `t`. -/
def queryTok (t : Fin 5) (c : Fin 512) : Fin 640 := ⟨128 * t.val + c.val % 128, by omega⟩
def indexTok (t : Fin 5) (c : Fin 1024) : Fin 640 := ⟨128 * t.val + c.val % 128, by omega⟩

/-- The queries' block: the entries scaled by an eighth. -/
def queries (p : FVec Ideal S528x640 .f32) : Vec Ideal S5x64x512 .bf16 := fun y =>
  (p (ix2 (queryRow (y 1) (y 2)) (queryTok (y 0) (y 2))) * Ideal.ofBits .f32 0x3E000000#32 : EReal)

/-- The indexer queries' block. -/
def indexers (p : FVec Ideal S528x640 .f32) : Vec Ideal S5x32x1024 .bf16 := fun y =>
  p (ix2 (indexRow (y 1) (y 2)) (indexTok (y 0) (y 2)))

/-- A stored piece of the queries. -/
theorem query_piece (p : FVec Ideal S528x640 .f32) (t h : Nat) (hs : S528x640.Slices ![64 * h, 128 * t] S64x128)
    (x : S1x64x128.Idx) (y : S5x64x512.Idx) (h0 : (y 0).val = t + 1 * (x 0).val) (h1 : (y 1).val = 0 + 1 * (x 1).val)
    (h2 : (y 2).val = 128 * h + 1 * (x 2).val) :
    shapeCast S1x64x128 (truncf .bf16 (mulf (extractStridedSlice S64x128 ![64 * h, 128 * t] p hs)
      (broadcast S64x128 (Scalar.ofBits .f32 0x3E000000#32))) bitsLt_bf16_f32 : FVec Ideal S64x128 .bf16)
      shapeCasts_S64x128_S1x64x128 x = queries p y := by
  have hx0 : (x 0).val < 1 := (x 0).isLt
  have hx1 : (x 1).val < 64 := (x 1).isLt
  have hx2 : (x 2).val < 128 := (x 2).isLt
  refine (shapeCast_apply _ _ x (ix2 (⟨(x 1).val, hx1⟩ : Fin 64) (⟨(x 2).val, hx2⟩ : Fin 128)) (by
    rw [Shape.rowMajor_val_two, Shape.rowMajor_val_three]
    show (x 1).val * 128 + (x 2).val = ((x 0).val * 64 + (x 1).val) * 128 + (x 2).val
    omega)).trans ?_
  refine congrArg (fun a : EReal => a * Ideal.ofBits .f32 0x3E000000#32) ?_
  refine extractStridedSlice_apply _ p hs _ _ fun a => ?_
  match a with
  | ⟨0, _⟩ => show 64 * ((y 2).val / 128) + (y 1).val = 64 * h + (x 1).val; omega
  | ⟨1, _⟩ => show 128 * (y 0).val + (y 2).val % 128 = 128 * t + (x 2).val; omega

/-- A stored piece of the indexer queries. -/
theorem index_piece (p : FVec Ideal S528x640 .f32) (t h : Nat) (hs : S528x640.Slices ![256 + 32 * h, 128 * t] S32x128)
    (x : S1x32x128.Idx) (y : S5x32x1024.Idx) (h0 : (y 0).val = t + 1 * (x 0).val) (h1 : (y 1).val = 0 + 1 * (x 1).val)
    (h2 : (y 2).val = 128 * h + 1 * (x 2).val) :
    shapeCast S1x32x128 (truncf .bf16 (extractStridedSlice S32x128 ![256 + 32 * h, 128 * t] p hs)
      bitsLt_bf16_f32 : FVec Ideal S32x128 .bf16) shapeCasts_S32x128_S1x32x128 x = indexers p y := by
  have hx0 : (x 0).val < 1 := (x 0).isLt
  have hx1 : (x 1).val < 32 := (x 1).isLt
  have hx2 : (x 2).val < 128 := (x 2).isLt
  refine (shapeCast_apply _ _ x (ix2 (⟨(x 1).val, hx1⟩ : Fin 32) (⟨(x 2).val, hx2⟩ : Fin 128)) (by
    rw [Shape.rowMajor_val_two, Shape.rowMajor_val_three]
    show (x 1).val * 128 + (x 2).val = ((x 0).val * 32 + (x 1).val) * 128 + (x 2).val
    omega)).trans ?_
  refine extractStridedSlice_apply _ p hs _ _ fun a => ?_
  match a with
  | ⟨0, _⟩ => show 256 + 32 * ((y 2).val / 128) + (y 1).val = 256 + 32 * h + (x 1).val; omega
  | ⟨1, _⟩ => show 128 * (y 0).val + (y 2).val % 128 = 128 * t + (x 2).val; omega

section
variable (x0 : Vec Ideal S640x1024 .bf16) (x1 : Vec Ideal S528x1024 .bf16) (x2 : Vec Ideal S1024x256 .bf16)
  (x3 : Vec Ideal S1x128 .f32) (x4 : Vec Ideal S128x64 .bf16) (x5 : Vec Ideal S80x128 .bf16)

/-- The queries a point leaves, over its product. -/
theorem out6_eq (y : S5x64x512.Idx) : out0_6 x0 x1 x2 x3 x4 x5 y = queries (k0_pay87 x0 x1 x2 x3 x4 x5) y := by
  unfold out0_6
  generalize k0_pay87 x0 x1 x2 x3 x4 x5 = p
  refine View.canon_apply_of_pieces (queries p) _ ?_ y (cover0_6 _ _ _ _ _ _ _ _ _ _ _ _ _ _ _ _ _ _ _ _ y)
  intro pc hpc
  rcases List.mem_cons.mp hpc with rfl | hpc
  · exact fun x => query_piece p 4 3 slices_S528x640_o192_512_S64x128 x _ rfl rfl rfl
  rcases List.mem_cons.mp hpc with rfl | hpc
  · exact fun x => query_piece p 4 2 slices_S528x640_o128_512_S64x128 x _ rfl rfl rfl
  rcases List.mem_cons.mp hpc with rfl | hpc
  · exact fun x => query_piece p 4 1 slices_S528x640_o64_512_S64x128 x _ rfl rfl rfl
  rcases List.mem_cons.mp hpc with rfl | hpc
  · exact fun x => query_piece p 4 0 slices_S528x640_o0_512_S64x128 x _ rfl rfl rfl
  rcases List.mem_cons.mp hpc with rfl | hpc
  · exact fun x => query_piece p 3 3 slices_S528x640_o192_384_S64x128 x _ rfl rfl rfl
  rcases List.mem_cons.mp hpc with rfl | hpc
  · exact fun x => query_piece p 3 2 slices_S528x640_o128_384_S64x128 x _ rfl rfl rfl
  rcases List.mem_cons.mp hpc with rfl | hpc
  · exact fun x => query_piece p 3 1 slices_S528x640_o64_384_S64x128 x _ rfl rfl rfl
  rcases List.mem_cons.mp hpc with rfl | hpc
  · exact fun x => query_piece p 3 0 slices_S528x640_o0_384_S64x128 x _ rfl rfl rfl
  rcases List.mem_cons.mp hpc with rfl | hpc
  · exact fun x => query_piece p 2 3 slices_S528x640_o192_256_S64x128 x _ rfl rfl rfl
  rcases List.mem_cons.mp hpc with rfl | hpc
  · exact fun x => query_piece p 2 2 slices_S528x640_o128_256_S64x128 x _ rfl rfl rfl
  rcases List.mem_cons.mp hpc with rfl | hpc
  · exact fun x => query_piece p 2 1 slices_S528x640_o64_256_S64x128 x _ rfl rfl rfl
  rcases List.mem_cons.mp hpc with rfl | hpc
  · exact fun x => query_piece p 2 0 slices_S528x640_o0_256_S64x128 x _ rfl rfl rfl
  rcases List.mem_cons.mp hpc with rfl | hpc
  · exact fun x => query_piece p 1 3 slices_S528x640_o192_128_S64x128 x _ rfl rfl rfl
  rcases List.mem_cons.mp hpc with rfl | hpc
  · exact fun x => query_piece p 1 2 slices_S528x640_o128_128_S64x128 x _ rfl rfl rfl
  rcases List.mem_cons.mp hpc with rfl | hpc
  · exact fun x => query_piece p 1 1 slices_S528x640_o64_128_S64x128 x _ rfl rfl rfl
  rcases List.mem_cons.mp hpc with rfl | hpc
  · exact fun x => query_piece p 1 0 slices_S528x640_o0_128_S64x128 x _ rfl rfl rfl
  rcases List.mem_cons.mp hpc with rfl | hpc
  · exact fun x => query_piece p 0 3 slices_S528x640_o192_0_S64x128 x _ rfl rfl rfl
  rcases List.mem_cons.mp hpc with rfl | hpc
  · exact fun x => query_piece p 0 2 slices_S528x640_o128_0_S64x128 x _ rfl rfl rfl
  rcases List.mem_cons.mp hpc with rfl | hpc
  · exact fun x => query_piece p 0 1 slices_S528x640_o64_0_S64x128 x _ rfl rfl rfl
  rcases List.mem_cons.mp hpc with rfl | hpc
  · exact fun x => query_piece p 0 0 slices_S528x640_o0_0_S64x128 x _ rfl rfl rfl
  nomatch hpc

/-- The indexer queries a point leaves, over its product. -/
theorem out7_eq (y : S5x32x1024.Idx) : out0_7 x0 x1 x2 x3 x4 x5 y = indexers (k0_pay87 x0 x1 x2 x3 x4 x5) y := by
  unfold out0_7
  generalize k0_pay87 x0 x1 x2 x3 x4 x5 = p
  refine View.canon_apply_of_pieces (indexers p) _ ?_ y (cover0_7 _ _ _ _ _ _ _ _ _ _ _ _ _ _ _ _ _ _ _ _ _ _ _ _ _ _ _ _ _ _ _ _ _ _ _ _ _ _ _ _ y)
  intro pc hpc
  rcases List.mem_cons.mp hpc with rfl | hpc
  · exact fun x => index_piece p 4 7 slices_S528x640_o480_512_S32x128 x _ rfl rfl rfl
  rcases List.mem_cons.mp hpc with rfl | hpc
  · exact fun x => index_piece p 4 6 slices_S528x640_o448_512_S32x128 x _ rfl rfl rfl
  rcases List.mem_cons.mp hpc with rfl | hpc
  · exact fun x => index_piece p 4 5 slices_S528x640_o416_512_S32x128 x _ rfl rfl rfl
  rcases List.mem_cons.mp hpc with rfl | hpc
  · exact fun x => index_piece p 4 4 slices_S528x640_o384_512_S32x128 x _ rfl rfl rfl
  rcases List.mem_cons.mp hpc with rfl | hpc
  · exact fun x => index_piece p 4 3 slices_S528x640_o352_512_S32x128 x _ rfl rfl rfl
  rcases List.mem_cons.mp hpc with rfl | hpc
  · exact fun x => index_piece p 4 2 slices_S528x640_o320_512_S32x128 x _ rfl rfl rfl
  rcases List.mem_cons.mp hpc with rfl | hpc
  · exact fun x => index_piece p 4 1 slices_S528x640_o288_512_S32x128 x _ rfl rfl rfl
  rcases List.mem_cons.mp hpc with rfl | hpc
  · exact fun x => index_piece p 4 0 slices_S528x640_o256_512_S32x128 x _ rfl rfl rfl
  rcases List.mem_cons.mp hpc with rfl | hpc
  · exact fun x => index_piece p 3 7 slices_S528x640_o480_384_S32x128 x _ rfl rfl rfl
  rcases List.mem_cons.mp hpc with rfl | hpc
  · exact fun x => index_piece p 3 6 slices_S528x640_o448_384_S32x128 x _ rfl rfl rfl
  rcases List.mem_cons.mp hpc with rfl | hpc
  · exact fun x => index_piece p 3 5 slices_S528x640_o416_384_S32x128 x _ rfl rfl rfl
  rcases List.mem_cons.mp hpc with rfl | hpc
  · exact fun x => index_piece p 3 4 slices_S528x640_o384_384_S32x128 x _ rfl rfl rfl
  rcases List.mem_cons.mp hpc with rfl | hpc
  · exact fun x => index_piece p 3 3 slices_S528x640_o352_384_S32x128 x _ rfl rfl rfl
  rcases List.mem_cons.mp hpc with rfl | hpc
  · exact fun x => index_piece p 3 2 slices_S528x640_o320_384_S32x128 x _ rfl rfl rfl
  rcases List.mem_cons.mp hpc with rfl | hpc
  · exact fun x => index_piece p 3 1 slices_S528x640_o288_384_S32x128 x _ rfl rfl rfl
  rcases List.mem_cons.mp hpc with rfl | hpc
  · exact fun x => index_piece p 3 0 slices_S528x640_o256_384_S32x128 x _ rfl rfl rfl
  rcases List.mem_cons.mp hpc with rfl | hpc
  · exact fun x => index_piece p 2 7 slices_S528x640_o480_256_S32x128 x _ rfl rfl rfl
  rcases List.mem_cons.mp hpc with rfl | hpc
  · exact fun x => index_piece p 2 6 slices_S528x640_o448_256_S32x128 x _ rfl rfl rfl
  rcases List.mem_cons.mp hpc with rfl | hpc
  · exact fun x => index_piece p 2 5 slices_S528x640_o416_256_S32x128 x _ rfl rfl rfl
  rcases List.mem_cons.mp hpc with rfl | hpc
  · exact fun x => index_piece p 2 4 slices_S528x640_o384_256_S32x128 x _ rfl rfl rfl
  rcases List.mem_cons.mp hpc with rfl | hpc
  · exact fun x => index_piece p 2 3 slices_S528x640_o352_256_S32x128 x _ rfl rfl rfl
  rcases List.mem_cons.mp hpc with rfl | hpc
  · exact fun x => index_piece p 2 2 slices_S528x640_o320_256_S32x128 x _ rfl rfl rfl
  rcases List.mem_cons.mp hpc with rfl | hpc
  · exact fun x => index_piece p 2 1 slices_S528x640_o288_256_S32x128 x _ rfl rfl rfl
  rcases List.mem_cons.mp hpc with rfl | hpc
  · exact fun x => index_piece p 2 0 slices_S528x640_o256_256_S32x128 x _ rfl rfl rfl
  rcases List.mem_cons.mp hpc with rfl | hpc
  · exact fun x => index_piece p 1 7 slices_S528x640_o480_128_S32x128 x _ rfl rfl rfl
  rcases List.mem_cons.mp hpc with rfl | hpc
  · exact fun x => index_piece p 1 6 slices_S528x640_o448_128_S32x128 x _ rfl rfl rfl
  rcases List.mem_cons.mp hpc with rfl | hpc
  · exact fun x => index_piece p 1 5 slices_S528x640_o416_128_S32x128 x _ rfl rfl rfl
  rcases List.mem_cons.mp hpc with rfl | hpc
  · exact fun x => index_piece p 1 4 slices_S528x640_o384_128_S32x128 x _ rfl rfl rfl
  rcases List.mem_cons.mp hpc with rfl | hpc
  · exact fun x => index_piece p 1 3 slices_S528x640_o352_128_S32x128 x _ rfl rfl rfl
  rcases List.mem_cons.mp hpc with rfl | hpc
  · exact fun x => index_piece p 1 2 slices_S528x640_o320_128_S32x128 x _ rfl rfl rfl
  rcases List.mem_cons.mp hpc with rfl | hpc
  · exact fun x => index_piece p 1 1 slices_S528x640_o288_128_S32x128 x _ rfl rfl rfl
  rcases List.mem_cons.mp hpc with rfl | hpc
  · exact fun x => index_piece p 1 0 slices_S528x640_o256_128_S32x128 x _ rfl rfl rfl
  rcases List.mem_cons.mp hpc with rfl | hpc
  · exact fun x => index_piece p 0 7 slices_S528x640_o480_0_S32x128 x _ rfl rfl rfl
  rcases List.mem_cons.mp hpc with rfl | hpc
  · exact fun x => index_piece p 0 6 slices_S528x640_o448_0_S32x128 x _ rfl rfl rfl
  rcases List.mem_cons.mp hpc with rfl | hpc
  · exact fun x => index_piece p 0 5 slices_S528x640_o416_0_S32x128 x _ rfl rfl rfl
  rcases List.mem_cons.mp hpc with rfl | hpc
  · exact fun x => index_piece p 0 4 slices_S528x640_o384_0_S32x128 x _ rfl rfl rfl
  rcases List.mem_cons.mp hpc with rfl | hpc
  · exact fun x => index_piece p 0 3 slices_S528x640_o352_0_S32x128 x _ rfl rfl rfl
  rcases List.mem_cons.mp hpc with rfl | hpc
  · exact fun x => index_piece p 0 2 slices_S528x640_o320_0_S32x128 x _ rfl rfl rfl
  rcases List.mem_cons.mp hpc with rfl | hpc
  · exact fun x => index_piece p 0 1 slices_S528x640_o288_0_S32x128 x _ rfl rfl rfl
  rcases List.mem_cons.mp hpc with rfl | hpc
  · exact fun x => index_piece p 0 0 slices_S528x640_o256_0_S32x128 x _ rfl rfl rfl
  nomatch hpc

end

end Cert.Kernel4Ideal.Block

end
-- ==== Proof.Prep.lean ====
/-
  What the sparse-attention preparation is, and the numbers one grid point of its call computes: the products of the
  tokens with the packed weights, the normalised latent, and the keys and values made from it.
-/
module

public import proofs.«01_k».proof.Proof.PrepTiles
public import proofs.«01_k».proof.Proof.Columns
public import proofs.«01_k».proof.Proof.BlockValue
public import Idealize.ShloMosaic.Lib.Pointwise
public import Idealize.ShloMosaic.Lib.KernelVsHost

@[expose] public section

noncomputable section

open Idealize.ShloMosaic Idealize.ShloMosaic.TcCoe Idealize.SL.Sem

namespace Cert.PrepSpec

/-- A row of 128 numbers divided by its root mean square, times a gain. -/
def rms (v g : Fin 128 → EReal) (j : Fin 128) : EReal :=
  v j * Ideal.rsqrt (Ideal.div (∑ i : Fin 128, v i * v i) (Ideal.ofBits .f32 0x43000000#32) + Ideal.ofBits .f32 0x358637BD#32) * g j

end Cert.PrepSpec

namespace Cert.Kernel4Ideal.Block

open Cert.Kernel4Ideal Cert.Kernel4Ideal.Gen Cert.PrepSpec

theorem off2 : (![0, 0] : Fin 2 → Nat) = fun _ => 0 := funext fun a => by fin_cases a <;> rfl

/-- The packed column of a latent entry, and of an indexer key's entry. -/
def latentPos (j : Fin 128) : Fin 256 := ⟨j.val, by omega⟩
def keyPos (j : Fin 32) : Fin 256 := ⟨j.val + 128, by omega⟩

/-! ### The payloads -/

section
variable (x0 : Vec Ideal S640x1024 .bf16) (x1 : Vec Ideal S528x1024 .bf16) (x2 : Vec Ideal S1024x256 .bf16)
  (x3 : Vec Ideal S1x128 .f32) (x4 : Vec Ideal S128x64 .bf16) (x5 : Vec Ideal S80x128 .bf16) (r : Fin 640)

/-- The transposed product. -/
theorem pay87_apply (k : Fin 528) : k0_pay87 x0 x1 x2 x3 x4 x5 (ix2 k r) = ∑ t : Fin 1024, x1 (ix2 k t) * x0 (ix2 r t) := by
  unfold k0_pay87
  rw [View.ld_unit_zero off2, View.ld_unit_zero off2]
  pointwise [k0_pay2, k0_pay1]

/-- The product with the columns kept as they are. -/
theorem pay3_apply (k : Fin 256) : k0_pay3 x0 x2 (ix2 r k) = ∑ t : Fin 1024, x0 (ix2 r t) * x2 (ix2 t k) := by
  pointwise [k0_pay3, k0_pay1]

/-- The latent before its norm. -/
def latentBlock (j : Fin 128) : EReal := ∑ t : Fin 1024, x0 (ix2 r t) * x2 (ix2 t (latentPos j))

/-- The latent. -/
def normBlock (j : Fin 128) : EReal := rms (latentBlock x0 x2 r) (fun i => x3 (ix2 0 i)) j

theorem pay4_apply (j : Fin 128) : k0_pay4 x0 x2 x3 (ix2 r j) = normBlock x0 x2 x3 r j := by
  have e : ∀ i, latentBlock x0 x2 r i = k0_pay3 x0 x2 (ix2 r (latentPos i)) := fun i => (pay3_apply x0 x2 r _).symm
  unfold normBlock rms
  simp only [e]
  generalize hp : k0_pay3 x0 x2 = p
  unfold k0_pay4
  rw [hp]
  pointwise []
  rfl

/-- The keys. -/
theorem out9_apply (l : Fin 64) : out0_9 x0 x1 x2 x3 x4 x5 (ix2 r l) = ∑ j : Fin 128, normBlock x0 x2 x3 r j * x4 (ix2 j l) := by
  unfold out0_9
  rw [View.canon_unit_zero off2, View.ld_unit_zero off2, View.ld_unit_zero off2, View.ld_unit_zero off2, View.ld_unit_zero off2]
  simp only [← pay4_apply]
  generalize hp : k0_pay4 x0 x2 x3 = p
  unfold k0_pay5
  rw [hp]
  pointwise []

/-- The indexer's keys. -/
theorem out10_apply (l : Fin 32) : out0_10 x0 x1 x2 x3 x4 x5 (ix2 r l) = ∑ t : Fin 1024, x0 (ix2 r t) * x2 (ix2 t (keyPos l)) := by
  unfold out0_10
  rw [View.ld_unit_zero off2, View.ld_unit_zero off2, Value.canon10_eq, ← pay3_apply]
  exact congrArg (k0_pay3 x0 x2) (eq_ix2 _)

/-- Which of the 80 rows is the row of ones. -/
theorem ones_row : ∀ k : Fin 80, IntOp.cmpi .eq (BitVec.ofNat 32 k.val) 64#32 = if k.val = 64 then 1#1 else 0#1 := by
  decide

/-- The transposed values, with a row of ones after them. -/
theorem pay8_apply (p : FVec Ideal S640x128 .bf16) (k : Fin 80) :
    k0_pay8 p (k0_pay7 x5) (constant S80x640 .f32 0x00000000#32) (ix2 k r) =
      if k.val = 64 then Ideal.ofBits .f32 0x3F800000#32 else ∑ j : Fin 128, x5 (ix2 k j) * p (ix2 r j) := by
  pointwise [k0_pay8, k0_pay7]
  rw [ones_row]
  by_cases h : k.val = 64
  · rw [if_pos h, if_pos h]; rfl
  · rw [if_neg h, if_neg h]; rfl

/-- Where a token of tile `t` stands among the point's 640. -/
def tileTok (t : Fin 5) (n : Fin 128) : Fin 640 := ⟨128 * t.val + n.val, by omega⟩
/-- The row of an indexer weight. -/
def weightRow (h : Fin 8) : Fin 528 := ⟨h.val + 512, by omega⟩

/-- The queries. -/
theorem out6_apply (t : Fin 5) (d : Fin 64) (l : Fin 512) : out0_6 x0 x1 x2 x3 x4 x5 (ix3 t d l) =
    (∑ k : Fin 1024, x1 (ix2 (queryRow d l) k) * x0 (ix2 (queryTok t l) k)) * Ideal.ofBits .f32 0x3E000000#32 := by
  rw [out6_eq, ← pay87_apply x0 x1 x2 x3 x4 x5]
  rfl

/-- The indexer's queries. -/
theorem out7_apply (t : Fin 5) (d : Fin 32) (l : Fin 1024) : out0_7 x0 x1 x2 x3 x4 x5 (ix3 t d l) =
    ∑ k : Fin 1024, x1 (ix2 (indexRow d l) k) * x0 (ix2 (indexTok t l) k) := by
  rw [out7_eq, ← pay87_apply x0 x1 x2 x3 x4 x5]
  rfl

/-- The indexer's weights. -/
theorem out8_apply (t : Fin 5) (d : Fin 8) (l : Fin 128) : out0_8 x0 x1 x2 x3 x4 x5 (ix3 t d l) =
    (∑ k : Fin 1024, x1 (ix2 (weightRow d) k) * x0 (ix2 (tileTok t l) k)) * Ideal.ofBits .f32 0x3D800000#32 := by
  unfold out0_8
  rw [← pay87_apply x0 x1 x2 x3 x4 x5]
  unfold k0_pay87
  rw [Value.canon8_eq]
  refine congrArg (fun i => k0_pay2 (View.ld x0 r0_0) (View.ld x1 r0_1) i * Ideal.ofBits .f32 0x3D800000#32) ?_
  funext a
  apply Fin.ext
  match a with
  | ⟨0, _⟩ => rfl
  | ⟨1, _⟩ => show t.val * 128 + l.val = 128 * t.val + l.val; omega

/-- The values. -/
theorem out11_apply (t : Fin 5) (d : Fin 80) (l : Fin 128) : out0_11 x0 x1 x2 x3 x4 x5 (ix3 t d l) =
    if d.val = 64 then Ideal.ofBits .f32 0x3F800000#32
      else ∑ j : Fin 128, x5 (ix2 d j) * normBlock x0 x2 x3 (tileTok t l) j := by
  simp only [← pay4_apply]
  rw [← pay8_apply]
  unfold out0_11 k0_pay88
  rw [Value.canon11_eq, View.ld_unit_zero off2, View.ld_unit_zero off2, View.ld_unit_zero off2, View.ld_unit_zero off2]
  refine (congrArg (k0_pay8 (k0_pay4 x0 x2 x3) (k0_pay7 x5) (constant S80x640 .f32 0x00000000#32)) ?_ :)
  funext a
  apply Fin.ext
  match a with
  | ⟨0, _⟩ => rfl
  | ⟨1, _⟩ => show t.val * 128 + l.val = 128 * t.val + l.val; omega

end

end Cert.Kernel4Ideal.Block

end
-- ==== Proof.PrepHost.lean ====
/-
  What the sparse-attention preparation's call leaves.  The host packs the weight's columns it needs: the queries, the
  indexer's queries and its weights, transposed, one row each; the latent and the indexer's keys, one column each.  Grid
  point `q` reads tile `q` of 640 tokens and writes its five tiles of 128.
-/
module

public import proofs.«01_k».proof.Proof.Prep

@[expose] public section

noncomputable section

open Idealize.ShloMosaic Idealize.ShloMosaic.TcCoe Idealize.SL.Sem

namespace Cert.PrepSpec

/-- Column `k` of the first 672 of the preparation's columns, which start at 1808 of the weight. -/
def queryCol (d : Fin 64) (c : Fin 512) : Fin 7616 := ⟨1808 + (64 * (c.val / 128) + d.val), by omega⟩
def latentCol (j : Fin 128) : Fin 7616 := ⟨2064 + j.val, by omega⟩
def indexCol (d : Fin 32) (c : Fin 1024) : Fin 7616 := ⟨2192 + (32 * (c.val / 128) + d.val), by omega⟩
def keyCol (l : Fin 32) : Fin 7616 := ⟨2448 + l.val, by omega⟩
def weightCol (d : Fin 8) : Fin 7616 := ⟨2480 + d.val, by omega⟩

/-- Token `n` of the 260 tiles of 128. -/
def token (T : Fin 260) (n : Nat) (hn : n < 128) : Fin 33280 := ⟨128 * T.val + n, by omega⟩
/-- The token of a column that holds one head's 128 tokens after another's. -/
def headTok (T : Fin 260) {w : Nat} (c : Fin w) : Fin 33280 := token T (c.val % 128) (Nat.mod_lt _ (by decide))

end Cert.PrepSpec

namespace Cert.Kernel4Ideal.Block

open Cert.Kernel4Ideal Cert.Kernel4Ideal.Gen Cert.PrepSpec

/-! ### The preparation's values -/

section
variable (h : FVec Ideal S33280x1024 .f32) (w : FVec Ideal S1024x7616 .f32) (g : FVec Ideal S128 .f32)
  (uk uv : FVec Ideal S128x64 .f32) (n : Fin 33280)

/-- The product of token `n` with column `k` of the weight. -/
def dotAt (k : Fin 7616) : EReal := ∑ t : Fin 1024, h (ix2 n t) * w (ix2 t k)

/-- The latent of token `n`. -/
def latentAt (j : Fin 128) : EReal := rms (fun i => dotAt h w n (latentCol i)) (fun i => g (ix1 i)) j

/-- Its key. -/
def keyAt (l : Fin 64) : EReal := ∑ j : Fin 128, latentAt h w g n j * uk (ix2 j l)

/-- Its value, then one, then zeros. -/
def valueAt (d : Fin 80) : EReal :=
  if hd : d.val < 64 then ∑ j : Fin 128, latentAt h w g n j * uv (ix2 j (⟨d.val, hd⟩ : Fin 64))
  else if d.val = 64 then Ideal.ofBits .f32 0x3F800000#32 else 0

end

/-! ### What the host packs -/

/-- The transposed weight. -/
def packedT (w : FVec Ideal S1024x7616 .f32) : FVec Ideal S528x1024 .f32 :=
  pad S528x1024 ![0, 0] ![8, 0] ![0, 0]
    (concatenate S520x1024 0
      [⟨S256x1024, transpose S256x1024 [1, 0] (extractStridedSlice S1024x256 ![0, 1808] w slices_S1024x7616_S1024x256_0_1808) transposes_S1024x256_S256x1024_1_0⟩,
       ⟨S256x1024, transpose S256x1024 [1, 0] (extractStridedSlice S1024x256 ![0, 2192] w slices_S1024x7616_S1024x256_0_2192) transposes_S1024x256_S256x1024_1_0⟩,
       ⟨S8x1024, transpose S8x1024 [1, 0] (extractStridedSlice S1024x8 ![0, 2480] w slices_S1024x7616_S1024x8_0_2480) transposes_S1024x8_S8x1024_1_0⟩]
      concatenates_S256x1024_S256x1024_S8x1024_S520x1024_d0)
    (sitofp .f32 (constantI S_ 32 0#32)) pads_S520x1024_S528x1024_080_000 h_S_

/-- The weight kept as it is. -/
def packedN (w : FVec Ideal S1024x7616 .f32) : FVec Ideal S1024x256 .f32 :=
  pad S1024x256 ![0, 0] ![0, 96] ![0, 0]
    (concatenate S1024x160 1
      [⟨S1024x128, extractStridedSlice S1024x128 ![0, 2064] w slices_S1024x7616_S1024x128_0_2064⟩,
       ⟨S1024x32, extractStridedSlice S1024x32 ![0, 2448] w slices_S1024x7616_S1024x32_0_2448⟩]
      concatenates_S1024x128_S1024x32_S1024x160_d1)
    (sitofp .f32 (constantI S_ 32 0#32)) pads_S1024x160_S1024x256_000_0960 h_S_

/-- The values' weight, transposed and followed by rows of zeros. -/
def packedV (v : FVec Ideal S128x64 .f32) : FVec Ideal S80x128 .f32 :=
  pad S80x128 ![0, 0] ![16, 0] ![0, 0] (transpose S64x128 [1, 0] v transposes_S128x64_S64x128_1_0)
    (sitofp .f32 (constantI S_ 32 0#32)) pads_S64x128_S80x128_0160_000 h_S_

/-- A block of columns cut out of the weight. -/
theorem cut_apply {n off : Nat} (w : FVec Ideal S1024x7616 .f32) (h : S1024x7616.Slices ![0, off] ⟨2, ![1024, n]⟩)
    (t : Fin 1024) (c : Fin n) (k : Fin 7616) (hk : k.val = off + c.val) :
    extractStridedSlice ⟨2, ![1024, n]⟩ ![0, off] w h (ix2 t c) = w (ix2 t k) :=
  extractStridedSlice_apply _ _ _ _ _ fun a => match a with
    | ⟨0, _⟩ => by show t.val = 0 + t.val; omega
    | ⟨1, _⟩ => hk

/-- A matrix transposed. -/
theorem flip_apply {R n : Nat} (x : (⟨2, ![R, n]⟩ : Shape).Idx → EReal)
    (h : (⟨2, ![R, n]⟩ : Shape).Transposes [1, 0] ⟨2, ![n, R]⟩) (t : Fin R) (c : Fin n) :
    transpose ⟨2, ![n, R]⟩ [1, 0] x h (ix2 c t) = x (ix2 t c) :=
  transpose_apply _ x h _ _ fun b => match b with
    | ⟨0, _⟩ => rfl
    | ⟨1, _⟩ => rfl

/-- An entry of matrices put one below another, named by the piece it lies in and its row there. -/
theorem below_apply {α : Type} {C n w : Nat} (xs : List ((s : Shape) × (s.Idx → α)))
    (h : Shape.Concatenates (xs.map (·.1)) ⟨2, ![n, C]⟩ 0) (c : Fin n) (t : Fin C) (k : Nat) (hk : k < xs.length)
    (x : (⟨2, ![w, C]⟩ : Shape).Idx → α) (hx : xs[k] = ⟨⟨2, ![w, C]⟩, x⟩) (pre : Nat)
    (hpre : (((xs.take k).map (·.1)).map fun s => if h : s.rank = 2 then s.size ((0 : Fin 2).cast h.symm) else 0).sum = pre)
    (c' : Fin w) (hc : pre + c'.val = c.val) :
    concatenate (⟨2, ![n, C]⟩ : Shape) 0 xs h (ix2 c t) = x (ix2 c' t) :=
  concatenate_apply_piece (t := ⟨2, ![n, C]⟩) (0 : Fin 2) xs h (ix2 c t) k hk ⟨2, ![w, C]⟩ x hx rfl pre hpre (ix2 c' t)
    (fun b hb => match b, hb with
      | ⟨0, _⟩, hb => absurd rfl hb
      | ⟨1, _⟩, _ => rfl) hc

/-- A row of the packed transpose that is not one of the zeros. -/
theorem packedT_inside (w : FVec Ideal S1024x7616 .f32) (r : Fin 528) (hr : r.val < 520) (t : Fin 1024) :
    packedT w (ix2 r t) = concatenate S520x1024 0
      [⟨S256x1024, transpose S256x1024 [1, 0] (extractStridedSlice S1024x256 ![0, 1808] w slices_S1024x7616_S1024x256_0_1808) transposes_S1024x256_S256x1024_1_0⟩,
       ⟨S256x1024, transpose S256x1024 [1, 0] (extractStridedSlice S1024x256 ![0, 2192] w slices_S1024x7616_S1024x256_0_2192) transposes_S1024x256_S256x1024_1_0⟩,
       ⟨S8x1024, transpose S8x1024 [1, 0] (extractStridedSlice S1024x8 ![0, 2480] w slices_S1024x7616_S1024x8_0_2480) transposes_S1024x8_S8x1024_1_0⟩]
      concatenates_S256x1024_S256x1024_S8x1024_S520x1024_d0 (ix2 (⟨r.val, hr⟩ : Fin 520) t) :=
  pad_apply_of_inside _ _ _ _ _ _ _ _ (ix2 (⟨r.val, hr⟩ : Fin 520) t) fun a => match a with
    | ⟨0, _⟩ => by show r.val = 0 + r.val * (0 + 1); omega
    | ⟨1, _⟩ => by show t.val = 0 + t.val * (0 + 1); omega

theorem packedT_query (w : FVec Ideal S1024x7616 .f32) (d : Fin 64) (l : Fin 512) (t : Fin 1024) :
    packedT w (ix2 (queryRow d l) t) = w (ix2 t (queryCol d l)) := by
  have hl : 64 * (l.val / 128) + d.val < 256 := by omega
  refine (packedT_inside w (queryRow d l) (by show 64 * (l.val / 128) + d.val < 520; omega) t).trans ?_
  refine Eq.trans (below_apply _ _ _ t 0 (by simp only [List.length]; omega) _ rfl 0 rfl
    (⟨64 * (l.val / 128) + d.val, hl⟩ : Fin 256) (by show 0 + (64 * (l.val / 128) + d.val) = _; exact Nat.zero_add _)) ?_
  exact (flip_apply _ _ t _).trans (cut_apply w _ t _ _ rfl)

theorem packedT_index (w : FVec Ideal S1024x7616 .f32) (d : Fin 32) (l : Fin 1024) (t : Fin 1024) :
    packedT w (ix2 (indexRow d l) t) = w (ix2 t (indexCol d l)) := by
  have hl : 32 * (l.val / 128) + d.val < 256 := by omega
  refine (packedT_inside w (indexRow d l) (by show 256 + 32 * (l.val / 128) + d.val < 520; omega) t).trans ?_
  refine Eq.trans (below_apply _ _ _ t 1 (by simp only [List.length]; omega) _ rfl 256 rfl
    (⟨32 * (l.val / 128) + d.val, hl⟩ : Fin 256)
    (by show 256 + (32 * (l.val / 128) + d.val) = 256 + 32 * (l.val / 128) + d.val; omega)) ?_
  exact (flip_apply _ _ t _).trans (cut_apply w _ t _ _ rfl)

theorem packedT_weight (w : FVec Ideal S1024x7616 .f32) (d : Fin 8) (t : Fin 1024) :
    packedT w (ix2 (weightRow d) t) = w (ix2 t (weightCol d)) := by
  refine (packedT_inside w (weightRow d) (by show d.val + 512 < 520; omega) t).trans ?_
  refine Eq.trans (below_apply _ _ _ t 2 (by simp only [List.length]; omega) _ rfl 512 rfl d
    (by show 512 + d.val = d.val + 512; omega)) ?_
  exact (flip_apply _ _ t _).trans (cut_apply w _ t _ _ rfl)

/-- A column of the packed weight that is not one of the zeros. -/
theorem packedN_inside (w : FVec Ideal S1024x7616 .f32) (t : Fin 1024) (c : Fin 256) (hc : c.val < 160) :
    packedN w (ix2 t c) = concatenate S1024x160 1
      [⟨S1024x128, extractStridedSlice S1024x128 ![0, 2064] w slices_S1024x7616_S1024x128_0_2064⟩,
       ⟨S1024x32, extractStridedSlice S1024x32 ![0, 2448] w slices_S1024x7616_S1024x32_0_2448⟩]
      concatenates_S1024x128_S1024x32_S1024x160_d1 (ix2 t (⟨c.val, hc⟩ : Fin 160)) :=
  pad_apply_of_inside _ _ _ _ _ _ _ _ (ix2 t (⟨c.val, hc⟩ : Fin 160)) fun a => match a with
    | ⟨0, _⟩ => by show t.val = 0 + t.val * (0 + 1); omega
    | ⟨1, _⟩ => by show c.val = 0 + c.val * (0 + 1); omega

theorem packedN_latent (w : FVec Ideal S1024x7616 .f32) (t : Fin 1024) (j : Fin 128) :
    packedN w (ix2 t (latentPos j)) = w (ix2 t (latentCol j)) := by
  refine (packedN_inside w t (latentPos j) (by show j.val < 160; omega)).trans ?_
  exact Eq.trans (Cert.Columns.piece_apply _ _ t _ 0 (by simp only [List.length]; omega) _ rfl 0 rfl j
    (by show 0 + j.val = j.val; omega)) (cut_apply w _ t _ _ rfl)

theorem packedN_key (w : FVec Ideal S1024x7616 .f32) (t : Fin 1024) (l : Fin 32) :
    packedN w (ix2 t (keyPos l)) = w (ix2 t (keyCol l)) := by
  refine (packedN_inside w t (keyPos l) (by show l.val + 128 < 160; omega)).trans ?_
  exact Eq.trans (Cert.Columns.piece_apply _ _ t _ 1 (by simp only [List.length]; omega) _ rfl 128 rfl l
    (by show 128 + l.val = l.val + 128; omega)) (cut_apply w _ t _ _ rfl)

theorem packedV_inside (v : FVec Ideal S128x64 .f32) (d : Fin 80) (hd : d.val < 64) (j : Fin 128) :
    packedV v (ix2 d j) = v (ix2 j (⟨d.val, hd⟩ : Fin 64)) := by
  refine (pad_apply_of_inside _ _ _ _ _ _ _ _ (ix2 (⟨d.val, hd⟩ : Fin 64) j) fun a => match a with
    | ⟨0, _⟩ => by show d.val = 0 + d.val * (0 + 1); omega
    | ⟨1, _⟩ => by show j.val = 0 + j.val * (0 + 1); omega).trans ?_
  exact flip_apply _ _ j _

theorem packedV_outside (v : FVec Ideal S128x64 .f32) (d : Fin 80) (hd : ¬ d.val < 64) (j : Fin 128) :
    packedV v (ix2 d j) = 0 := by
  refine (pad_apply_of_not_inside _ _ _ _ _ _ _ _ (0 : Fin 2) ?_).trans (sitofp_zero (φ := .f32))
  rintro ⟨-, -, h⟩
  exact hd ((by omega : d.val = (d.val - 0) / (0 + 1)).trans_lt h)

theorem row_apply (v : FVec Ideal S128 .f32) (l : Fin 128) :
    shapeCast S1x128 v shapeCasts_S128_S1x128 (ix2 0 l) = v (ix1 l) := by
  refine shapeCast_apply _ shapeCasts_S128_S1x128 _ (ix1 l) ?_
  rw [Shape.rowMajor_val_one, Shape.rowMajor_val_two]
  show l.val = 0 * 128 + l.val
  ring

end Cert.Kernel4Ideal.Block

end
-- ==== Proof.PrepCall.lean ====
/-
  What the sparse-attention preparation's call leaves, array by array: the blocks a grid point reads are the packed
  weights and its tile of tokens, and the six results are put together from the blocks the points write.
-/
module

public import proofs.«01_k».proof.Proof.PrepHost

@[expose] public section

noncomputable section

open Idealize.ShloMosaic Idealize.ShloMosaic.TcCoe Idealize.SL.Sem

namespace Cert.Kernel4Ideal.Block

open Cert.Kernel4Ideal Cert.Kernel4Ideal.Gen Cert.PrepSpec

variable (m : (ℓ : Loc nD τ sig) → Buf (Elt Ideal) ℓ) (c : Dev nD)

/-- The arguments as arrays of numbers. -/
abbrev aH : FVec Ideal S33280x1024 .f32 := m ((c : Thread nD τ).loc main_arg0)
abbrev aW : FVec Ideal S1024x7616 .f32 := m ((c : Thread nD τ).loc main_arg1)
abbrev aG : FVec Ideal S128 .f32 := m ((c : Thread nD τ).loc main_arg2)
abbrev aUk : FVec Ideal S128x64 .f32 := m ((c : Thread nD τ).loc main_arg3)
abbrev aUv : FVec Ideal S128x64 .f32 := m ((c : Thread nD τ).loc main_arg4)

/-- Row `r` of tile `q`. -/
def rowOf (q : Fin 52) (r : Fin 640) : Fin 33280 := ⟨640 * q.val + r.val, by omega⟩

/-- Every row lies in a tile. -/
theorem exists_rowOf (n : Fin 33280) : ∃ q r, n = rowOf q r :=
  ⟨⟨n.val / 640, by omega⟩, ⟨n.val % 640, by omega⟩, Fin.ext (by show n.val = 640 * (n.val / 640) + n.val % 640; omega)⟩

/-- Tile `t` of 128 tokens among the five of point `q`. -/
def tileOf (q : Fin 52) (t : Fin 5) : Fin 260 := ⟨5 * q.val + t.val, by omega⟩

theorem exists_tileOf (T : Fin 260) : ∃ q t, T = tileOf q t :=
  ⟨⟨T.val / 5, by omega⟩, ⟨T.val % 5, by omega⟩, Fin.ext (by show T.val = 5 * (T.val / 5) + T.val % 5; omega)⟩

theorem row_query (q : Fin 52) (t : Fin 5) (l : Fin 512) : rowOf q (queryTok t l) = headTok (tileOf q t) l :=
  Fin.ext (by show 640 * q.val + (128 * t.val + l.val % 128) = 128 * (5 * q.val + t.val) + l.val % 128; omega)

theorem row_index (q : Fin 52) (t : Fin 5) (l : Fin 1024) : rowOf q (indexTok t l) = headTok (tileOf q t) l :=
  Fin.ext (by show 640 * q.val + (128 * t.val + l.val % 128) = 128 * (5 * q.val + t.val) + l.val % 128; omega)

theorem row_tile (q : Fin 52) (t : Fin 5) (l : Fin 128) : rowOf q (tileTok t l) = token (tileOf q t) l.val l.isLt :=
  Fin.ext (by show 640 * q.val + (128 * t.val + l.val) = 128 * (5 * q.val + t.val) + l.val; omega)

/-! ### What the host prepares -/

section
set_option maxRecDepth 100000
attribute [local irreducible] pad extractStridedSlice transpose concatenate truncf sitofp constantI shapeCast

theorem V_v35 : V m c main_v35 = (truncf .bf16 (aH m c) bitsLt_bf16_f32 : FVec Ideal S33280x1024 .bf16) := by rfl

theorem V_v31 : V m c main_v31 = (truncf .bf16 (packedT (aW m c)) bitsLt_bf16_f32 : FVec Ideal S528x1024 .bf16) := by rfl

theorem V_v32 : V m c main_v32 = (truncf .bf16 (packedN (aW m c)) bitsLt_bf16_f32 : FVec Ideal S1024x256 .bf16) := by rfl

theorem V_v38 : V m c main_v38 = (truncf .bf16 (packedV (aUv m c)) bitsLt_bf16_f32 : FVec Ideal S80x128 .bf16) := by rfl

theorem V_v39 : V m c main_v39 = shapeCast S1x128 (aG m c) shapeCasts_S128_S1x128 := by rfl

theorem V_v40 : V m c main_v40 = (truncf .bf16 (aUk m c) bitsLt_bf16_f32 : FVec Ideal S128x64 .bf16) := by rfl

end

/-! ### The blocks a point reads -/

/-- Where the windows that stay stand. -/
theorem places : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) :=
  (by decide +kernel : ∀ t : Fin grid0.N, _)

/-- Where the windows of the results stand. -/
theorem outPlaces : ∀ t : Fin cfg0.N,
    (win0_6.index t (0 : Fin 3) = t.val ∧ win0_6.index t (1 : Fin 3) = 0 ∧ win0_6.index t (2 : Fin 3) = 0) ∧
    (win0_7.index t (0 : Fin 3) = t.val ∧ win0_7.index t (1 : Fin 3) = 0 ∧ win0_7.index t (2 : Fin 3) = 0) ∧
    (win0_8.index t (0 : Fin 3) = t.val ∧ win0_8.index t (1 : Fin 3) = 0 ∧ win0_8.index t (2 : Fin 3) = 0) ∧
    (win0_9.index t (0 : Fin 2) = t.val ∧ win0_9.index t (1 : Fin 2) = 0) ∧
    (win0_10.index t (0 : Fin 2) = t.val ∧ win0_10.index t (1 : Fin 2) = 0) ∧
    (win0_11.index t (0 : Fin 3) = t.val ∧ win0_11.index t (1 : Fin 3) = 0 ∧ win0_11.index t (2 : Fin 3) = 0) :=
  (by decide +kernel : ∀ t : Fin grid0.N, _)

/-- Every point writes its blocks back. -/
theorem flushes : ∀ t : Fin cfg0.N,
    (cfg0.win 6).flush t = true ∧ (cfg0.win 7).flush t = true ∧ (cfg0.win 8).flush t = true ∧
    (cfg0.win 9).flush t = true ∧ (cfg0.win 10).flush t = true ∧ (cfg0.win 11).flush t = true :=
  (by decide +kernel : ∀ t : Fin grid0.N, _)

section
variable (q : Fin 52) (t : Fin cfg0.N) (ht : t.val = q.val)

include ht in
theorem block0 (r : Fin 640) (l : Fin 1024) :
    (iblk m c 0 t : Vec Ideal S640x1024 .bf16) (ix2 r l) = aH m c (ix2 (rowOf q r) l) := by
  obtain ⟨⟨p0, p1⟩, -⟩ := places t
  unfold iblk
  rw [View.read_apply]
  refine (congrFun (V_v35 m c) _).trans (congrArg (aH m c) ?_)
  funext a
  apply Fin.ext
  match a with
  | ⟨0, _⟩ => show win0_0.index t 0 * 640 + 1 * r.val = 640 * q.val + r.val; rw [p0]; omega
  | ⟨1, _⟩ => show win0_0.index t 1 * 1024 + 1 * l.val = l.val; rw [p1]; omega

theorem block1 (r : Fin 528) (l : Fin 1024) :
    (iblk m c 1 t : Vec Ideal S528x1024 .bf16) (ix2 r l) = (packedT (aW m c)) (ix2 r l) := by
  obtain ⟨-, ⟨p0, p1⟩, -⟩ := places t
  unfold iblk
  rw [View.read_apply]
  refine (congrFun (V_v31 m c) _).trans (congrArg (packedT (aW m c)) ?_)
  funext a
  apply Fin.ext
  match a with
  | ⟨0, _⟩ => show win0_1.index t 0 * 528 + 1 * r.val = r.val; rw [p0]; omega
  | ⟨1, _⟩ => show win0_1.index t 1 * 1024 + 1 * l.val = l.val; rw [p1]; omega

theorem block2 (r : Fin 1024) (l : Fin 256) :
    (iblk m c 2 t : Vec Ideal S1024x256 .bf16) (ix2 r l) = (packedN (aW m c)) (ix2 r l) := by
  obtain ⟨-, -, ⟨p0, p1⟩, -⟩ := places t
  unfold iblk
  rw [View.read_apply]
  refine (congrFun (V_v32 m c) _).trans (congrArg (packedN (aW m c)) ?_)
  funext a
  apply Fin.ext
  match a with
  | ⟨0, _⟩ => show win0_2.index t 0 * 1024 + 1 * r.val = r.val; rw [p0]; omega
  | ⟨1, _⟩ => show win0_2.index t 1 * 256 + 1 * l.val = l.val; rw [p1]; omega

theorem block3 (r : Fin 1) (l : Fin 128) :
    (iblk m c 3 t : Vec Ideal S1x128 .f32) (ix2 r l) = (shapeCast S1x128 (aG m c) shapeCasts_S128_S1x128) (ix2 r l) := by
  obtain ⟨-, -, -, ⟨p0, p1⟩, -⟩ := places t
  unfold iblk
  rw [View.read_apply]
  refine (congrFun (V_v39 m c) _).trans (congrArg (shapeCast S1x128 (aG m c) shapeCasts_S128_S1x128) ?_)
  funext a
  apply Fin.ext
  match a with
  | ⟨0, _⟩ => show win0_3.index t 0 * 1 + 1 * r.val = r.val; rw [p0]; omega
  | ⟨1, _⟩ => show win0_3.index t 1 * 128 + 1 * l.val = l.val; rw [p1]; omega

theorem block4 (r : Fin 128) (l : Fin 64) :
    (iblk m c 4 t : Vec Ideal S128x64 .bf16) (ix2 r l) = (aUk m c) (ix2 r l) := by
  obtain ⟨-, -, -, -, ⟨p0, p1⟩, -⟩ := places t
  unfold iblk
  rw [View.read_apply]
  refine (congrFun (V_v40 m c) _).trans (congrArg (aUk m c) ?_)
  funext a
  apply Fin.ext
  match a with
  | ⟨0, _⟩ => show win0_4.index t 0 * 128 + 1 * r.val = r.val; rw [p0]; omega
  | ⟨1, _⟩ => show win0_4.index t 1 * 64 + 1 * l.val = l.val; rw [p1]; omega

theorem block5 (r : Fin 80) (l : Fin 128) :
    (iblk m c 5 t : Vec Ideal S80x128 .bf16) (ix2 r l) = (packedV (aUv m c)) (ix2 r l) := by
  obtain ⟨-, -, -, -, -, ⟨p0, p1⟩⟩ := places t
  unfold iblk
  rw [View.read_apply]
  refine (congrFun (V_v38 m c) _).trans (congrArg (packedV (aUv m c)) ?_)
  funext a
  apply Fin.ext
  match a with
  | ⟨0, _⟩ => show win0_5.index t 0 * 80 + 1 * r.val = r.val; rw [p0]; omega
  | ⟨1, _⟩ => show win0_5.index t 1 * 128 + 1 * l.val = l.val; rw [p1]; omega

/-- The latent of a row of the point's tile. -/
theorem norm_eq (ht : t.val = q.val) (r : Fin 640) (j : Fin 128) :
    normBlock (iblk m c 0 t) (iblk m c 2 t) (iblk m c 3 t) r j = latentAt (aH m c) (aW m c) (aG m c) (rowOf q r) j := by
  have e : latentBlock (iblk m c 0 t) (iblk m c 2 t) r = fun i => dotAt (aH m c) (aW m c) (rowOf q r) (latentCol i) :=
    funext fun i => Finset.sum_congr rfl fun k _ => congrArg₂ (fun a b : EReal => a * b) (block0 m c q t ht r k)
      ((block2 m c t k (latentPos i)).trans (packedN_latent _ k i))
  have g : (fun i => (iblk m c 3 t : Vec Ideal S1x128 .f32) (ix2 0 i)) = fun i => aG m c (ix1 i) :=
    funext fun i => (block3 m c t 0 i).trans (row_apply _ i)
  unfold normBlock latentAt
  rw [e, g]

end

/-! ### The six arrays after the run -/

/-- The queries, scaled. -/
theorem array6 (T : Fin 260) (d : Fin 64) (l : Fin 512) :
    ((dats m 0 c).arrAt 6 cfg0.N : Vec Ideal S260x64x512 .bf16) (ix3 T d l) = dotAt (aH m c) (aW m c) (headTok T l) (queryCol d l) * Ideal.ofBits .f32 0x3E000000#32 := by
  obtain ⟨q, s, rfl⟩ := exists_tileOf T
  have ht : ((⟨q.val, q.isLt⟩ : Fin cfg0.N)).val = q.val := rfl
  generalize (⟨q.val, q.isLt⟩ : Fin cfg0.N) = t at ht
  have h := congrFun ((Value.blocks6 m c t (flushes t).1).trans (Value.flushed6 m c t)) (ix3 s d l)
  rw [View.read_apply] at h
  generalize (dats m 0 c).arrAt 6 cfg0.N = A at h ⊢
  refine Eq.trans (congrArg A ?_) (h.trans ?_)
  · obtain ⟨⟨p0, p1, p2⟩, -⟩ := outPlaces t
    funext a
    apply Fin.ext
    match a with
    | ⟨0, _⟩ => show 5 * q.val + s.val = win0_6.index t 0 * 5 + 1 * s.val; rw [p0]; omega
    | ⟨1, _⟩ => show d.val = win0_6.index t 1 * 64 + 1 * d.val; rw [p1]; omega
    | ⟨2, _⟩ => show l.val = win0_6.index t 2 * 512 + 1 * l.val; rw [p2]; omega
  · refine (out6_apply _ _ _ _ _ _ s d l).trans (congrArg (fun a : EReal => a * Ideal.ofBits .f32 0x3E000000#32) ?_)
    refine Finset.sum_congr rfl fun k _ => (mul_comm _ _).trans ?_
    rw [← row_query]
    exact congrArg₂ (fun a b : EReal => a * b) (block0 m c q t ht _ k) ((block1 m c t _ k).trans (packedT_query _ d l k))

/-- The indexer's queries. -/
theorem array7 (T : Fin 260) (d : Fin 32) (l : Fin 1024) :
    ((dats m 0 c).arrAt 7 cfg0.N : Vec Ideal S260x32x1024 .bf16) (ix3 T d l) = dotAt (aH m c) (aW m c) (headTok T l) (indexCol d l) := by
  obtain ⟨q, s, rfl⟩ := exists_tileOf T
  have ht : ((⟨q.val, q.isLt⟩ : Fin cfg0.N)).val = q.val := rfl
  generalize (⟨q.val, q.isLt⟩ : Fin cfg0.N) = t at ht
  have h := congrFun ((Value.blocks7 m c t (flushes t).2.1).trans (Value.flushed7 m c t)) (ix3 s d l)
  rw [View.read_apply] at h
  generalize (dats m 0 c).arrAt 7 cfg0.N = A at h ⊢
  refine Eq.trans (congrArg A ?_) (h.trans ?_)
  · obtain ⟨-, ⟨p0, p1, p2⟩, -⟩ := outPlaces t
    funext a
    apply Fin.ext
    match a with
    | ⟨0, _⟩ => show 5 * q.val + s.val = win0_7.index t 0 * 5 + 1 * s.val; rw [p0]; omega
    | ⟨1, _⟩ => show d.val = win0_7.index t 1 * 32 + 1 * d.val; rw [p1]; omega
    | ⟨2, _⟩ => show l.val = win0_7.index t 2 * 1024 + 1 * l.val; rw [p2]; omega
  · refine (out7_apply _ _ _ _ _ _ s d l).trans ?_
    refine Finset.sum_congr rfl fun k _ => (mul_comm _ _).trans ?_
    rw [← row_index]
    exact congrArg₂ (fun a b : EReal => a * b) (block0 m c q t ht _ k) ((block1 m c t _ k).trans (packedT_index _ d l k))

/-- The indexer's weights, scaled. -/
theorem array8 (T : Fin 260) (d : Fin 8) (l : Fin 128) :
    ((dats m 0 c).arrAt 8 cfg0.N : Vec Ideal S260x8x128 .f32) (ix3 T d l) = dotAt (aH m c) (aW m c) (token T l.val l.isLt) (weightCol d) * Ideal.ofBits .f32 0x3D800000#32 := by
  obtain ⟨q, s, rfl⟩ := exists_tileOf T
  have ht : ((⟨q.val, q.isLt⟩ : Fin cfg0.N)).val = q.val := rfl
  generalize (⟨q.val, q.isLt⟩ : Fin cfg0.N) = t at ht
  have h := congrFun ((Value.blocks8 m c t (flushes t).2.2.1).trans (Value.flushed8 m c t)) (ix3 s d l)
  rw [View.read_apply] at h
  generalize (dats m 0 c).arrAt 8 cfg0.N = A at h ⊢
  refine Eq.trans (congrArg A ?_) (h.trans ?_)
  · obtain ⟨-, -, ⟨p0, p1, p2⟩, -⟩ := outPlaces t
    funext a
    apply Fin.ext
    match a with
    | ⟨0, _⟩ => show 5 * q.val + s.val = win0_8.index t 0 * 5 + 1 * s.val; rw [p0]; omega
    | ⟨1, _⟩ => show d.val = win0_8.index t 1 * 8 + 1 * d.val; rw [p1]; omega
    | ⟨2, _⟩ => show l.val = win0_8.index t 2 * 128 + 1 * l.val; rw [p2]; omega
  · refine (out8_apply _ _ _ _ _ _ s d l).trans (congrArg (fun a : EReal => a * Ideal.ofBits .f32 0x3D800000#32) ?_)
    refine Finset.sum_congr rfl fun k _ => (mul_comm _ _).trans ?_
    rw [← row_tile]
    exact congrArg₂ (fun a b : EReal => a * b) (block0 m c q t ht _ k) ((block1 m c t _ k).trans (packedT_weight _ d k))

/-- The keys. -/
theorem array9 (n : Fin 33280) (l : Fin 64) :
    ((dats m 0 c).arrAt 9 cfg0.N : Vec Ideal S33280x64 .bf16) (ix2 n l) = keyAt (aH m c) (aW m c) (aG m c) (aUk m c) n l := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks9 m c t (flushes t).2.2.2.1).trans (Value.flushed9 m c t)) (ix2 r l)
  rw [View.read_apply] at h
  generalize (dats m 0 c).arrAt 9 cfg0.N = A at h ⊢
  refine Eq.trans (congrArg A ?_) (h.trans ?_)
  · obtain ⟨-, -, -, ⟨p0, p1⟩, -⟩ := outPlaces t
    funext a
    apply Fin.ext
    match a with
    | ⟨0, _⟩ => show 640 * q.val + r.val = win0_9.index t 0 * 640 + 1 * r.val; rw [p0]; omega
    | ⟨1, _⟩ => show l.val = win0_9.index t 1 * 64 + 1 * l.val; rw [p1]; omega
  · refine (out9_apply _ _ _ _ _ _ r l).trans (Finset.sum_congr rfl fun j _ => ?_)
    exact congrArg₂ (fun a b : EReal => a * b) (norm_eq m c q t ht r j) (block4 m c t j l)

/-- The indexer's keys. -/
theorem array10 (n : Fin 33280) (l : Fin 32) :
    ((dats m 0 c).arrAt 10 cfg0.N : Vec Ideal S33280x32 .bf16) (ix2 n l) = dotAt (aH m c) (aW m c) n (keyCol l) := by
  obtain ⟨q, r, rfl⟩ := exists_rowOf n
  have ht : ((⟨q.val, q.isLt⟩ : Fin cfg0.N)).val = q.val := rfl
  generalize (⟨q.val, q.isLt⟩ : Fin cfg0.N) = t at ht
  have h := congrFun ((Value.blocks10 m c t (flushes t).2.2.2.2.1).trans (Value.flushed10 m c t)) (ix2 r l)
  rw [View.read_apply] at h
  generalize (dats m 0 c).arrAt 10 cfg0.N = A at h ⊢
  refine Eq.trans (congrArg A ?_) (h.trans ?_)
  · obtain ⟨-, -, -, -, ⟨p0, p1⟩, -⟩ := outPlaces t
    funext a
    apply Fin.ext
    match a with
    | ⟨0, _⟩ => show 640 * q.val + r.val = win0_10.index t 0 * 640 + 1 * r.val; rw [p0]; omega
    | ⟨1, _⟩ => show l.val = win0_10.index t 1 * 32 + 1 * l.val; rw [p1]; omega
  · refine (out10_apply _ _ _ _ _ _ r l).trans (Finset.sum_congr rfl fun k _ => ?_)
    exact congrArg₂ (fun a b : EReal => a * b) (block0 m c q t ht r k) ((block2 m c t k _).trans (packedN_key _ k l))

/-- The values, with the row of ones and the rows of zeros. -/
theorem array11 (T : Fin 260) (d : Fin 80) (l : Fin 128) :
    ((dats m 0 c).arrAt 11 cfg0.N : Vec Ideal S260x80x128 .bf16) (ix3 T d l) = valueAt (aH m c) (aW m c) (aG m c) (aUv m c) (token T l.val l.isLt) d := by
  obtain ⟨q, s, rfl⟩ := exists_tileOf T
  have ht : ((⟨q.val, q.isLt⟩ : Fin cfg0.N)).val = q.val := rfl
  generalize (⟨q.val, q.isLt⟩ : Fin cfg0.N) = t at ht
  have h := congrFun ((Value.blocks11 m c t (flushes t).2.2.2.2.2).trans (Value.flushed11 m c t)) (ix3 s d l)
  rw [View.read_apply] at h
  generalize (dats m 0 c).arrAt 11 cfg0.N = A at h ⊢
  refine Eq.trans (congrArg A ?_) (h.trans ?_)
  · obtain ⟨-, -, -, -, -, ⟨p0, p1, p2⟩⟩ := outPlaces t
    funext a
    apply Fin.ext
    match a with
    | ⟨0, _⟩ => show 5 * q.val + s.val = win0_11.index t 0 * 5 + 1 * s.val; rw [p0]; omega
    | ⟨1, _⟩ => show d.val = win0_11.index t 1 * 80 + 1 * d.val; rw [p1]; omega
    | ⟨2, _⟩ => show l.val = win0_11.index t 2 * 128 + 1 * l.val; rw [p2]; omega
  · refine (out11_apply _ _ _ _ _ _ s d l).trans ?_
    rw [← row_tile]
    unfold valueAt
    by_cases hd : d.val < 64
    · rw [dif_pos hd, if_neg (by omega)]
      refine Finset.sum_congr rfl fun j _ => (mul_comm _ _).trans ?_
      exact congrArg₂ (fun a b : EReal => a * b) (norm_eq m c q t ht _ j) ((block5 m c t d j).trans (packedV_inside _ d hd j))
    · rw [dif_neg hd]
      by_cases h1 : d.val = 64
      · rw [if_pos h1, if_pos h1]
      · rw [if_neg h1, if_neg h1]
        refine Finset.sum_eq_zero fun j _ => ?_
        exact (congrArg (fun a : EReal => a * normBlock (iblk m c 0 t) (iblk m c 2 t) (iblk m c 3 t) (tileTok s l) j)
          ((block5 m c t d j).trans (packedV_outside _ d hd j))).trans (zero_mul _)

end Cert.Kernel4Ideal.Block

end
-- ==== Proof.RefPrep.lean ====
/-
  The preparation's reference, read at an entry: the input projection's columns 1808 to 2488 split into queries, latent,
  indexer queries, indexer keys and weights; the latent normalised; keys and values made from it; and the arrays with one
  row per feature laid out in tiles of 128 tokens.
-/
module

public import proofs.«01_k».proof.Proof.PrepCall
public import proofs.«01_k».proof.Proof.Gen.Reference4Ideal.Read

@[expose] public section

noncomputable section

open Idealize.ShloMosaic Idealize.ShloMosaic.TcCoe Idealize.SL.Sem

namespace Cert.RefPrep

open Cert.Reference4Ideal Cert.Reference4Ideal.Read Cert.PrepSpec
open Cert.Kernel4Ideal.Block (dotAt latentAt keyAt valueAt)

/-- The word of zero. -/
theorem zero_word : (FloatOps.ofBits (F := Ideal) .f32 0x00000000#32) = (0 : EReal) := by
  show Ideal.ofBits FTy.f32 0x00000000#32 = 0
  exact Ideal.ofBits_zero_f32

variable (x0 : FVec Ideal S33280x1024 .f32) (x1 : FVec Ideal S1024x7616 .f32) (x2 : FVec Ideal S128 .f32)
  (x3 x4 : FVec Ideal S128x64 .f32) (n : Fin 33280)

/-- The input projection. -/
theorem v0_at (k : Fin 7616) : val_main_v0 (F := Ideal) x0 x1 (ix2 n k) = dotAt x0 x1 n k := by
  rw [val_main_v0_apply]
  refine Finset.sum_congr rfl fun t _ => ?_
  rw [show lidx_main_v0 (ix2 n k) t = ix2 n t from eq_ix2 _, show ridx_main_v0 (ix2 n k) t = ix2 t k from eq_ix2 _]

/-- An entry of the projection whose index is known by its coordinates. -/
theorem v0_of (i : S33280x7616.Idx) (k : Fin 7616) (h0 : (i 0).val = n.val) (h1 : (i 1).val = k.val) :
    val_main_v0 (F := Ideal) x0 x1 i = dotAt x0 x1 n k := by
  rw [← v0_at]
  exact congrArg _ (funext fun a => Fin.ext (match a with | ⟨0, _⟩ => h0 | ⟨1, _⟩ => h1))

/-! ### The latent, the keys and the values -/

/-- The latent before its norm. -/
theorem v7_at (j : Fin 128) : val_main_v7 (F := Ideal) x0 x1 (ix2 n j) = dotAt x0 x1 n (latentCol j) := by
  rw [val_main_v7_apply, val_main_v3_apply]
  exact v0_of x0 x1 n _ _ rfl (by show 1808 + (256 + j.val) = 2064 + j.val; omega)

/-- The sum of its squares. -/
theorem v12_at : val_main_v12 (F := Ideal) x0 x1 (ix1 n) =
    ∑ j : Fin 128, dotAt x0 x1 n (latentCol j) * dotAt x0 x1 n (latentCol j) := by
  rw [val_main_v12_apply, val_main_cst_apply, zero_word]
  refine (zero_add _).trans (Finset.sum_congr rfl fun j _ => ?_)
  rw [show idx_main_v12 (ix1 n) j = ix2 n j from eq_ix2 _, val_main_v11_apply, v7_at]
  rfl

/-- The latent. -/
theorem v23_at (j : Fin 128) : val_main_v23 (F := Ideal) x0 x1 x2 (ix2 n j) = latentAt x0 x1 x2 n j := by
  rw [val_main_v23_apply, val_main_v20_apply, v7_at, val_main_v19_apply, val_main_v18_apply, val_main_v17_apply,
    val_main_v15_apply, val_main_v13_apply, val_main_v14_apply, val_main_v16_apply, val_main_cst_0_apply,
    val_main_cst_1_apply, val_main_v22_apply, val_main_v21_apply,
    show idx_main_v13 (idx_main_v19 (ix2 n j)) = ix1 n from eq_ix1 _, v12_at,
    show idx_main_v21 (idx_main_v22 (ix2 n j)) = ix1 j from eq_ix1 _]
  rfl

/-- The keys. -/
theorem v51_at (l : Fin 64) : val_main_v51 (F := Ideal) x0 x1 x2 x3 (ix2 n l) = keyAt x0 x1 x2 x3 n l := by
  rw [val_main_v51_apply, val_main_v24_apply]
  refine Finset.sum_congr rfl fun j _ => ?_
  rw [show lidx_main_v24 (ix2 n l) j = ix2 n j from eq_ix2 _, show ridx_main_v24 (ix2 n l) j = ix2 j l from eq_ix2 _, v23_at]

/-- The indexer's keys. -/
theorem v52_at (l : Fin 32) : val_main_v52 (F := Ideal) x0 x1 (ix2 n l) = dotAt x0 x1 n (keyCol l) := by
  rw [val_main_v52_apply, val_main_v9_apply, val_main_v3_apply]
  exact v0_of x0 x1 n _ _ rfl (by show 1808 + (640 + l.val) = 2448 + l.val; omega)

/-- The values, then one, then zeros. -/
theorem v44_at (d : Fin 80) : val_main_v44 (F := Ideal) x0 x1 x2 x4 (ix2 n d) = valueAt x0 x1 x2 x4 n d := by
  unfold val_main_v44 valueAt
  by_cases h : d.val < 64
  · rw [dif_pos h]
    refine Eq.trans (Cert.Columns.piece_apply _ _ n _ 0 (by simp only [List.length]; omega) _ rfl 0 rfl (⟨d.val, h⟩ : Fin 64)
      (by show 0 + d.val = d.val; omega)) ?_
    rw [val_main_v25_apply]
    refine Finset.sum_congr rfl fun j _ => ?_
    rw [show lidx_main_v25 (ix2 n (⟨d.val, h⟩ : Fin 64)) j = ix2 n j from eq_ix2 _,
      show ridx_main_v25 (ix2 n (⟨d.val, h⟩ : Fin 64)) j = ix2 j (⟨d.val, h⟩ : Fin 64) from eq_ix2 _, v23_at]
  rw [dif_neg h]
  by_cases h1 : d.val = 64
  · rw [if_pos h1]
    refine Eq.trans (Cert.Columns.piece_apply _ _ n _ 1 (by simp only [List.length]; omega) _ rfl 64 rfl (0 : Fin 1)
      (by show 64 + 0 = d.val; omega)) ?_
    rw [val_main_v42_apply, val_main_cst_4_apply]
    rfl
  · rw [if_neg h1]
    refine Eq.trans (Cert.Columns.piece_apply _ _ n _ 2 (by simp only [List.length]; omega) _ rfl 65 rfl
      (⟨d.val - 65, by omega⟩ : Fin 15) (by show 65 + (d.val - 65) = d.val; omega)) ?_
    rw [val_main_v43_apply, val_main_cst_5_apply, zero_word]

/-! ### The tiles -/

section
variable (T : Fin 260)

/-- The head that a column of a tile of queries belongs to. -/
def headOf4 (l : Fin 512) : Fin 4 := ⟨l.val / 128, by omega⟩
/-- The head that a column of a tile of indexer queries belongs to. -/
def headOf8 (l : Fin 1024) : Fin 8 := ⟨l.val / 128, by omega⟩
/-- The token of a tile that a column belongs to. -/
def inTile {w : Nat} (l : Fin w) : Fin 128 := ⟨l.val % 128, Nat.mod_lt _ (by decide)⟩
/-- A token of a tile, among all tokens. -/
def allTok (s : Fin 128) : Fin 33280 := token T s.val s.isLt

/-! Each reshape takes an entry to the one of the same flat position: first a tile's columns split into heads and tokens,
then the tokens split into tiles. -/

theorem idx31_at (d : Fin 64) (l : Fin 512) : idx_main_v31 (ix3 T d l) = ix4 T d (headOf4 l) (inTile l) := by
  funext a
  apply Fin.ext
  match a with
  | ⟨0, _⟩ => show ((T.val * 64 + d.val) * 512 + l.val) / 32768 = T.val; omega
  | ⟨1, _⟩ => show ((T.val * 64 + d.val) * 512 + l.val) / 512 % 64 = d.val; omega
  | ⟨2, _⟩ => show ((T.val * 64 + d.val) * 512 + l.val) / 128 % 4 = l.val / 128; omega
  | ⟨3, _⟩ => show ((T.val * 64 + d.val) * 512 + l.val) % 128 = l.val % 128; omega

theorem idx29_at (s : Fin 128) (e : Fin 4) (d : Fin 64) : idx_main_v29 (ix4 T s e d) = ix3 (allTok T s) e d := by
  funext a
  apply Fin.ext
  match a with
  | ⟨0, _⟩ => show (((T.val * 128 + s.val) * 4 + e.val) * 64 + d.val) / 256 = 128 * T.val + s.val; omega
  | ⟨1, _⟩ => show (((T.val * 128 + s.val) * 4 + e.val) * 64 + d.val) / 64 % 4 = e.val; omega
  | ⟨2, _⟩ => show (((T.val * 128 + s.val) * 4 + e.val) * 64 + d.val) % 64 = d.val; omega

theorem idx35_at (d : Fin 32) (l : Fin 1024) : idx_main_v35 (ix3 T d l) = ix4 T d (headOf8 l) (inTile l) := by
  funext a
  apply Fin.ext
  match a with
  | ⟨0, _⟩ => show ((T.val * 32 + d.val) * 1024 + l.val) / 32768 = T.val; omega
  | ⟨1, _⟩ => show ((T.val * 32 + d.val) * 1024 + l.val) / 1024 % 32 = d.val; omega
  | ⟨2, _⟩ => show ((T.val * 32 + d.val) * 1024 + l.val) / 128 % 8 = l.val / 128; omega
  | ⟨3, _⟩ => show ((T.val * 32 + d.val) * 1024 + l.val) % 128 = l.val % 128; omega

theorem idx33_at (s : Fin 128) (e : Fin 8) (d : Fin 32) : idx_main_v33 (ix4 T s e d) = ix3 (allTok T s) e d := by
  funext a
  apply Fin.ext
  match a with
  | ⟨0, _⟩ => show (((T.val * 128 + s.val) * 8 + e.val) * 32 + d.val) / 256 = 128 * T.val + s.val; omega
  | ⟨1, _⟩ => show (((T.val * 128 + s.val) * 8 + e.val) * 32 + d.val) / 32 % 8 = e.val; omega
  | ⟨2, _⟩ => show (((T.val * 128 + s.val) * 8 + e.val) * 32 + d.val) % 32 = d.val; omega

theorem idx41_at (d : Fin 8) (l : Fin 128) : idx_main_v41 (ix3 T d l) = ix4 T d (0 : Fin 1) (inTile l) := by
  funext a
  apply Fin.ext
  match a with
  | ⟨0, _⟩ => show ((T.val * 8 + d.val) * 128 + l.val) / 1024 = T.val; omega
  | ⟨1, _⟩ => show ((T.val * 8 + d.val) * 128 + l.val) / 128 % 8 = d.val; omega
  | ⟨2, _⟩ => rfl
  | ⟨3, _⟩ => show ((T.val * 8 + d.val) * 128 + l.val) % 128 = l.val % 128; omega

theorem idx39_at (s : Fin 128) (e : Fin 1) (d : Fin 8) : idx_main_v39 (ix4 T s e d) = ix3 (allTok T s) e d := by
  funext a
  apply Fin.ext
  match a with
  | ⟨0, _⟩ => show (((T.val * 128 + s.val) * 1 + e.val) * 8 + d.val) / 8 = 128 * T.val + s.val; omega
  | ⟨1, _⟩ => show 0 = e.val; omega
  | ⟨2, _⟩ => show (((T.val * 128 + s.val) * 1 + e.val) * 8 + d.val) % 8 = d.val; omega

theorem idx48_at (d : Fin 80) (l : Fin 128) : idx_main_v48 (ix3 T d l) = ix4 T d (0 : Fin 1) (inTile l) := by
  funext a
  apply Fin.ext
  match a with
  | ⟨0, _⟩ => show ((T.val * 80 + d.val) * 128 + l.val) / 10240 = T.val; omega
  | ⟨1, _⟩ => show ((T.val * 80 + d.val) * 128 + l.val) / 128 % 80 = d.val; omega
  | ⟨2, _⟩ => rfl
  | ⟨3, _⟩ => show ((T.val * 80 + d.val) * 128 + l.val) % 128 = l.val % 128; omega

theorem idx46_at (s : Fin 128) (e : Fin 1) (d : Fin 80) : idx_main_v46 (ix4 T s e d) = ix3 (allTok T s) e d := by
  funext a
  apply Fin.ext
  match a with
  | ⟨0, _⟩ => show (((T.val * 128 + s.val) * 1 + e.val) * 80 + d.val) / 80 = 128 * T.val + s.val; omega
  | ⟨1, _⟩ => show 0 = e.val; omega
  | ⟨2, _⟩ => show (((T.val * 128 + s.val) * 1 + e.val) * 80 + d.val) % 80 = d.val; omega

/-- The queries, scaled. -/
theorem v49_at (d : Fin 64) (l : Fin 512) : val_main_v49 (F := Ideal) x0 x1 (ix3 T d l) =
    dotAt x0 x1 (headTok T l) (queryCol d l) * Ideal.ofBits .f32 0x3E000000#32 := by
  rw [val_main_v49_apply, val_main_v31_apply, idx31_at, val_main_v30_apply,
    show idx_main_v30 (ix4 T d (headOf4 l) (inTile l)) = ix4 T (inTile l) (headOf4 l) d from eq_ix4 _,
    val_main_v29_apply, idx29_at, val_main_v28_apply, val_main_v26_apply, val_main_v27_apply, val_main_cst_2_apply,
    val_main_v6_apply, val_main_v3_apply]
  refine congrArg (fun a : EReal => a * Ideal.ofBits .f32 0x3E000000#32) (v0_of x0 x1 _ _ _ ?_ ?_)
  · show (((128 * T.val + l.val % 128) * 4 + l.val / 128) * 64 + d.val) / 256 = 128 * T.val + l.val % 128
    omega
  · show 1808 + (((128 * T.val + l.val % 128) * 4 + l.val / 128) * 64 + d.val) % 256 = 1808 + (64 * (l.val / 128) + d.val)
    omega

/-- The indexer's queries. -/
theorem v50_at (d : Fin 32) (l : Fin 1024) : val_main_v50 (F := Ideal) x0 x1 (ix3 T d l) =
    dotAt x0 x1 (headTok T l) (indexCol d l) := by
  rw [val_main_v50_apply, val_main_v35_apply, idx35_at, val_main_v34_apply,
    show idx_main_v34 (ix4 T d (headOf8 l) (inTile l)) = ix4 T (inTile l) (headOf8 l) d from eq_ix4 _,
    val_main_v33_apply, idx33_at, val_main_v32_apply, val_main_v8_apply, val_main_v3_apply]
  refine v0_of x0 x1 _ _ _ ?_ ?_
  · show (((128 * T.val + l.val % 128) * 8 + l.val / 128) * 32 + d.val) / 256 = 128 * T.val + l.val % 128
    omega
  · show 1808 + (384 + (((128 * T.val + l.val % 128) * 8 + l.val / 128) * 32 + d.val) % 256) = 2192 + (32 * (l.val / 128) + d.val)
    omega

/-- A token of a tile, named either way. -/
theorem allTok_in (l : Fin 128) : allTok T (inTile l) = token T l.val l.isLt :=
  Fin.ext (by show 128 * T.val + l.val % 128 = 128 * T.val + l.val; omega)

/-- The indexer's weights, scaled. -/
theorem v41_at (d : Fin 8) (l : Fin 128) : val_main_v41 (F := Ideal) x0 x1 (ix3 T d l) =
    dotAt x0 x1 (token T l.val l.isLt) (weightCol d) * Ideal.ofBits .f32 0x3D800000#32 := by
  rw [val_main_v41_apply, idx41_at, val_main_v40_apply,
    show idx_main_v40 (ix4 T d (0 : Fin 1) (inTile l)) = ix4 T (inTile l) (0 : Fin 1) d from eq_ix4 _,
    val_main_v39_apply, idx39_at, val_main_v38_apply,
    show idx_main_v38 (ix3 (allTok T (inTile l)) (0 : Fin 1) d) = ix2 (allTok T (inTile l)) d from eq_ix2 _,
    val_main_v37_apply, val_main_v36_apply, val_main_cst_3_apply, val_main_v10_apply, val_main_v3_apply, allTok_in]
  refine congrArg (fun a : EReal => a * Ideal.ofBits .f32 0x3D800000#32) (v0_of x0 x1 _ _ _ rfl ?_)
  show 1808 + (672 + d.val) = 2480 + d.val
  omega

/-- The values in tiles. -/
theorem v53_at (d : Fin 80) (l : Fin 128) : val_main_v53 (F := Ideal) x0 x1 x2 x4 (ix3 T d l) =
    valueAt x0 x1 x2 x4 (token T l.val l.isLt) d := by
  rw [val_main_v53_apply, val_main_v48_apply, idx48_at, val_main_v47_apply,
    show idx_main_v47 (ix4 T d (0 : Fin 1) (inTile l)) = ix4 T (inTile l) (0 : Fin 1) d from eq_ix4 _,
    val_main_v46_apply, idx46_at, val_main_v45_apply,
    show idx_main_v45 (ix3 (allTok T (inTile l)) (0 : Fin 1) d) = ix2 (allTok T (inTile l)) d from eq_ix2 _,
    allTok_in]
  exact v44_at x0 x1 x2 x4 _ d

end

end Cert.RefPrep

namespace Cert.Equation4

open Cert.Kernel4Ideal Cert.Kernel4Ideal.Gen Cert.Kernel4Ideal.Block

variable (m : (ℓ : Loc nD τ sig) → Buf (Elt Ideal) ℓ) (c : Dev nD)

/-- The six arrays of the preparation are the reference's. -/
theorem first : ((dats m 0 c).arrAt 6 cfg0.N : Vec Ideal S260x64x512 .bf16) =
    Cert.Reference4Ideal.Read.val_main_v49 (F := Ideal) (aH m c) (aW m c) := by
  funext i
  rw [eq_ix3 i]
  exact (array6 m c _ _ _).trans (Cert.RefPrep.v49_at _ _ _ _ _).symm

theorem second : ((dats m 0 c).arrAt 7 cfg0.N : Vec Ideal S260x32x1024 .bf16) =
    Cert.Reference4Ideal.Read.val_main_v50 (F := Ideal) (aH m c) (aW m c) := by
  funext i
  rw [eq_ix3 i]
  exact (array7 m c _ _ _).trans (Cert.RefPrep.v50_at _ _ _ _ _).symm

theorem third : ((dats m 0 c).arrAt 8 cfg0.N : Vec Ideal S260x8x128 .f32) =
    Cert.Reference4Ideal.Read.val_main_v41 (F := Ideal) (aH m c) (aW m c) := by
  funext i
  rw [eq_ix3 i]
  exact (array8 m c _ _ _).trans (Cert.RefPrep.v41_at _ _ _ _ _).symm

theorem fourth : ((dats m 0 c).arrAt 9 cfg0.N : Vec Ideal S33280x64 .bf16) =
    Cert.Reference4Ideal.Read.val_main_v51 (F := Ideal) (aH m c) (aW m c) (aG m c) (aUk m c) := by
  funext i
  rw [eq_ix2 i]
  exact (array9 m c _ _).trans (Cert.RefPrep.v51_at _ _ _ _ _ _).symm

theorem fifth : ((dats m 0 c).arrAt 10 cfg0.N : Vec Ideal S33280x32 .bf16) =
    Cert.Reference4Ideal.Read.val_main_v52 (F := Ideal) (aH m c) (aW m c) := by
  funext i
  rw [eq_ix2 i]
  exact (array10 m c _ _).trans (Cert.RefPrep.v52_at _ _ _ _).symm

theorem sixth : ((dats m 0 c).arrAt 11 cfg0.N : Vec Ideal S260x80x128 .bf16) =
    Cert.Reference4Ideal.Read.val_main_v53 (F := Ideal) (aH m c) (aW m c) (aG m c) (aUv m c) := by
  funext i
  rw [eq_ix3 i]
  exact (array11 m c _ _ _).trans (Cert.RefPrep.v53_at _ _ _ _ _ _ _).symm

end Cert.Equation4

end
-- ==== Proof.lean ====
/-
  The proof of `Cert.Claim`: the frames of the kernel, of its idealization and of the reference; that the idealization
  rewrote nothing; and that over the extended reals the results are the reference's. Four calls: the mixture of experts, the
  merge of the branches (2), the input projection (3) and the preparation of the sparse attention (4).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Equation
public import proofs.«01_k».proof.Proof.RefMerge
public import proofs.«01_k».proof.Proof.RefProject
public import proofs.«01_k».proof.Proof.RefPrep
public import Idealize.ShloMosaic.Adequacy
public import Idealize.ShloMosaic.Init

@[expose] public section

noncomputable section

namespace Cert.Proof

open Idealize.ShloMosaic Idealize.SL.Sem

/-- The reference runs, leaves its arguments as they were, and has no counter that could end at anything but zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the precondition, from memories that agree on the arguments, the idealized kernel and the reference both run and
    end with the same two results: those the kernel's blocks compute. -/
theorem algebraic : Cert.algebraic_KernelIdeal_ReferenceIdeal_pre_router_finite (hKernelIdeal := Cert.KernelIdeal.Gen.facts)
    (hReferenceIdeal := Cert.ReferenceIdeal.Gen.facts) (hPre_router_finite := Cert.Pre_router_finite.broadcasts) := by
  intro m ρ m' ρ' hp hagree
  refine ⟨_, _, Cert.KernelIdeal.Value.run (F := Ideal) m ρ, ?_⟩
  refine (θ_run Cert.ReferenceIdeal.defs _ _).mono (fun r h c => ?_) (Cert.ReferenceIdeal.Value.run (F := Ideal) m' ρ')
  obtain ⟨h82, h83, hargs⟩ := h c
  obtain ⟨e0, e1, e2, e3, e4, e5, e6, e7, e8, e9⟩ := hagree c
  refine ⟨h82.trans ?_, h83.trans ?_, hargs⟩
  · refine (Cert.ReferenceIdeal.Read.val_main_v82_eq _).trans ?_
    rw [Cert.Equation.first m c hp]
    show Cert.ReferenceIdeal.Read.val_main_v82 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]
  · refine (Cert.ReferenceIdeal.Read.val_main_v83_eq _).trans ?_
    rw [Cert.Equation.second m c hp]
    show Cert.ReferenceIdeal.Read.val_main_v83 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]

/-- The merge's reference runs in the same way. -/
theorem frame_reference2 : Cert.quiescent_Reference2Ideal (hReference2Ideal := Cert.Reference2Ideal.Gen.facts) := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The projection's reference runs in the same way. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- The merge and its reference both run and end with the same two results. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, Cert.Kernel2Ideal.Value.run_blocks (F := Ideal) m ρ, ?_⟩
  refine (θ_run Cert.Reference2Ideal.defs _ _).mono (fun r h c => ?_) (Cert.Reference2Ideal.Value.run (F := Ideal) m' ρ')
  obtain ⟨h68, h69, hargs⟩ := h c
  obtain ⟨e0, e1, e2, e3, e4, e5, e6, e7, e8, e9⟩ := hagree c
  refine ⟨h68.trans ?_, h69.trans ?_, hargs⟩
  · refine (Cert.Reference2Ideal.Read.val_main_v68_eq _ _).trans ?_
    rw [Cert.Equation2.first m c]
    show Cert.Reference2Ideal.Read.val_main_v68 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9)) = _
    rw [e0, e1, e2, e3, e4, e5, e6, e7, e8, e9]
  · refine (Cert.Reference2Ideal.Read.val_main_v69_eq _ _).trans ?_
    rw [Cert.Equation2.second m c]
    show Cert.Reference2Ideal.Read.val_main_v69 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9)) = _
    rw [e0, e1, e2, e3, e4, e5, e6, e7, e8, e9]

/-- The projection and its reference both run and end with the same three results. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, _, Cert.Kernel3Ideal.Value.run_blocks (F := Ideal) m ρ, ?_⟩
  refine (θ_run Cert.Reference3Ideal.defs _ _).mono (fun r h c => ?_) (Cert.Reference3Ideal.Value.run (F := Ideal) m' ρ')
  obtain ⟨h1, h19, h20, hargs⟩ := h c
  obtain ⟨e0, e1⟩ := hagree c
  refine ⟨h1.trans ?_, h19.trans ?_, h20.trans ?_, hargs⟩
  · refine (Cert.Reference3Ideal.Read.val_main_v1_eq _ _).trans ?_
    rw [Cert.Equation3.first m c]
    show Cert.Reference3Ideal.Read.val_main_v1 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1)) = _
    rw [e0, e1]
  · refine (Cert.Reference3Ideal.Read.val_main_v19_eq _ _).trans ?_
    rw [Cert.Equation3.second m c]
    show Cert.Reference3Ideal.Read.val_main_v19 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1)) = _
    rw [e0, e1]
  · refine (Cert.Reference3Ideal.Read.val_main_v20_eq _ _).trans ?_
    rw [Cert.Equation3.third m c]
    show Cert.Reference3Ideal.Read.val_main_v20 (F := Ideal)
      (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1)) = _
    rw [e0, e1]

/-- The preparation's reference runs in the same way. -/
theorem frame_reference4 : Cert.quiescent_Reference4Ideal (hReference4Ideal := Cert.Reference4Ideal.Gen.facts) := fun m ρ _ =>
  (θ_run Cert.Reference4Ideal.defs _ _).mono
    (fun r h => ⟨fun c => (h c).2.2.2.2.2.2, Idealize.ShloMosaic.sem_eq_zero_of_no_sems (by decide) r.2⟩)
    (Cert.Reference4Ideal.Value.run (F := Ideal) m ρ)

/-- The preparation and its reference both run and end with the same six results. -/
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨_, _, _, _, _, _, Cert.Kernel4Ideal.Value.run_blocks (F := Ideal) m ρ, ?_⟩
  refine (θ_run Cert.Reference4Ideal.defs _ _).mono (fun r h c => ?_) (Cert.Reference4Ideal.Value.run (F := Ideal) m' ρ')
  obtain ⟨h49, h50, h41, h51, h52, h53, hargs⟩ := h c
  obtain ⟨e0, e1, e2, e3, e4⟩ := hagree c
  refine ⟨h49.trans ?_, h50.trans ?_, h41.trans ?_, h51.trans ?_, h52.trans ?_, h53.trans ?_, hargs⟩
  · refine (Cert.Reference4Ideal.Read.val_main_v49_eq _ _).trans ?_
    rw [Cert.Equation4.first m c]
    show Cert.Reference4Ideal.Read.val_main_v49 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) = _
    rw [e0, e1]
  · refine (Cert.Reference4Ideal.Read.val_main_v50_eq _ _).trans ?_
    rw [Cert.Equation4.second m c]
    show Cert.Reference4Ideal.Read.val_main_v50 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) = _
    rw [e0, e1]
  · refine (Cert.Reference4Ideal.Read.val_main_v41_eq _ _).trans ?_
    rw [Cert.Equation4.third m c]
    show Cert.Reference4Ideal.Read.val_main_v41 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) = _
    rw [e0, e1]
  · refine (Cert.Reference4Ideal.Read.val_main_v51_eq _ _ _ _).trans ?_
    rw [Cert.Equation4.fourth m c]
    show Cert.Reference4Ideal.Read.val_main_v51 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) = _
    rw [e0, e1, e2, e3]
  · refine (Cert.Reference4Ideal.Read.val_main_v52_eq _ _).trans ?_
    rw [Cert.Equation4.fifth m c]
    show Cert.Reference4Ideal.Read.val_main_v52 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) = _
    rw [e0, e1]
  · refine (Cert.Reference4Ideal.Read.val_main_v53_eq _ _ _ _).trans ?_
    rw [Cert.Equation4.sixth m c]
    show Cert.Reference4Ideal.Read.val_main_v53 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg4)) = _
    rw [e0, e1, e2, e4]

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Pre_router_finite.broadcasts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    trivial, algebraic, trivial, algebraic2, trivial, algebraic3, trivial, algebraic4⟩

end Cert.Proof

end
